-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.BufferStatement Cert.KernelIdeal.S4480x2x1536 Cert.KernelIdeal.S4480x1x1536
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S4480x2x512 Cert.KernelIdeal.S4480x1x512
  ∧ IdealRules.bf16_pair.Statement Cert.KernelIdeal.S8960x512 Cert.KernelIdeal.S4480x512
  ∧ IdealRules.truncf_extf.Statement Cert.KernelIdeal.S256x512 .f32 .bf16

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x768x8960 : Shape := ⟨3, ![16, 768, 8960]⟩
abbrev S16x768x70 : Shape := ⟨3, ![16, 768, 70]⟩
abbrev S8960x1536 : Shape := ⟨2, ![8960, 1536]⟩
abbrev S70x12 : Shape := ⟨2, ![70, 12]⟩
abbrev S16x768x1536 : Shape := ⟨3, ![16, 768, 1536]⟩
abbrev S1536 : Shape := ⟨1, ![1536]⟩
abbrev S1536x2048 : Shape := ⟨2, ![1536, 2048]⟩
abbrev S12x16 : Shape := ⟨2, ![12, 16]⟩
abbrev S16x768 : Shape := ⟨2, ![16, 768]⟩
abbrev S128 : Shape := ⟨1, ![128]⟩
abbrev S12x70 : Shape := ⟨2, ![12, 70]⟩
abbrev S12288x8960 : Shape := ⟨2, ![12288, 8960]⟩
abbrev S70x16x768 : Shape := ⟨3, ![70, 16, 768]⟩
abbrev S12288x1536 : Shape := ⟨2, ![12288, 1536]⟩
abbrev S256x8960 : Shape := ⟨2, ![256, 8960]⟩
abbrev S256x1536 : Shape := ⟨2, ![256, 1536]⟩
abbrev S4480x1536 : Shape := ⟨2, ![4480, 1536]⟩
abbrev S2x256x2048 : Shape := ⟨3, ![2, 256, 2048]⟩
abbrev S70x256 : Shape := ⟨2, ![70, 256]⟩
abbrev S2 : Shape := ⟨1, ![2]⟩
abbrev S_ : Shape := ⟨0, ![]⟩
abbrev S70x1x256 : Shape := ⟨3, ![70, 1, 256]⟩
abbrev S1 : Shape := ⟨1, ![1]⟩
abbrev S1x256x1536 : Shape := ⟨3, ![1, 256, 1536]⟩
abbrev S1x1 : Shape := ⟨2, ![1, 1]⟩
abbrev S128x128 : Shape := ⟨2, ![128, 128]⟩
abbrev S1x128x128 : Shape := ⟨3, ![1, 128, 128]⟩
abbrev S64x128 : Shape := ⟨2, ![64, 128]⟩
abbrev S58x256 : Shape := ⟨2, ![58, 256]⟩
abbrev S128x256 : Shape := ⟨2, ![128, 256]⟩
abbrev S256x128 : Shape := ⟨2, ![256, 128]⟩
abbrev S256x1 : Shape := ⟨2, ![256, 1]⟩
abbrev S4480x512 : Shape := ⟨2, ![4480, 512]⟩
abbrev S8960x512 : Shape := ⟨2, ![8960, 512]⟩
abbrev S256x512 : Shape := ⟨2, ![256, 512]⟩

abbrev nBuf : Space → Nat
  | .hbm => 16
  | .vmem => 11
  | .smem => 1
  | _ => 0

abbrev bufTy : (tb : Table) → Fin (tcTables nBuf tb) → BufTy
  | .hbm, ⟨0, _⟩ => ⟨S16x768x8960, .fp8e4m3⟩
  | .hbm, ⟨1, _⟩ => ⟨S16x768x70, .f32⟩
  | .hbm, ⟨2, _⟩ => ⟨S8960x1536, .fp8e4m3⟩
  | .hbm, ⟨3, _⟩ => ⟨S70x12, .f32⟩
  | .hbm, ⟨4, _⟩ => ⟨S16x768x1536, .bf16⟩
  | .hbm, ⟨5, _⟩ => ⟨S1536, .f32⟩
  | .hbm, ⟨6, _⟩ => ⟨S1536x2048, .fp8e4m3⟩
  | .hbm, ⟨7, _⟩ => ⟨S12x16, .f32⟩
  | .hbm, ⟨8, _⟩ => ⟨S16x768, .i32⟩
  | .hbm, ⟨9, _⟩ => ⟨S128, .f32⟩
  | .hbm, ⟨10, _⟩ => ⟨S128, .f32⟩
  | .hbm, ⟨11, _⟩ => ⟨S12x70, .f32⟩
  | .hbm, ⟨12, _⟩ => ⟨S12288x8960, .fp8e4m3⟩
  | .hbm, ⟨13, _⟩ => ⟨S70x16x768, .f32⟩
  | .hbm, ⟨14, _⟩ => ⟨S12288x1536, .bf16⟩
  | .hbm, ⟨15, _⟩ => ⟨S12288x1536, .bf16⟩
  | .local _ .vmem, ⟨0, _⟩ => ⟨S256x8960, .fp8e4m3⟩
  | .local _ .vmem, ⟨1, _⟩ => ⟨S256x8960, .fp8e4m3⟩
  | .local _ .vmem, ⟨2, _⟩ => ⟨S256x1536, .bf16⟩
  | .local _ .vmem, ⟨3, _⟩ => ⟨S256x1536, .bf16⟩
  | .local _ .vmem, ⟨4, _⟩ => ⟨S256x1536, .bf16⟩
  | .local _ .vmem, ⟨5, _⟩ => ⟨S256x1536, .bf16⟩
  | .local _ .vmem, ⟨6, _⟩ => ⟨S4480x1536, .i32⟩
  | .local _ .vmem, ⟨7, _⟩ => ⟨S256x8960, .bf16⟩
  | .local _ .vmem, ⟨8, _⟩ => ⟨S256x1536, .f32⟩
  | .local _ .vmem, ⟨9, _⟩ => ⟨S2x256x2048, .fp8e4m3⟩
  | .local _ .vmem, ⟨10, _⟩ => ⟨S70x256, .f32⟩
  | .local _ .smem, ⟨0, _⟩ => ⟨S12x70, .f32⟩
  | _, _ => ⟨S16x768x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_4 : BitVec 32 := 0#32
  let c3_i32_5 : BitVec 32 := 3#32
  let v9 : BitVec 32 := Scalar.remsi c0_i32_4 c3_i32_5
  let c256_i32 : BitVec 32 := 256#32
  let v10 : BitVec 32 := Scalar.muli v9 c256_i32
  v10
def k0_off1 (c0_i32_3 : BitVec 32) (c0_i32_4 : BitVec 32) : Fin 3 → Nat :=
  let c0_i32_6 : BitVec 32 := 0#32
  let c3_i32 : BitVec 32 := 3#32
  let v8 : BitVec 32 := Scalar.divsi c0_i32_3 c3_i32
  let c3_i32_5 : BitVec 32 := 3#32
  let v9 : BitVec 32 := Scalar.remsi c0_i32_4 c3_i32_5
  let c256_i32 : BitVec 32 := 256#32
  let v10 : BitVec 32 := Scalar.muli v9 c256_i32
  let v11 : BitVec 32 := v10
  ![0, v8.toNat, v11.toNat]
def k0_off1_at (r : Fin 2) : BitVec 32 × BitVec 32 :=
  if r.val < 1 then
    (0#32, 0#32)
  else
    (1#32, 1#32)
@[reducible] def k0_t1_loop : Scf.Loop 32 :=
  let c0_i32_13 : BitVec 32 := 0#32
  let c35_i32 : BitVec 32 := 35#32
  let v19 : BitVec 32 := Scalar.addi c0_i32_13 c35_i32
  let c1_i32 : BitVec 32 := 1#32
  ⟨c0_i32_13, v19, c1_i32⟩
def k0_cond2 (k0_t1 : Fin k0_t1_loop.trips) : BitVec 1 :=
  let c0_i32_13 : BitVec 32 := 0#32
  let c1_i32 : BitVec 32 := 1#32
  let arg14 : BitVec 32 := Scf.iv c0_i32_13 c1_i32 k0_t1
  let c1_i32_242 : BitVec 32 := 1#32
  let v742 : BitVec 32 := Scalar.addi arg14 c1_i32_242
  let c35_i32_243 : BitVec 32 := 35#32
  let v743 : BitVec 1 := Scalar.cmpi .slt v742 c35_i32_243
  let v744 : BitVec 32 := Scalar.extui v743
  let c0_i32_244 : BitVec 32 := 0#32
  let v745 : BitVec 1 := Scalar.cmpi .ne v744 c0_i32_244
  v745

def k0_off2 (k0_t1 : Fin k0_t1_loop.trips) : Fin 1 → Nat :=
  let c1_i32_598 : BitVec 32 := 1#32
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1617 : BitVec 32 := Scalar.subi c1_i32_598 v741
  ![v1617.toNat]
def k0_off3 (k0_t1 : Fin k0_t1_loop.trips) : Fin 3 → Nat :=
  let c1_i32_598 : BitVec 32 := 1#32
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1617 : BitVec 32 := Scalar.subi c1_i32_598 v741
  let c0_i32_600 : BitVec 32 := 0#32
  let c0_i32_601 : BitVec 32 := 0#32
  ![v1617.toNat, 0, 0]
def k0_off4 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c1_i32_597 : BitVec 32 := 1#32
  let v1616 : BitVec 32 := Scalar.addi arg14 c1_i32_597
  let c256_i32_599 : BitVec 32 := 256#32
  let v1618 : BitVec 32 := Scalar.muli v1616 c256_i32_599
  let c0_i32_602 : BitVec 32 := 0#32
  ![v1618.toNat, 0]
def k0_off5 (k0_t1 : Fin k0_t1_loop.trips) : Fin 1 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  ![v741.toNat]
def k0_off6 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let c0_i32_246 : BitVec 32 := 0#32
  let c0_i32_247 : BitVec 32 := 0#32
  ![v741.toNat, 0, 0]
def k0_off7 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c256_i32_245 : BitVec 32 := 256#32
  let v746 : BitVec 32 := Scalar.muli arg14 c256_i32_245
  let c0_i32_248 : BitVec 32 := 0#32
  ![v746.toNat, 0]
def k0_off8 (k0_t1 : Fin k0_t1_loop.trips) (c0_i32_250 : BitVec 32) : Fin 2 → Nat :=
  let c0_251 : Index := 0#32
  let c0_i32_13 : BitVec 32 := 0#32
  let c1_i32 : BitVec 32 := 1#32
  let arg14 : BitVec 32 := Scf.iv c0_i32_13 c1_i32 k0_t1
  let c2_i32_249 : BitVec 32 := 2#32
  let v752 : BitVec 32 := Scalar.muli arg14 c2_i32_249
  let v753 : BitVec 32 := Scalar.addi v752 c0_i32_250
  let v754 : Index := Scalar.indexCast v753
  ![0, v754.toNat]
def k0_off9 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v757 : Index := Scalar.indexCast v741
  let c0_252 : Index := 0#32
  let c0_253 : Index := 0#32
  ![v757.toNat, 0, 0]
def k0_mult2 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_254 : BitVec 32 := 256#32
  let v761 : BitVec 32 := Scalar.muli arg14 c256_i32_254
  let c0_i32_255 : BitVec 32 := 0#32
  let v762 : BitVec 32 := Scalar.addi v761 c0_i32_255
  let c0_i32_257 : BitVec 32 := 0#32
  let v764 : BitVec 1 := Scalar.cmpi .sgt v762 c0_i32_257
  let v765 : BitVec 32 := Scalar.extui v764
  let c0_i32_258 : BitVec 32 := 0#32
  let v766 : BitVec 1 := Scalar.cmpi .slt v762 c0_i32_258
  let v767 : BitVec 32 := Scalar.extui v766
  let v768 : BitVec 32 := Scalar.subi v765 v767
  let c2_i32_256 : BitVec 32 := 2#32
  let c0_i32_259 : BitVec 32 := 0#32
  let v769 : BitVec 1 := Scalar.cmpi .sgt c2_i32_256 c0_i32_259
  let v770 : BitVec 32 := Scalar.extui v769
  let c0_i32_260 : BitVec 32 := 0#32
  let v771 : BitVec 1 := Scalar.cmpi .slt c2_i32_256 c0_i32_260
  let v772 : BitVec 32 := Scalar.extui v771
  let v773 : BitVec 32 := Scalar.subi v770 v772
  let v774 : BitVec 1 := Scalar.cmpi .ne v768 v773
  let v775 : BitVec 32 := Scalar.remsi v762 c2_i32_256
  let c0_i32_261 : BitVec 32 := 0#32
  let v776 : BitVec 1 := Scalar.cmpi .ne v775 c0_i32_261
  let v777 : BitVec 1 := Scalar.andi v774 v776
  let v763 : BitVec 32 := Scalar.divsi v762 c2_i32_256
  let c1_i32_262 : BitVec 32 := 1#32
  let v778 : BitVec 32 := Scalar.subi v763 c1_i32_262
  let v779 : BitVec 32 := Scalar.select v777 v778 v763
  v779
def k0_off10 (k0_t1 : Fin k0_t1_loop.trips) (c0_i32_255 : BitVec 32) : Fin 2 → Nat :=
  let c0_i32_13 : BitVec 32 := 0#32
  let c1_i32 : BitVec 32 := 1#32
  let arg14 : BitVec 32 := Scf.iv c0_i32_13 c1_i32 k0_t1
  let c256_i32_254 : BitVec 32 := 256#32
  let v761 : BitVec 32 := Scalar.muli arg14 c256_i32_254
  let v762 : BitVec 32 := Scalar.addi v761 c0_i32_255
  let c0_i32_257 : BitVec 32 := 0#32
  let v764 : BitVec 1 := Scalar.cmpi .sgt v762 c0_i32_257
  let v765 : BitVec 32 := Scalar.extui v764
  let c0_i32_258 : BitVec 32 := 0#32
  let v766 : BitVec 1 := Scalar.cmpi .slt v762 c0_i32_258
  let v767 : BitVec 32 := Scalar.extui v766
  let v768 : BitVec 32 := Scalar.subi v765 v767
  let c2_i32_256 : BitVec 32 := 2#32
  let c0_i32_259 : BitVec 32 := 0#32
  let v769 : BitVec 1 := Scalar.cmpi .sgt c2_i32_256 c0_i32_259
  let v770 : BitVec 32 := Scalar.extui v769
  let c0_i32_260 : BitVec 32 := 0#32
  let v771 : BitVec 1 := Scalar.cmpi .slt c2_i32_256 c0_i32_260
  let v772 : BitVec 32 := Scalar.extui v771
  let v773 : BitVec 32 := Scalar.subi v770 v772
  let v774 : BitVec 1 := Scalar.cmpi .ne v768 v773
  let v775 : BitVec 32 := Scalar.remsi v762 c2_i32_256
  let c0_i32_261 : BitVec 32 := 0#32
  let v776 : BitVec 1 := Scalar.cmpi .ne v775 c0_i32_261
  let v777 : BitVec 1 := Scalar.andi v774 v776
  let v763 : BitVec 32 := Scalar.divsi v762 c2_i32_256
  let c1_i32_262 : BitVec 32 := 1#32
  let v778 : BitVec 32 := Scalar.subi v763 c1_i32_262
  let v779 : BitVec 32 := Scalar.select v777 v778 v763
  let v780 : BitVec 32 := v779
  let v784 : Index := Scalar.indexCast v780
  let c0_263 : Index := 0#32
  ![v784.toNat, 0]
def k0_off11 (k0_t1 : Fin k0_t1_loop.trips) (c0_i32_265 : BitVec 32) : Fin 2 → Nat :=
  let c1 : Index := 1#32
  let c0_i32_13 : BitVec 32 := 0#32
  let c1_i32 : BitVec 32 := 1#32
  let arg14 : BitVec 32 := Scf.iv c0_i32_13 c1_i32 k0_t1
  let c2_i32_264 : BitVec 32 := 2#32
  let v788 : BitVec 32 := Scalar.muli arg14 c2_i32_264
  let v789 : BitVec 32 := Scalar.addi v788 c0_i32_265
  let v790 : Index := Scalar.indexCast v789
  ![1, v790.toNat]
def k0_off12 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v793 : Index := Scalar.indexCast v741
  let c0_266 : Index := 0#32
  let c128_267 : Index := 128#32
  ![v793.toNat, 0, 128]
def k0_mult3 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_268 : BitVec 32 := 256#32
  let v797 : BitVec 32 := Scalar.muli arg14 c256_i32_268
  let c0_i32_269 : BitVec 32 := 0#32
  let v798 : BitVec 32 := Scalar.addi v797 c0_i32_269
  let c0_i32_271 : BitVec 32 := 0#32
  let v800 : BitVec 1 := Scalar.cmpi .sgt v798 c0_i32_271
  let v801 : BitVec 32 := Scalar.extui v800
  let c0_i32_272 : BitVec 32 := 0#32
  let v802 : BitVec 1 := Scalar.cmpi .slt v798 c0_i32_272
  let v803 : BitVec 32 := Scalar.extui v802
  let v804 : BitVec 32 := Scalar.subi v801 v803
  let c2_i32_270 : BitVec 32 := 2#32
  let c0_i32_273 : BitVec 32 := 0#32
  let v805 : BitVec 1 := Scalar.cmpi .sgt c2_i32_270 c0_i32_273
  let v806 : BitVec 32 := Scalar.extui v805
  let c0_i32_274 : BitVec 32 := 0#32
  let v807 : BitVec 1 := Scalar.cmpi .slt c2_i32_270 c0_i32_274
  let v808 : BitVec 32 := Scalar.extui v807
  let v809 : BitVec 32 := Scalar.subi v806 v808
  let v810 : BitVec 1 := Scalar.cmpi .ne v804 v809
  let v811 : BitVec 32 := Scalar.remsi v798 c2_i32_270
  let c0_i32_275 : BitVec 32 := 0#32
  let v812 : BitVec 1 := Scalar.cmpi .ne v811 c0_i32_275
  let v813 : BitVec 1 := Scalar.andi v810 v812
  let v799 : BitVec 32 := Scalar.divsi v798 c2_i32_270
  let c1_i32_276 : BitVec 32 := 1#32
  let v814 : BitVec 32 := Scalar.subi v799 c1_i32_276
  let v815 : BitVec 32 := Scalar.select v813 v814 v799
  v815
def k0_off13 (k0_t1 : Fin k0_t1_loop.trips) (c0_i32_269 : BitVec 32) : Fin 2 → Nat :=
  let c0_i32_13 : BitVec 32 := 0#32
  let c1_i32 : BitVec 32 := 1#32
  let arg14 : BitVec 32 := Scf.iv c0_i32_13 c1_i32 k0_t1
  let c256_i32_268 : BitVec 32 := 256#32
  let v797 : BitVec 32 := Scalar.muli arg14 c256_i32_268
  let v798 : BitVec 32 := Scalar.addi v797 c0_i32_269
  let c0_i32_271 : BitVec 32 := 0#32
  let v800 : BitVec 1 := Scalar.cmpi .sgt v798 c0_i32_271
  let v801 : BitVec 32 := Scalar.extui v800
  let c0_i32_272 : BitVec 32 := 0#32
  let v802 : BitVec 1 := Scalar.cmpi .slt v798 c0_i32_272
  let v803 : BitVec 32 := Scalar.extui v802
  let v804 : BitVec 32 := Scalar.subi v801 v803
  let c2_i32_270 : BitVec 32 := 2#32
  let c0_i32_273 : BitVec 32 := 0#32
  let v805 : BitVec 1 := Scalar.cmpi .sgt c2_i32_270 c0_i32_273
  let v806 : BitVec 32 := Scalar.extui v805
  let c0_i32_274 : BitVec 32 := 0#32
  let v807 : BitVec 1 := Scalar.cmpi .slt c2_i32_270 c0_i32_274
  let v808 : BitVec 32 := Scalar.extui v807
  let v809 : BitVec 32 := Scalar.subi v806 v808
  let v810 : BitVec 1 := Scalar.cmpi .ne v804 v809
  let v811 : BitVec 32 := Scalar.remsi v798 c2_i32_270
  let c0_i32_275 : BitVec 32 := 0#32
  let v812 : BitVec 1 := Scalar.cmpi .ne v811 c0_i32_275
  let v813 : BitVec 1 := Scalar.andi v810 v812
  let v799 : BitVec 32 := Scalar.divsi v798 c2_i32_270
  let c1_i32_276 : BitVec 32 := 1#32
  let v814 : BitVec 32 := Scalar.subi v799 c1_i32_276
  let v815 : BitVec 32 := Scalar.select v813 v814 v799
  let v816 : BitVec 32 := v815
  let v820 : Index := Scalar.indexCast v816
  let c128_277 : Index := 128#32
  ![v820.toNat, 128]
def k0_off14 (k0_t1 : Fin k0_t1_loop.trips) (c0_i32_279 : BitVec 32) : Fin 2 → Nat :=
  let c2 : Index := 2#32
  let c0_i32_13 : BitVec 32 := 0#32
  let c1_i32 : BitVec 32 := 1#32
  let arg14 : BitVec 32 := Scf.iv c0_i32_13 c1_i32 k0_t1
  let c2_i32_278 : BitVec 32 := 2#32
  let v824 : BitVec 32 := Scalar.muli arg14 c2_i32_278
  let v825 : BitVec 32 := Scalar.addi v824 c0_i32_279
  let v826 : Index := Scalar.indexCast v825
  ![2, v826.toNat]
def k0_off15 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v829 : Index := Scalar.indexCast v741
  let c0_280 : Index := 0#32
  let c256_281 : Index := 256#32
  ![v829.toNat, 0, 256]
def k0_mult4 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_282 : BitVec 32 := 256#32
  let v833 : BitVec 32 := Scalar.muli arg14 c256_i32_282
  let c0_i32_283 : BitVec 32 := 0#32
  let v834 : BitVec 32 := Scalar.addi v833 c0_i32_283
  let c0_i32_285 : BitVec 32 := 0#32
  let v836 : BitVec 1 := Scalar.cmpi .sgt v834 c0_i32_285
  let v837 : BitVec 32 := Scalar.extui v836
  let c0_i32_286 : BitVec 32 := 0#32
  let v838 : BitVec 1 := Scalar.cmpi .slt v834 c0_i32_286
  let v839 : BitVec 32 := Scalar.extui v838
  let v840 : BitVec 32 := Scalar.subi v837 v839
  let c2_i32_284 : BitVec 32 := 2#32
  let c0_i32_287 : BitVec 32 := 0#32
  let v841 : BitVec 1 := Scalar.cmpi .sgt c2_i32_284 c0_i32_287
  let v842 : BitVec 32 := Scalar.extui v841
  let c0_i32_288 : BitVec 32 := 0#32
  let v843 : BitVec 1 := Scalar.cmpi .slt c2_i32_284 c0_i32_288
  let v844 : BitVec 32 := Scalar.extui v843
  let v845 : BitVec 32 := Scalar.subi v842 v844
  let v846 : BitVec 1 := Scalar.cmpi .ne v840 v845
  let v847 : BitVec 32 := Scalar.remsi v834 c2_i32_284
  let c0_i32_289 : BitVec 32 := 0#32
  let v848 : BitVec 1 := Scalar.cmpi .ne v847 c0_i32_289
  let v849 : BitVec 1 := Scalar.andi v846 v848
  let v835 : BitVec 32 := Scalar.divsi v834 c2_i32_284
  let c1_i32_290 : BitVec 32 := 1#32
  let v850 : BitVec 32 := Scalar.subi v835 c1_i32_290
  let v851 : BitVec 32 := Scalar.select v849 v850 v835
  v851
def k0_off16 (k0_t1 : Fin k0_t1_loop.trips) (c0_i32_283 : BitVec 32) : Fin 2 → Nat :=
  let c0_i32_13 : BitVec 32 := 0#32
  let c1_i32 : BitVec 32 := 1#32
  let arg14 : BitVec 32 := Scf.iv c0_i32_13 c1_i32 k0_t1
  let c256_i32_282 : BitVec 32 := 256#32
  let v833 : BitVec 32 := Scalar.muli arg14 c256_i32_282
  let v834 : BitVec 32 := Scalar.addi v833 c0_i32_283
  let c0_i32_285 : BitVec 32 := 0#32
  let v836 : BitVec 1 := Scalar.cmpi .sgt v834 c0_i32_285
  let v837 : BitVec 32 := Scalar.extui v836
  let c0_i32_286 : BitVec 32 := 0#32
  let v838 : BitVec 1 := Scalar.cmpi .slt v834 c0_i32_286
  let v839 : BitVec 32 := Scalar.extui v838
  let v840 : BitVec 32 := Scalar.subi v837 v839
  let c2_i32_284 : BitVec 32 := 2#32
  let c0_i32_287 : BitVec 32 := 0#32
  let v841 : BitVec 1 := Scalar.cmpi .sgt c2_i32_284 c0_i32_287
  let v842 : BitVec 32 := Scalar.extui v841
  let c0_i32_288 : BitVec 32 := 0#32
  let v843 : BitVec 1 := Scalar.cmpi .slt c2_i32_284 c0_i32_288
  let v844 : BitVec 32 := Scalar.extui v843
  let v845 : BitVec 32 := Scalar.subi v842 v844
  let v846 : BitVec 1 := Scalar.cmpi .ne v840 v845
  let v847 : BitVec 32 := Scalar.remsi v834 c2_i32_284
  let c0_i32_289 : BitVec 32 := 0#32
  let v848 : BitVec 1 := Scalar.cmpi .ne v847 c0_i32_289
  let v849 : BitVec 1 := Scalar.andi v846 v848
  let v835 : BitVec 32 := Scalar.divsi v834 c2_i32_284
  let c1_i32_290 : BitVec 32 := 1#32
  let v850 : BitVec 32 := Scalar.subi v835 c1_i32_290
  let v851 : BitVec 32 := Scalar.select v849 v850 v835
  let v852 : BitVec 32 := v851
  let v856 : Index := Scalar.indexCast v852
  let c256_291 : Index := 256#32
  ![v856.toNat, 256]
def k0_off17 (k0_t1 : Fin k0_t1_loop.trips) (c0_i32_293 : BitVec 32) : Fin 2 → Nat :=
  let c3 : Index := 3#32
  let c0_i32_13 : BitVec 32 := 0#32
  let c1_i32 : BitVec 32 := 1#32
  let arg14 : BitVec 32 := Scf.iv c0_i32_13 c1_i32 k0_t1
  let c2_i32_292 : BitVec 32 := 2#32
  let v860 : BitVec 32 := Scalar.muli arg14 c2_i32_292
  let v861 : BitVec 32 := Scalar.addi v860 c0_i32_293
  let v862 : Index := Scalar.indexCast v861
  ![3, v862.toNat]
def k0_off18 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v865 : Index := Scalar.indexCast v741
  let c0_294 : Index := 0#32
  let c384_295 : Index := 384#32
  ![v865.toNat, 0, 384]
def k0_mult5 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_296 : BitVec 32 := 256#32
  let v869 : BitVec 32 := Scalar.muli arg14 c256_i32_296
  let c0_i32_297 : BitVec 32 := 0#32
  let v870 : BitVec 32 := Scalar.addi v869 c0_i32_297
  let c0_i32_299 : BitVec 32 := 0#32
  let v872 : BitVec 1 := Scalar.cmpi .sgt v870 c0_i32_299
  let v873 : BitVec 32 := Scalar.extui v872
  let c0_i32_300 : BitVec 32 := 0#32
  let v874 : BitVec 1 := Scalar.cmpi .slt v870 c0_i32_300
  let v875 : BitVec 32 := Scalar.extui v874
  let v876 : BitVec 32 := Scalar.subi v873 v875
  let c2_i32_298 : BitVec 32 := 2#32
  let c0_i32_301 : BitVec 32 := 0#32
  let v877 : BitVec 1 := Scalar.cmpi .sgt c2_i32_298 c0_i32_301
  let v878 : BitVec 32 := Scalar.extui v877
  let c0_i32_302 : BitVec 32 := 0#32
  let v879 : BitVec 1 := Scalar.cmpi .slt c2_i32_298 c0_i32_302
  let v880 : BitVec 32 := Scalar.extui v879
  let v881 : BitVec 32 := Scalar.subi v878 v880
  let v882 : BitVec 1 := Scalar.cmpi .ne v876 v881
  let v883 : BitVec 32 := Scalar.remsi v870 c2_i32_298
  let c0_i32_303 : BitVec 32 := 0#32
  let v884 : BitVec 1 := Scalar.cmpi .ne v883 c0_i32_303
  let v885 : BitVec 1 := Scalar.andi v882 v884
  let v871 : BitVec 32 := Scalar.divsi v870 c2_i32_298
  let c1_i32_304 : BitVec 32 := 1#32
  let v886 : BitVec 32 := Scalar.subi v871 c1_i32_304
  let v887 : BitVec 32 := Scalar.select v885 v886 v871
  v887
def k0_off19 (k0_t1 : Fin k0_t1_loop.trips) (c0_i32_297 : BitVec 32) : Fin 2 → Nat :=
  let c0_i32_13 : BitVec 32 := 0#32
  let c1_i32 : BitVec 32 := 1#32
  let arg14 : BitVec 32 := Scf.iv c0_i32_13 c1_i32 k0_t1
  let c256_i32_296 : BitVec 32 := 256#32
  let v869 : BitVec 32 := Scalar.muli arg14 c256_i32_296
  let v870 : BitVec 32 := Scalar.addi v869 c0_i32_297
  let c0_i32_299 : BitVec 32 := 0#32
  let v872 : BitVec 1 := Scalar.cmpi .sgt v870 c0_i32_299
  let v873 : BitVec 32 := Scalar.extui v872
  let c0_i32_300 : BitVec 32 := 0#32
  let v874 : BitVec 1 := Scalar.cmpi .slt v870 c0_i32_300
  let v875 : BitVec 32 := Scalar.extui v874
  let v876 : BitVec 32 := Scalar.subi v873 v875
  let c2_i32_298 : BitVec 32 := 2#32
  let c0_i32_301 : BitVec 32 := 0#32
  let v877 : BitVec 1 := Scalar.cmpi .sgt c2_i32_298 c0_i32_301
  let v878 : BitVec 32 := Scalar.extui v877
  let c0_i32_302 : BitVec 32 := 0#32
  let v879 : BitVec 1 := Scalar.cmpi .slt c2_i32_298 c0_i32_302
  let v880 : BitVec 32 := Scalar.extui v879
  let v881 : BitVec 32 := Scalar.subi v878 v880
  let v882 : BitVec 1 := Scalar.cmpi .ne v876 v881
  let v883 : BitVec 32 := Scalar.remsi v870 c2_i32_298
  let c0_i32_303 : BitVec 32 := 0#32
  let v884 : BitVec 1 := Scalar.cmpi .ne v883 c0_i32_303
  let v885 : BitVec 1 := Scalar.andi v882 v884
  let v871 : BitVec 32 := Scalar.divsi v870 c2_i32_298
  let c1_i32_304 : BitVec 32 := 1#32
  let v886 : BitVec 32 := Scalar.subi v871 c1_i32_304
  let v887 : BitVec 32 := Scalar.select v885 v886 v871
  let v888 : BitVec 32 := v887
  let v892 : Index := Scalar.indexCast v888
  let c384_305 : Index := 384#32
  ![v892.toNat, 384]
def k0_off20 (k0_t1 : Fin k0_t1_loop.trips) (c0_i32_307 : BitVec 32) : Fin 2 → Nat :=
  let c4 : Index := 4#32
  let c0_i32_13 : BitVec 32 := 0#32
  let c1_i32 : BitVec 32 := 1#32
  let arg14 : BitVec 32 := Scf.iv c0_i32_13 c1_i32 k0_t1
  let c2_i32_306 : BitVec 32 := 2#32
  let v896 : BitVec 32 := Scalar.muli arg14 c2_i32_306
  let v897 : BitVec 32 := Scalar.addi v896 c0_i32_307
  let v898 : Index := Scalar.indexCast v897
  ![4, v898.toNat]
def k0_off21 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v901 : Index := Scalar.indexCast v741
  let c0_308 : Index := 0#32
  let c512_309 : Index := 512#32
  ![v901.toNat, 0, 512]
def k0_mult6 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_310 : BitVec 32 := 256#32
  let v905 : BitVec 32 := Scalar.muli arg14 c256_i32_310
  let c0_i32_311 : BitVec 32 := 0#32
  let v906 : BitVec 32 := Scalar.addi v905 c0_i32_311
  let c0_i32_313 : BitVec 32 := 0#32
  let v908 : BitVec 1 := Scalar.cmpi .sgt v906 c0_i32_313
  let v909 : BitVec 32 := Scalar.extui v908
  let c0_i32_314 : BitVec 32 := 0#32
  let v910 : BitVec 1 := Scalar.cmpi .slt v906 c0_i32_314
  let v911 : BitVec 32 := Scalar.extui v910
  let v912 : BitVec 32 := Scalar.subi v909 v911
  let c2_i32_312 : BitVec 32 := 2#32
  let c0_i32_315 : BitVec 32 := 0#32
  let v913 : BitVec 1 := Scalar.cmpi .sgt c2_i32_312 c0_i32_315
  let v914 : BitVec 32 := Scalar.extui v913
  let c0_i32_316 : BitVec 32 := 0#32
  let v915 : BitVec 1 := Scalar.cmpi .slt c2_i32_312 c0_i32_316
  let v916 : BitVec 32 := Scalar.extui v915
  let v917 : BitVec 32 := Scalar.subi v914 v916
  let v918 : BitVec 1 := Scalar.cmpi .ne v912 v917
  let v919 : BitVec 32 := Scalar.remsi v906 c2_i32_312
  let c0_i32_317 : BitVec 32 := 0#32
  let v920 : BitVec 1 := Scalar.cmpi .ne v919 c0_i32_317
  let v921 : BitVec 1 := Scalar.andi v918 v920
  let v907 : BitVec 32 := Scalar.divsi v906 c2_i32_312
  let c1_i32_318 : BitVec 32 := 1#32
  let v922 : BitVec 32 := Scalar.subi v907 c1_i32_318
  let v923 : BitVec 32 := Scalar.select v921 v922 v907
  v923
def k0_off22 (k0_t1 : Fin k0_t1_loop.trips) (c0_i32_311 : BitVec 32) : Fin 2 → Nat :=
  let c0_i32_13 : BitVec 32 := 0#32
  let c1_i32 : BitVec 32 := 1#32
  let arg14 : BitVec 32 := Scf.iv c0_i32_13 c1_i32 k0_t1
  let c256_i32_310 : BitVec 32 := 256#32
  let v905 : BitVec 32 := Scalar.muli arg14 c256_i32_310
  let v906 : BitVec 32 := Scalar.addi v905 c0_i32_311
  let c0_i32_313 : BitVec 32 := 0#32
  let v908 : BitVec 1 := Scalar.cmpi .sgt v906 c0_i32_313
  let v909 : BitVec 32 := Scalar.extui v908
  let c0_i32_314 : BitVec 32 := 0#32
  let v910 : BitVec 1 := Scalar.cmpi .slt v906 c0_i32_314
  let v911 : BitVec 32 := Scalar.extui v910
  let v912 : BitVec 32 := Scalar.subi v909 v911
  let c2_i32_312 : BitVec 32 := 2#32
  let c0_i32_315 : BitVec 32 := 0#32
  let v913 : BitVec 1 := Scalar.cmpi .sgt c2_i32_312 c0_i32_315
  let v914 : BitVec 32 := Scalar.extui v913
  let c0_i32_316 : BitVec 32 := 0#32
  let v915 : BitVec 1 := Scalar.cmpi .slt c2_i32_312 c0_i32_316
  let v916 : BitVec 32 := Scalar.extui v915
  let v917 : BitVec 32 := Scalar.subi v914 v916
  let v918 : BitVec 1 := Scalar.cmpi .ne v912 v917
  let v919 : BitVec 32 := Scalar.remsi v906 c2_i32_312
  let c0_i32_317 : BitVec 32 := 0#32
  let v920 : BitVec 1 := Scalar.cmpi .ne v919 c0_i32_317
  let v921 : BitVec 1 := Scalar.andi v918 v920
  let v907 : BitVec 32 := Scalar.divsi v906 c2_i32_312
  let c1_i32_318 : BitVec 32 := 1#32
  let v922 : BitVec 32 := Scalar.subi v907 c1_i32_318
  let v923 : BitVec 32 := Scalar.select v921 v922 v907
  let v924 : BitVec 32 := v923
  let v928 : Index := Scalar.indexCast v924
  let c512_319 : Index := 512#32
  ![v928.toNat, 512]
def k0_off23 (k0_t1 : Fin k0_t1_loop.trips) (c0_i32_321 : BitVec 32) : Fin 2 → Nat :=
  let c5 : Index := 5#32
  let c0_i32_13 : BitVec 32 := 0#32
  let c1_i32 : BitVec 32 := 1#32
  let arg14 : BitVec 32 := Scf.iv c0_i32_13 c1_i32 k0_t1
  let c2_i32_320 : BitVec 32 := 2#32
  let v932 : BitVec 32 := Scalar.muli arg14 c2_i32_320
  let v933 : BitVec 32 := Scalar.addi v932 c0_i32_321
  let v934 : Index := Scalar.indexCast v933
  ![5, v934.toNat]
def k0_off24 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v937 : Index := Scalar.indexCast v741
  let c0_322 : Index := 0#32
  let c640_323 : Index := 640#32
  ![v937.toNat, 0, 640]
def k0_mult7 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_324 : BitVec 32 := 256#32
  let v941 : BitVec 32 := Scalar.muli arg14 c256_i32_324
  let c0_i32_325 : BitVec 32 := 0#32
  let v942 : BitVec 32 := Scalar.addi v941 c0_i32_325
  let c0_i32_327 : BitVec 32 := 0#32
  let v944 : BitVec 1 := Scalar.cmpi .sgt v942 c0_i32_327
  let v945 : BitVec 32 := Scalar.extui v944
  let c0_i32_328 : BitVec 32 := 0#32
  let v946 : BitVec 1 := Scalar.cmpi .slt v942 c0_i32_328
  let v947 : BitVec 32 := Scalar.extui v946
  let v948 : BitVec 32 := Scalar.subi v945 v947
  let c2_i32_326 : BitVec 32 := 2#32
  let c0_i32_329 : BitVec 32 := 0#32
  let v949 : BitVec 1 := Scalar.cmpi .sgt c2_i32_326 c0_i32_329
  let v950 : BitVec 32 := Scalar.extui v949
  let c0_i32_330 : BitVec 32 := 0#32
  let v951 : BitVec 1 := Scalar.cmpi .slt c2_i32_326 c0_i32_330
  let v952 : BitVec 32 := Scalar.extui v951
  let v953 : BitVec 32 := Scalar.subi v950 v952
  let v954 : BitVec 1 := Scalar.cmpi .ne v948 v953
  let v955 : BitVec 32 := Scalar.remsi v942 c2_i32_326
  let c0_i32_331 : BitVec 32 := 0#32
  let v956 : BitVec 1 := Scalar.cmpi .ne v955 c0_i32_331
  let v957 : BitVec 1 := Scalar.andi v954 v956
  let v943 : BitVec 32 := Scalar.divsi v942 c2_i32_326
  let c1_i32_332 : BitVec 32 := 1#32
  let v958 : BitVec 32 := Scalar.subi v943 c1_i32_332
  let v959 : BitVec 32 := Scalar.select v957 v958 v943
  v959
def k0_off25 (k0_t1 : Fin k0_t1_loop.trips) (c0_i32_325 : BitVec 32) : Fin 2 → Nat :=
  let c0_i32_13 : BitVec 32 := 0#32
  let c1_i32 : BitVec 32 := 1#32
  let arg14 : BitVec 32 := Scf.iv c0_i32_13 c1_i32 k0_t1
  let c256_i32_324 : BitVec 32 := 256#32
  let v941 : BitVec 32 := Scalar.muli arg14 c256_i32_324
  let v942 : BitVec 32 := Scalar.addi v941 c0_i32_325
  let c0_i32_327 : BitVec 32 := 0#32
  let v944 : BitVec 1 := Scalar.cmpi .sgt v942 c0_i32_327
  let v945 : BitVec 32 := Scalar.extui v944
  let c0_i32_328 : BitVec 32 := 0#32
  let v946 : BitVec 1 := Scalar.cmpi .slt v942 c0_i32_328
  let v947 : BitVec 32 := Scalar.extui v946
  let v948 : BitVec 32 := Scalar.subi v945 v947
  let c2_i32_326 : BitVec 32 := 2#32
  let c0_i32_329 : BitVec 32 := 0#32
  let v949 : BitVec 1 := Scalar.cmpi .sgt c2_i32_326 c0_i32_329
  let v950 : BitVec 32 := Scalar.extui v949
  let c0_i32_330 : BitVec 32 := 0#32
  let v951 : BitVec 1 := Scalar.cmpi .slt c2_i32_326 c0_i32_330
  let v952 : BitVec 32 := Scalar.extui v951
  let v953 : BitVec 32 := Scalar.subi v950 v952
  let v954 : BitVec 1 := Scalar.cmpi .ne v948 v953
  let v955 : BitVec 32 := Scalar.remsi v942 c2_i32_326
  let c0_i32_331 : BitVec 32 := 0#32
  let v956 : BitVec 1 := Scalar.cmpi .ne v955 c0_i32_331
  let v957 : BitVec 1 := Scalar.andi v954 v956
  let v943 : BitVec 32 := Scalar.divsi v942 c2_i32_326
  let c1_i32_332 : BitVec 32 := 1#32
  let v958 : BitVec 32 := Scalar.subi v943 c1_i32_332
  let v959 : BitVec 32 := Scalar.select v957 v958 v943
  let v960 : BitVec 32 := v959
  let v964 : Index := Scalar.indexCast v960
  let c640_333 : Index := 640#32
  ![v964.toNat, 640]
def k0_off26 (k0_t1 : Fin k0_t1_loop.trips) (c0_i32_335 : BitVec 32) : Fin 2 → Nat :=
  let c6 : Index := 6#32
  let c0_i32_13 : BitVec 32 := 0#32
  let c1_i32 : BitVec 32 := 1#32
  let arg14 : BitVec 32 := Scf.iv c0_i32_13 c1_i32 k0_t1
  let c2_i32_334 : BitVec 32 := 2#32
  let v968 : BitVec 32 := Scalar.muli arg14 c2_i32_334
  let v969 : BitVec 32 := Scalar.addi v968 c0_i32_335
  let v970 : Index := Scalar.indexCast v969
  ![6, v970.toNat]
def k0_off27 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v973 : Index := Scalar.indexCast v741
  let c0_336 : Index := 0#32
  let c768_337 : Index := 768#32
  ![v973.toNat, 0, 768]
def k0_mult8 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_338 : BitVec 32 := 256#32
  let v977 : BitVec 32 := Scalar.muli arg14 c256_i32_338
  let c0_i32_339 : BitVec 32 := 0#32
  let v978 : BitVec 32 := Scalar.addi v977 c0_i32_339
  let c0_i32_341 : BitVec 32 := 0#32
  let v980 : BitVec 1 := Scalar.cmpi .sgt v978 c0_i32_341
  let v981 : BitVec 32 := Scalar.extui v980
  let c0_i32_342 : BitVec 32 := 0#32
  let v982 : BitVec 1 := Scalar.cmpi .slt v978 c0_i32_342
  let v983 : BitVec 32 := Scalar.extui v982
  let v984 : BitVec 32 := Scalar.subi v981 v983
  let c2_i32_340 : BitVec 32 := 2#32
  let c0_i32_343 : BitVec 32 := 0#32
  let v985 : BitVec 1 := Scalar.cmpi .sgt c2_i32_340 c0_i32_343
  let v986 : BitVec 32 := Scalar.extui v985
  let c0_i32_344 : BitVec 32 := 0#32
  let v987 : BitVec 1 := Scalar.cmpi .slt c2_i32_340 c0_i32_344
  let v988 : BitVec 32 := Scalar.extui v987
  let v989 : BitVec 32 := Scalar.subi v986 v988
  let v990 : BitVec 1 := Scalar.cmpi .ne v984 v989
  let v991 : BitVec 32 := Scalar.remsi v978 c2_i32_340
  let c0_i32_345 : BitVec 32 := 0#32
  let v992 : BitVec 1 := Scalar.cmpi .ne v991 c0_i32_345
  let v993 : BitVec 1 := Scalar.andi v990 v992
  let v979 : BitVec 32 := Scalar.divsi v978 c2_i32_340
  let c1_i32_346 : BitVec 32 := 1#32
  let v994 : BitVec 32 := Scalar.subi v979 c1_i32_346
  let v995 : BitVec 32 := Scalar.select v993 v994 v979
  v995
def k0_off28 (k0_t1 : Fin k0_t1_loop.trips) (c0_i32_339 : BitVec 32) : Fin 2 → Nat :=
  let c0_i32_13 : BitVec 32 := 0#32
  let c1_i32 : BitVec 32 := 1#32
  let arg14 : BitVec 32 := Scf.iv c0_i32_13 c1_i32 k0_t1
  let c256_i32_338 : BitVec 32 := 256#32
  let v977 : BitVec 32 := Scalar.muli arg14 c256_i32_338
  let v978 : BitVec 32 := Scalar.addi v977 c0_i32_339
  let c0_i32_341 : BitVec 32 := 0#32
  let v980 : BitVec 1 := Scalar.cmpi .sgt v978 c0_i32_341
  let v981 : BitVec 32 := Scalar.extui v980
  let c0_i32_342 : BitVec 32 := 0#32
  let v982 : BitVec 1 := Scalar.cmpi .slt v978 c0_i32_342
  let v983 : BitVec 32 := Scalar.extui v982
  let v984 : BitVec 32 := Scalar.subi v981 v983
  let c2_i32_340 : BitVec 32 := 2#32
  let c0_i32_343 : BitVec 32 := 0#32
  let v985 : BitVec 1 := Scalar.cmpi .sgt c2_i32_340 c0_i32_343
  let v986 : BitVec 32 := Scalar.extui v985
  let c0_i32_344 : BitVec 32 := 0#32
  let v987 : BitVec 1 := Scalar.cmpi .slt c2_i32_340 c0_i32_344
  let v988 : BitVec 32 := Scalar.extui v987
  let v989 : BitVec 32 := Scalar.subi v986 v988
  let v990 : BitVec 1 := Scalar.cmpi .ne v984 v989
  let v991 : BitVec 32 := Scalar.remsi v978 c2_i32_340
  let c0_i32_345 : BitVec 32 := 0#32
  let v992 : BitVec 1 := Scalar.cmpi .ne v991 c0_i32_345
  let v993 : BitVec 1 := Scalar.andi v990 v992
  let v979 : BitVec 32 := Scalar.divsi v978 c2_i32_340
  let c1_i32_346 : BitVec 32 := 1#32
  let v994 : BitVec 32 := Scalar.subi v979 c1_i32_346
  let v995 : BitVec 32 := Scalar.select v993 v994 v979
  let v996 : BitVec 32 := v995
  let v1000 : Index := Scalar.indexCast v996
  let c768_347 : Index := 768#32
  ![v1000.toNat, 768]
def k0_off29 (k0_t1 : Fin k0_t1_loop.trips) (c0_i32_349 : BitVec 32) : Fin 2 → Nat :=
  let c7 : Index := 7#32
  let c0_i32_13 : BitVec 32 := 0#32
  let c1_i32 : BitVec 32 := 1#32
  let arg14 : BitVec 32 := Scf.iv c0_i32_13 c1_i32 k0_t1
  let c2_i32_348 : BitVec 32 := 2#32
  let v1004 : BitVec 32 := Scalar.muli arg14 c2_i32_348
  let v1005 : BitVec 32 := Scalar.addi v1004 c0_i32_349
  let v1006 : Index := Scalar.indexCast v1005
  ![7, v1006.toNat]
def k0_off30 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1009 : Index := Scalar.indexCast v741
  let c0_350 : Index := 0#32
  let c896_351 : Index := 896#32
  ![v1009.toNat, 0, 896]
def k0_mult9 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_352 : BitVec 32 := 256#32
  let v1013 : BitVec 32 := Scalar.muli arg14 c256_i32_352
  let c0_i32_353 : BitVec 32 := 0#32
  let v1014 : BitVec 32 := Scalar.addi v1013 c0_i32_353
  let c0_i32_355 : BitVec 32 := 0#32
  let v1016 : BitVec 1 := Scalar.cmpi .sgt v1014 c0_i32_355
  let v1017 : BitVec 32 := Scalar.extui v1016
  let c0_i32_356 : BitVec 32 := 0#32
  let v1018 : BitVec 1 := Scalar.cmpi .slt v1014 c0_i32_356
  let v1019 : BitVec 32 := Scalar.extui v1018
  let v1020 : BitVec 32 := Scalar.subi v1017 v1019
  let c2_i32_354 : BitVec 32 := 2#32
  let c0_i32_357 : BitVec 32 := 0#32
  let v1021 : BitVec 1 := Scalar.cmpi .sgt c2_i32_354 c0_i32_357
  let v1022 : BitVec 32 := Scalar.extui v1021
  let c0_i32_358 : BitVec 32 := 0#32
  let v1023 : BitVec 1 := Scalar.cmpi .slt c2_i32_354 c0_i32_358
  let v1024 : BitVec 32 := Scalar.extui v1023
  let v1025 : BitVec 32 := Scalar.subi v1022 v1024
  let v1026 : BitVec 1 := Scalar.cmpi .ne v1020 v1025
  let v1027 : BitVec 32 := Scalar.remsi v1014 c2_i32_354
  let c0_i32_359 : BitVec 32 := 0#32
  let v1028 : BitVec 1 := Scalar.cmpi .ne v1027 c0_i32_359
  let v1029 : BitVec 1 := Scalar.andi v1026 v1028
  let v1015 : BitVec 32 := Scalar.divsi v1014 c2_i32_354
  let c1_i32_360 : BitVec 32 := 1#32
  let v1030 : BitVec 32 := Scalar.subi v1015 c1_i32_360
  let v1031 : BitVec 32 := Scalar.select v1029 v1030 v1015
  v1031
def k0_off31 (k0_t1 : Fin k0_t1_loop.trips) (c0_i32_353 : BitVec 32) : Fin 2 → Nat :=
  let c0_i32_13 : BitVec 32 := 0#32
  let c1_i32 : BitVec 32 := 1#32
  let arg14 : BitVec 32 := Scf.iv c0_i32_13 c1_i32 k0_t1
  let c256_i32_352 : BitVec 32 := 256#32
  let v1013 : BitVec 32 := Scalar.muli arg14 c256_i32_352
  let v1014 : BitVec 32 := Scalar.addi v1013 c0_i32_353
  let c0_i32_355 : BitVec 32 := 0#32
  let v1016 : BitVec 1 := Scalar.cmpi .sgt v1014 c0_i32_355
  let v1017 : BitVec 32 := Scalar.extui v1016
  let c0_i32_356 : BitVec 32 := 0#32
  let v1018 : BitVec 1 := Scalar.cmpi .slt v1014 c0_i32_356
  let v1019 : BitVec 32 := Scalar.extui v1018
  let v1020 : BitVec 32 := Scalar.subi v1017 v1019
  let c2_i32_354 : BitVec 32 := 2#32
  let c0_i32_357 : BitVec 32 := 0#32
  let v1021 : BitVec 1 := Scalar.cmpi .sgt c2_i32_354 c0_i32_357
  let v1022 : BitVec 32 := Scalar.extui v1021
  let c0_i32_358 : BitVec 32 := 0#32
  let v1023 : BitVec 1 := Scalar.cmpi .slt c2_i32_354 c0_i32_358
  let v1024 : BitVec 32 := Scalar.extui v1023
  let v1025 : BitVec 32 := Scalar.subi v1022 v1024
  let v1026 : BitVec 1 := Scalar.cmpi .ne v1020 v1025
  let v1027 : BitVec 32 := Scalar.remsi v1014 c2_i32_354
  let c0_i32_359 : BitVec 32 := 0#32
  let v1028 : BitVec 1 := Scalar.cmpi .ne v1027 c0_i32_359
  let v1029 : BitVec 1 := Scalar.andi v1026 v1028
  let v1015 : BitVec 32 := Scalar.divsi v1014 c2_i32_354
  let c1_i32_360 : BitVec 32 := 1#32
  let v1030 : BitVec 32 := Scalar.subi v1015 c1_i32_360
  let v1031 : BitVec 32 := Scalar.select v1029 v1030 v1015
  let v1032 : BitVec 32 := v1031
  let v1036 : Index := Scalar.indexCast v1032
  let c896_361 : Index := 896#32
  ![v1036.toNat, 896]
def k0_off32 (k0_t1 : Fin k0_t1_loop.trips) (c0_i32_363 : BitVec 32) : Fin 2 → Nat :=
  let c8 : Index := 8#32
  let c0_i32_13 : BitVec 32 := 0#32
  let c1_i32 : BitVec 32 := 1#32
  let arg14 : BitVec 32 := Scf.iv c0_i32_13 c1_i32 k0_t1
  let c2_i32_362 : BitVec 32 := 2#32
  let v1040 : BitVec 32 := Scalar.muli arg14 c2_i32_362
  let v1041 : BitVec 32 := Scalar.addi v1040 c0_i32_363
  let v1042 : Index := Scalar.indexCast v1041
  ![8, v1042.toNat]
def k0_off33 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1045 : Index := Scalar.indexCast v741
  let c0_364 : Index := 0#32
  let c1024_365 : Index := 1024#32
  ![v1045.toNat, 0, 1024]
def k0_mult10 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_366 : BitVec 32 := 256#32
  let v1049 : BitVec 32 := Scalar.muli arg14 c256_i32_366
  let c0_i32_367 : BitVec 32 := 0#32
  let v1050 : BitVec 32 := Scalar.addi v1049 c0_i32_367
  let c0_i32_369 : BitVec 32 := 0#32
  let v1052 : BitVec 1 := Scalar.cmpi .sgt v1050 c0_i32_369
  let v1053 : BitVec 32 := Scalar.extui v1052
  let c0_i32_370 : BitVec 32 := 0#32
  let v1054 : BitVec 1 := Scalar.cmpi .slt v1050 c0_i32_370
  let v1055 : BitVec 32 := Scalar.extui v1054
  let v1056 : BitVec 32 := Scalar.subi v1053 v1055
  let c2_i32_368 : BitVec 32 := 2#32
  let c0_i32_371 : BitVec 32 := 0#32
  let v1057 : BitVec 1 := Scalar.cmpi .sgt c2_i32_368 c0_i32_371
  let v1058 : BitVec 32 := Scalar.extui v1057
  let c0_i32_372 : BitVec 32 := 0#32
  let v1059 : BitVec 1 := Scalar.cmpi .slt c2_i32_368 c0_i32_372
  let v1060 : BitVec 32 := Scalar.extui v1059
  let v1061 : BitVec 32 := Scalar.subi v1058 v1060
  let v1062 : BitVec 1 := Scalar.cmpi .ne v1056 v1061
  let v1063 : BitVec 32 := Scalar.remsi v1050 c2_i32_368
  let c0_i32_373 : BitVec 32 := 0#32
  let v1064 : BitVec 1 := Scalar.cmpi .ne v1063 c0_i32_373
  let v1065 : BitVec 1 := Scalar.andi v1062 v1064
  let v1051 : BitVec 32 := Scalar.divsi v1050 c2_i32_368
  let c1_i32_374 : BitVec 32 := 1#32
  let v1066 : BitVec 32 := Scalar.subi v1051 c1_i32_374
  let v1067 : BitVec 32 := Scalar.select v1065 v1066 v1051
  v1067
def k0_off34 (k0_t1 : Fin k0_t1_loop.trips) (c0_i32_367 : BitVec 32) : Fin 2 → Nat :=
  let c0_i32_13 : BitVec 32 := 0#32
  let c1_i32 : BitVec 32 := 1#32
  let arg14 : BitVec 32 := Scf.iv c0_i32_13 c1_i32 k0_t1
  let c256_i32_366 : BitVec 32 := 256#32
  let v1049 : BitVec 32 := Scalar.muli arg14 c256_i32_366
  let v1050 : BitVec 32 := Scalar.addi v1049 c0_i32_367
  let c0_i32_369 : BitVec 32 := 0#32
  let v1052 : BitVec 1 := Scalar.cmpi .sgt v1050 c0_i32_369
  let v1053 : BitVec 32 := Scalar.extui v1052
  let c0_i32_370 : BitVec 32 := 0#32
  let v1054 : BitVec 1 := Scalar.cmpi .slt v1050 c0_i32_370
  let v1055 : BitVec 32 := Scalar.extui v1054
  let v1056 : BitVec 32 := Scalar.subi v1053 v1055
  let c2_i32_368 : BitVec 32 := 2#32
  let c0_i32_371 : BitVec 32 := 0#32
  let v1057 : BitVec 1 := Scalar.cmpi .sgt c2_i32_368 c0_i32_371
  let v1058 : BitVec 32 := Scalar.extui v1057
  let c0_i32_372 : BitVec 32 := 0#32
  let v1059 : BitVec 1 := Scalar.cmpi .slt c2_i32_368 c0_i32_372
  let v1060 : BitVec 32 := Scalar.extui v1059
  let v1061 : BitVec 32 := Scalar.subi v1058 v1060
  let v1062 : BitVec 1 := Scalar.cmpi .ne v1056 v1061
  let v1063 : BitVec 32 := Scalar.remsi v1050 c2_i32_368
  let c0_i32_373 : BitVec 32 := 0#32
  let v1064 : BitVec 1 := Scalar.cmpi .ne v1063 c0_i32_373
  let v1065 : BitVec 1 := Scalar.andi v1062 v1064
  let v1051 : BitVec 32 := Scalar.divsi v1050 c2_i32_368
  let c1_i32_374 : BitVec 32 := 1#32
  let v1066 : BitVec 32 := Scalar.subi v1051 c1_i32_374
  let v1067 : BitVec 32 := Scalar.select v1065 v1066 v1051
  let v1068 : BitVec 32 := v1067
  let v1072 : Index := Scalar.indexCast v1068
  let c1024_375 : Index := 1024#32
  ![v1072.toNat, 1024]
def k0_off35 (k0_t1 : Fin k0_t1_loop.trips) (c0_i32_377 : BitVec 32) : Fin 2 → Nat :=
  let c9 : Index := 9#32
  let c0_i32_13 : BitVec 32 := 0#32
  let c1_i32 : BitVec 32 := 1#32
  let arg14 : BitVec 32 := Scf.iv c0_i32_13 c1_i32 k0_t1
  let c2_i32_376 : BitVec 32 := 2#32
  let v1076 : BitVec 32 := Scalar.muli arg14 c2_i32_376
  let v1077 : BitVec 32 := Scalar.addi v1076 c0_i32_377
  let v1078 : Index := Scalar.indexCast v1077
  ![9, v1078.toNat]
def k0_off36 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1081 : Index := Scalar.indexCast v741
  let c0_378 : Index := 0#32
  let c1152_379 : Index := 1152#32
  ![v1081.toNat, 0, 1152]
def k0_mult11 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_380 : BitVec 32 := 256#32
  let v1085 : BitVec 32 := Scalar.muli arg14 c256_i32_380
  let c0_i32_381 : BitVec 32 := 0#32
  let v1086 : BitVec 32 := Scalar.addi v1085 c0_i32_381
  let c0_i32_383 : BitVec 32 := 0#32
  let v1088 : BitVec 1 := Scalar.cmpi .sgt v1086 c0_i32_383
  let v1089 : BitVec 32 := Scalar.extui v1088
  let c0_i32_384 : BitVec 32 := 0#32
  let v1090 : BitVec 1 := Scalar.cmpi .slt v1086 c0_i32_384
  let v1091 : BitVec 32 := Scalar.extui v1090
  let v1092 : BitVec 32 := Scalar.subi v1089 v1091
  let c2_i32_382 : BitVec 32 := 2#32
  let c0_i32_385 : BitVec 32 := 0#32
  let v1093 : BitVec 1 := Scalar.cmpi .sgt c2_i32_382 c0_i32_385
  let v1094 : BitVec 32 := Scalar.extui v1093
  let c0_i32_386 : BitVec 32 := 0#32
  let v1095 : BitVec 1 := Scalar.cmpi .slt c2_i32_382 c0_i32_386
  let v1096 : BitVec 32 := Scalar.extui v1095
  let v1097 : BitVec 32 := Scalar.subi v1094 v1096
  let v1098 : BitVec 1 := Scalar.cmpi .ne v1092 v1097
  let v1099 : BitVec 32 := Scalar.remsi v1086 c2_i32_382
  let c0_i32_387 : BitVec 32 := 0#32
  let v1100 : BitVec 1 := Scalar.cmpi .ne v1099 c0_i32_387
  let v1101 : BitVec 1 := Scalar.andi v1098 v1100
  let v1087 : BitVec 32 := Scalar.divsi v1086 c2_i32_382
  let c1_i32_388 : BitVec 32 := 1#32
  let v1102 : BitVec 32 := Scalar.subi v1087 c1_i32_388
  let v1103 : BitVec 32 := Scalar.select v1101 v1102 v1087
  v1103
def k0_off37 (k0_t1 : Fin k0_t1_loop.trips) (c0_i32_381 : BitVec 32) : Fin 2 → Nat :=
  let c0_i32_13 : BitVec 32 := 0#32
  let c1_i32 : BitVec 32 := 1#32
  let arg14 : BitVec 32 := Scf.iv c0_i32_13 c1_i32 k0_t1
  let c256_i32_380 : BitVec 32 := 256#32
  let v1085 : BitVec 32 := Scalar.muli arg14 c256_i32_380
  let v1086 : BitVec 32 := Scalar.addi v1085 c0_i32_381
  let c0_i32_383 : BitVec 32 := 0#32
  let v1088 : BitVec 1 := Scalar.cmpi .sgt v1086 c0_i32_383
  let v1089 : BitVec 32 := Scalar.extui v1088
  let c0_i32_384 : BitVec 32 := 0#32
  let v1090 : BitVec 1 := Scalar.cmpi .slt v1086 c0_i32_384
  let v1091 : BitVec 32 := Scalar.extui v1090
  let v1092 : BitVec 32 := Scalar.subi v1089 v1091
  let c2_i32_382 : BitVec 32 := 2#32
  let c0_i32_385 : BitVec 32 := 0#32
  let v1093 : BitVec 1 := Scalar.cmpi .sgt c2_i32_382 c0_i32_385
  let v1094 : BitVec 32 := Scalar.extui v1093
  let c0_i32_386 : BitVec 32 := 0#32
  let v1095 : BitVec 1 := Scalar.cmpi .slt c2_i32_382 c0_i32_386
  let v1096 : BitVec 32 := Scalar.extui v1095
  let v1097 : BitVec 32 := Scalar.subi v1094 v1096
  let v1098 : BitVec 1 := Scalar.cmpi .ne v1092 v1097
  let v1099 : BitVec 32 := Scalar.remsi v1086 c2_i32_382
  let c0_i32_387 : BitVec 32 := 0#32
  let v1100 : BitVec 1 := Scalar.cmpi .ne v1099 c0_i32_387
  let v1101 : BitVec 1 := Scalar.andi v1098 v1100
  let v1087 : BitVec 32 := Scalar.divsi v1086 c2_i32_382
  let c1_i32_388 : BitVec 32 := 1#32
  let v1102 : BitVec 32 := Scalar.subi v1087 c1_i32_388
  let v1103 : BitVec 32 := Scalar.select v1101 v1102 v1087
  let v1104 : BitVec 32 := v1103
  let v1108 : Index := Scalar.indexCast v1104
  let c1152_389 : Index := 1152#32
  ![v1108.toNat, 1152]
def k0_off38 (k0_t1 : Fin k0_t1_loop.trips) (c0_i32_391 : BitVec 32) : Fin 2 → Nat :=
  let c10 : Index := 10#32
  let c0_i32_13 : BitVec 32 := 0#32
  let c1_i32 : BitVec 32 := 1#32
  let arg14 : BitVec 32 := Scf.iv c0_i32_13 c1_i32 k0_t1
  let c2_i32_390 : BitVec 32 := 2#32
  let v1112 : BitVec 32 := Scalar.muli arg14 c2_i32_390
  let v1113 : BitVec 32 := Scalar.addi v1112 c0_i32_391
  let v1114 : Index := Scalar.indexCast v1113
  ![10, v1114.toNat]
def k0_off39 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1117 : Index := Scalar.indexCast v741
  let c0_392 : Index := 0#32
  let c1280_393 : Index := 1280#32
  ![v1117.toNat, 0, 1280]
def k0_mult12 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_394 : BitVec 32 := 256#32
  let v1121 : BitVec 32 := Scalar.muli arg14 c256_i32_394
  let c0_i32_395 : BitVec 32 := 0#32
  let v1122 : BitVec 32 := Scalar.addi v1121 c0_i32_395
  let c0_i32_397 : BitVec 32 := 0#32
  let v1124 : BitVec 1 := Scalar.cmpi .sgt v1122 c0_i32_397
  let v1125 : BitVec 32 := Scalar.extui v1124
  let c0_i32_398 : BitVec 32 := 0#32
  let v1126 : BitVec 1 := Scalar.cmpi .slt v1122 c0_i32_398
  let v1127 : BitVec 32 := Scalar.extui v1126
  let v1128 : BitVec 32 := Scalar.subi v1125 v1127
  let c2_i32_396 : BitVec 32 := 2#32
  let c0_i32_399 : BitVec 32 := 0#32
  let v1129 : BitVec 1 := Scalar.cmpi .sgt c2_i32_396 c0_i32_399
  let v1130 : BitVec 32 := Scalar.extui v1129
  let c0_i32_400 : BitVec 32 := 0#32
  let v1131 : BitVec 1 := Scalar.cmpi .slt c2_i32_396 c0_i32_400
  let v1132 : BitVec 32 := Scalar.extui v1131
  let v1133 : BitVec 32 := Scalar.subi v1130 v1132
  let v1134 : BitVec 1 := Scalar.cmpi .ne v1128 v1133
  let v1135 : BitVec 32 := Scalar.remsi v1122 c2_i32_396
  let c0_i32_401 : BitVec 32 := 0#32
  let v1136 : BitVec 1 := Scalar.cmpi .ne v1135 c0_i32_401
  let v1137 : BitVec 1 := Scalar.andi v1134 v1136
  let v1123 : BitVec 32 := Scalar.divsi v1122 c2_i32_396
  let c1_i32_402 : BitVec 32 := 1#32
  let v1138 : BitVec 32 := Scalar.subi v1123 c1_i32_402
  let v1139 : BitVec 32 := Scalar.select v1137 v1138 v1123
  v1139
def k0_off40 (k0_t1 : Fin k0_t1_loop.trips) (c0_i32_395 : BitVec 32) : Fin 2 → Nat :=
  let c0_i32_13 : BitVec 32 := 0#32
  let c1_i32 : BitVec 32 := 1#32
  let arg14 : BitVec 32 := Scf.iv c0_i32_13 c1_i32 k0_t1
  let c256_i32_394 : BitVec 32 := 256#32
  let v1121 : BitVec 32 := Scalar.muli arg14 c256_i32_394
  let v1122 : BitVec 32 := Scalar.addi v1121 c0_i32_395
  let c0_i32_397 : BitVec 32 := 0#32
  let v1124 : BitVec 1 := Scalar.cmpi .sgt v1122 c0_i32_397
  let v1125 : BitVec 32 := Scalar.extui v1124
  let c0_i32_398 : BitVec 32 := 0#32
  let v1126 : BitVec 1 := Scalar.cmpi .slt v1122 c0_i32_398
  let v1127 : BitVec 32 := Scalar.extui v1126
  let v1128 : BitVec 32 := Scalar.subi v1125 v1127
  let c2_i32_396 : BitVec 32 := 2#32
  let c0_i32_399 : BitVec 32 := 0#32
  let v1129 : BitVec 1 := Scalar.cmpi .sgt c2_i32_396 c0_i32_399
  let v1130 : BitVec 32 := Scalar.extui v1129
  let c0_i32_400 : BitVec 32 := 0#32
  let v1131 : BitVec 1 := Scalar.cmpi .slt c2_i32_396 c0_i32_400
  let v1132 : BitVec 32 := Scalar.extui v1131
  let v1133 : BitVec 32 := Scalar.subi v1130 v1132
  let v1134 : BitVec 1 := Scalar.cmpi .ne v1128 v1133
  let v1135 : BitVec 32 := Scalar.remsi v1122 c2_i32_396
  let c0_i32_401 : BitVec 32 := 0#32
  let v1136 : BitVec 1 := Scalar.cmpi .ne v1135 c0_i32_401
  let v1137 : BitVec 1 := Scalar.andi v1134 v1136
  let v1123 : BitVec 32 := Scalar.divsi v1122 c2_i32_396
  let c1_i32_402 : BitVec 32 := 1#32
  let v1138 : BitVec 32 := Scalar.subi v1123 c1_i32_402
  let v1139 : BitVec 32 := Scalar.select v1137 v1138 v1123
  let v1140 : BitVec 32 := v1139
  let v1144 : Index := Scalar.indexCast v1140
  let c1280_403 : Index := 1280#32
  ![v1144.toNat, 1280]
def k0_off41 (k0_t1 : Fin k0_t1_loop.trips) (c0_i32_405 : BitVec 32) : Fin 2 → Nat :=
  let c11 : Index := 11#32
  let c0_i32_13 : BitVec 32 := 0#32
  let c1_i32 : BitVec 32 := 1#32
  let arg14 : BitVec 32 := Scf.iv c0_i32_13 c1_i32 k0_t1
  let c2_i32_404 : BitVec 32 := 2#32
  let v1148 : BitVec 32 := Scalar.muli arg14 c2_i32_404
  let v1149 : BitVec 32 := Scalar.addi v1148 c0_i32_405
  let v1150 : Index := Scalar.indexCast v1149
  ![11, v1150.toNat]
def k0_off42 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1153 : Index := Scalar.indexCast v741
  let c0_406 : Index := 0#32
  let c1408_407 : Index := 1408#32
  ![v1153.toNat, 0, 1408]
def k0_mult13 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_408 : BitVec 32 := 256#32
  let v1157 : BitVec 32 := Scalar.muli arg14 c256_i32_408
  let c0_i32_409 : BitVec 32 := 0#32
  let v1158 : BitVec 32 := Scalar.addi v1157 c0_i32_409
  let c0_i32_411 : BitVec 32 := 0#32
  let v1160 : BitVec 1 := Scalar.cmpi .sgt v1158 c0_i32_411
  let v1161 : BitVec 32 := Scalar.extui v1160
  let c0_i32_412 : BitVec 32 := 0#32
  let v1162 : BitVec 1 := Scalar.cmpi .slt v1158 c0_i32_412
  let v1163 : BitVec 32 := Scalar.extui v1162
  let v1164 : BitVec 32 := Scalar.subi v1161 v1163
  let c2_i32_410 : BitVec 32 := 2#32
  let c0_i32_413 : BitVec 32 := 0#32
  let v1165 : BitVec 1 := Scalar.cmpi .sgt c2_i32_410 c0_i32_413
  let v1166 : BitVec 32 := Scalar.extui v1165
  let c0_i32_414 : BitVec 32 := 0#32
  let v1167 : BitVec 1 := Scalar.cmpi .slt c2_i32_410 c0_i32_414
  let v1168 : BitVec 32 := Scalar.extui v1167
  let v1169 : BitVec 32 := Scalar.subi v1166 v1168
  let v1170 : BitVec 1 := Scalar.cmpi .ne v1164 v1169
  let v1171 : BitVec 32 := Scalar.remsi v1158 c2_i32_410
  let c0_i32_415 : BitVec 32 := 0#32
  let v1172 : BitVec 1 := Scalar.cmpi .ne v1171 c0_i32_415
  let v1173 : BitVec 1 := Scalar.andi v1170 v1172
  let v1159 : BitVec 32 := Scalar.divsi v1158 c2_i32_410
  let c1_i32_416 : BitVec 32 := 1#32
  let v1174 : BitVec 32 := Scalar.subi v1159 c1_i32_416
  let v1175 : BitVec 32 := Scalar.select v1173 v1174 v1159
  v1175
def k0_off43 (k0_t1 : Fin k0_t1_loop.trips) (c0_i32_409 : BitVec 32) : Fin 2 → Nat :=
  let c0_i32_13 : BitVec 32 := 0#32
  let c1_i32 : BitVec 32 := 1#32
  let arg14 : BitVec 32 := Scf.iv c0_i32_13 c1_i32 k0_t1
  let c256_i32_408 : BitVec 32 := 256#32
  let v1157 : BitVec 32 := Scalar.muli arg14 c256_i32_408
  let v1158 : BitVec 32 := Scalar.addi v1157 c0_i32_409
  let c0_i32_411 : BitVec 32 := 0#32
  let v1160 : BitVec 1 := Scalar.cmpi .sgt v1158 c0_i32_411
  let v1161 : BitVec 32 := Scalar.extui v1160
  let c0_i32_412 : BitVec 32 := 0#32
  let v1162 : BitVec 1 := Scalar.cmpi .slt v1158 c0_i32_412
  let v1163 : BitVec 32 := Scalar.extui v1162
  let v1164 : BitVec 32 := Scalar.subi v1161 v1163
  let c2_i32_410 : BitVec 32 := 2#32
  let c0_i32_413 : BitVec 32 := 0#32
  let v1165 : BitVec 1 := Scalar.cmpi .sgt c2_i32_410 c0_i32_413
  let v1166 : BitVec 32 := Scalar.extui v1165
  let c0_i32_414 : BitVec 32 := 0#32
  let v1167 : BitVec 1 := Scalar.cmpi .slt c2_i32_410 c0_i32_414
  let v1168 : BitVec 32 := Scalar.extui v1167
  let v1169 : BitVec 32 := Scalar.subi v1166 v1168
  let v1170 : BitVec 1 := Scalar.cmpi .ne v1164 v1169
  let v1171 : BitVec 32 := Scalar.remsi v1158 c2_i32_410
  let c0_i32_415 : BitVec 32 := 0#32
  let v1172 : BitVec 1 := Scalar.cmpi .ne v1171 c0_i32_415
  let v1173 : BitVec 1 := Scalar.andi v1170 v1172
  let v1159 : BitVec 32 := Scalar.divsi v1158 c2_i32_410
  let c1_i32_416 : BitVec 32 := 1#32
  let v1174 : BitVec 32 := Scalar.subi v1159 c1_i32_416
  let v1175 : BitVec 32 := Scalar.select v1173 v1174 v1159
  let v1176 : BitVec 32 := v1175
  let v1180 : Index := Scalar.indexCast v1176
  let c1408_417 : Index := 1408#32
  ![v1180.toNat, 1408]
def k0_off44 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1189 : Index := Scalar.indexCast v741
  let c128_421 : Index := 128#32
  let c0_422 : Index := 0#32
  ![v1189.toNat, 128, 0]
def k0_mult14 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_423 : BitVec 32 := 256#32
  let v1193 : BitVec 32 := Scalar.muli arg14 c256_i32_423
  let c128_i32 : BitVec 32 := 128#32
  let v1194 : BitVec 32 := Scalar.addi v1193 c128_i32
  let c0_i32_425 : BitVec 32 := 0#32
  let v1196 : BitVec 1 := Scalar.cmpi .sgt v1194 c0_i32_425
  let v1197 : BitVec 32 := Scalar.extui v1196
  let c0_i32_426 : BitVec 32 := 0#32
  let v1198 : BitVec 1 := Scalar.cmpi .slt v1194 c0_i32_426
  let v1199 : BitVec 32 := Scalar.extui v1198
  let v1200 : BitVec 32 := Scalar.subi v1197 v1199
  let c2_i32_424 : BitVec 32 := 2#32
  let c0_i32_427 : BitVec 32 := 0#32
  let v1201 : BitVec 1 := Scalar.cmpi .sgt c2_i32_424 c0_i32_427
  let v1202 : BitVec 32 := Scalar.extui v1201
  let c0_i32_428 : BitVec 32 := 0#32
  let v1203 : BitVec 1 := Scalar.cmpi .slt c2_i32_424 c0_i32_428
  let v1204 : BitVec 32 := Scalar.extui v1203
  let v1205 : BitVec 32 := Scalar.subi v1202 v1204
  let v1206 : BitVec 1 := Scalar.cmpi .ne v1200 v1205
  let v1207 : BitVec 32 := Scalar.remsi v1194 c2_i32_424
  let c0_i32_429 : BitVec 32 := 0#32
  let v1208 : BitVec 1 := Scalar.cmpi .ne v1207 c0_i32_429
  let v1209 : BitVec 1 := Scalar.andi v1206 v1208
  let v1195 : BitVec 32 := Scalar.divsi v1194 c2_i32_424
  let c1_i32_430 : BitVec 32 := 1#32
  let v1210 : BitVec 32 := Scalar.subi v1195 c1_i32_430
  let v1211 : BitVec 32 := Scalar.select v1209 v1210 v1195
  v1211
def k0_off45 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1225 : Index := Scalar.indexCast v741
  let c128_435 : Index := 128#32
  let c128_436 : Index := 128#32
  ![v1225.toNat, 128, 128]
def k0_mult15 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_437 : BitVec 32 := 256#32
  let v1229 : BitVec 32 := Scalar.muli arg14 c256_i32_437
  let c128_i32_438 : BitVec 32 := 128#32
  let v1230 : BitVec 32 := Scalar.addi v1229 c128_i32_438
  let c0_i32_440 : BitVec 32 := 0#32
  let v1232 : BitVec 1 := Scalar.cmpi .sgt v1230 c0_i32_440
  let v1233 : BitVec 32 := Scalar.extui v1232
  let c0_i32_441 : BitVec 32 := 0#32
  let v1234 : BitVec 1 := Scalar.cmpi .slt v1230 c0_i32_441
  let v1235 : BitVec 32 := Scalar.extui v1234
  let v1236 : BitVec 32 := Scalar.subi v1233 v1235
  let c2_i32_439 : BitVec 32 := 2#32
  let c0_i32_442 : BitVec 32 := 0#32
  let v1237 : BitVec 1 := Scalar.cmpi .sgt c2_i32_439 c0_i32_442
  let v1238 : BitVec 32 := Scalar.extui v1237
  let c0_i32_443 : BitVec 32 := 0#32
  let v1239 : BitVec 1 := Scalar.cmpi .slt c2_i32_439 c0_i32_443
  let v1240 : BitVec 32 := Scalar.extui v1239
  let v1241 : BitVec 32 := Scalar.subi v1238 v1240
  let v1242 : BitVec 1 := Scalar.cmpi .ne v1236 v1241
  let v1243 : BitVec 32 := Scalar.remsi v1230 c2_i32_439
  let c0_i32_444 : BitVec 32 := 0#32
  let v1244 : BitVec 1 := Scalar.cmpi .ne v1243 c0_i32_444
  let v1245 : BitVec 1 := Scalar.andi v1242 v1244
  let v1231 : BitVec 32 := Scalar.divsi v1230 c2_i32_439
  let c1_i32_445 : BitVec 32 := 1#32
  let v1246 : BitVec 32 := Scalar.subi v1231 c1_i32_445
  let v1247 : BitVec 32 := Scalar.select v1245 v1246 v1231
  v1247
def k0_off46 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1261 : Index := Scalar.indexCast v741
  let c128_450 : Index := 128#32
  let c256_451 : Index := 256#32
  ![v1261.toNat, 128, 256]
def k0_mult16 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_452 : BitVec 32 := 256#32
  let v1265 : BitVec 32 := Scalar.muli arg14 c256_i32_452
  let c128_i32_453 : BitVec 32 := 128#32
  let v1266 : BitVec 32 := Scalar.addi v1265 c128_i32_453
  let c0_i32_455 : BitVec 32 := 0#32
  let v1268 : BitVec 1 := Scalar.cmpi .sgt v1266 c0_i32_455
  let v1269 : BitVec 32 := Scalar.extui v1268
  let c0_i32_456 : BitVec 32 := 0#32
  let v1270 : BitVec 1 := Scalar.cmpi .slt v1266 c0_i32_456
  let v1271 : BitVec 32 := Scalar.extui v1270
  let v1272 : BitVec 32 := Scalar.subi v1269 v1271
  let c2_i32_454 : BitVec 32 := 2#32
  let c0_i32_457 : BitVec 32 := 0#32
  let v1273 : BitVec 1 := Scalar.cmpi .sgt c2_i32_454 c0_i32_457
  let v1274 : BitVec 32 := Scalar.extui v1273
  let c0_i32_458 : BitVec 32 := 0#32
  let v1275 : BitVec 1 := Scalar.cmpi .slt c2_i32_454 c0_i32_458
  let v1276 : BitVec 32 := Scalar.extui v1275
  let v1277 : BitVec 32 := Scalar.subi v1274 v1276
  let v1278 : BitVec 1 := Scalar.cmpi .ne v1272 v1277
  let v1279 : BitVec 32 := Scalar.remsi v1266 c2_i32_454
  let c0_i32_459 : BitVec 32 := 0#32
  let v1280 : BitVec 1 := Scalar.cmpi .ne v1279 c0_i32_459
  let v1281 : BitVec 1 := Scalar.andi v1278 v1280
  let v1267 : BitVec 32 := Scalar.divsi v1266 c2_i32_454
  let c1_i32_460 : BitVec 32 := 1#32
  let v1282 : BitVec 32 := Scalar.subi v1267 c1_i32_460
  let v1283 : BitVec 32 := Scalar.select v1281 v1282 v1267
  v1283
def k0_off47 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1297 : Index := Scalar.indexCast v741
  let c128_465 : Index := 128#32
  let c384_466 : Index := 384#32
  ![v1297.toNat, 128, 384]
def k0_mult17 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_467 : BitVec 32 := 256#32
  let v1301 : BitVec 32 := Scalar.muli arg14 c256_i32_467
  let c128_i32_468 : BitVec 32 := 128#32
  let v1302 : BitVec 32 := Scalar.addi v1301 c128_i32_468
  let c0_i32_470 : BitVec 32 := 0#32
  let v1304 : BitVec 1 := Scalar.cmpi .sgt v1302 c0_i32_470
  let v1305 : BitVec 32 := Scalar.extui v1304
  let c0_i32_471 : BitVec 32 := 0#32
  let v1306 : BitVec 1 := Scalar.cmpi .slt v1302 c0_i32_471
  let v1307 : BitVec 32 := Scalar.extui v1306
  let v1308 : BitVec 32 := Scalar.subi v1305 v1307
  let c2_i32_469 : BitVec 32 := 2#32
  let c0_i32_472 : BitVec 32 := 0#32
  let v1309 : BitVec 1 := Scalar.cmpi .sgt c2_i32_469 c0_i32_472
  let v1310 : BitVec 32 := Scalar.extui v1309
  let c0_i32_473 : BitVec 32 := 0#32
  let v1311 : BitVec 1 := Scalar.cmpi .slt c2_i32_469 c0_i32_473
  let v1312 : BitVec 32 := Scalar.extui v1311
  let v1313 : BitVec 32 := Scalar.subi v1310 v1312
  let v1314 : BitVec 1 := Scalar.cmpi .ne v1308 v1313
  let v1315 : BitVec 32 := Scalar.remsi v1302 c2_i32_469
  let c0_i32_474 : BitVec 32 := 0#32
  let v1316 : BitVec 1 := Scalar.cmpi .ne v1315 c0_i32_474
  let v1317 : BitVec 1 := Scalar.andi v1314 v1316
  let v1303 : BitVec 32 := Scalar.divsi v1302 c2_i32_469
  let c1_i32_475 : BitVec 32 := 1#32
  let v1318 : BitVec 32 := Scalar.subi v1303 c1_i32_475
  let v1319 : BitVec 32 := Scalar.select v1317 v1318 v1303
  v1319
def k0_off48 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1333 : Index := Scalar.indexCast v741
  let c128_480 : Index := 128#32
  let c512_481 : Index := 512#32
  ![v1333.toNat, 128, 512]
def k0_mult18 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_482 : BitVec 32 := 256#32
  let v1337 : BitVec 32 := Scalar.muli arg14 c256_i32_482
  let c128_i32_483 : BitVec 32 := 128#32
  let v1338 : BitVec 32 := Scalar.addi v1337 c128_i32_483
  let c0_i32_485 : BitVec 32 := 0#32
  let v1340 : BitVec 1 := Scalar.cmpi .sgt v1338 c0_i32_485
  let v1341 : BitVec 32 := Scalar.extui v1340
  let c0_i32_486 : BitVec 32 := 0#32
  let v1342 : BitVec 1 := Scalar.cmpi .slt v1338 c0_i32_486
  let v1343 : BitVec 32 := Scalar.extui v1342
  let v1344 : BitVec 32 := Scalar.subi v1341 v1343
  let c2_i32_484 : BitVec 32 := 2#32
  let c0_i32_487 : BitVec 32 := 0#32
  let v1345 : BitVec 1 := Scalar.cmpi .sgt c2_i32_484 c0_i32_487
  let v1346 : BitVec 32 := Scalar.extui v1345
  let c0_i32_488 : BitVec 32 := 0#32
  let v1347 : BitVec 1 := Scalar.cmpi .slt c2_i32_484 c0_i32_488
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_484
  let c0_i32_489 : BitVec 32 := 0#32
  let v1352 : BitVec 1 := Scalar.cmpi .ne v1351 c0_i32_489
  let v1353 : BitVec 1 := Scalar.andi v1350 v1352
  let v1339 : BitVec 32 := Scalar.divsi v1338 c2_i32_484
  let c1_i32_490 : BitVec 32 := 1#32
  let v1354 : BitVec 32 := Scalar.subi v1339 c1_i32_490
  let v1355 : BitVec 32 := Scalar.select v1353 v1354 v1339
  v1355
def k0_off49 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1369 : Index := Scalar.indexCast v741
  let c128_495 : Index := 128#32
  let c640_496 : Index := 640#32
  ![v1369.toNat, 128, 640]
def k0_mult19 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_497 : BitVec 32 := 256#32
  let v1373 : BitVec 32 := Scalar.muli arg14 c256_i32_497
  let c128_i32_498 : BitVec 32 := 128#32
  let v1374 : BitVec 32 := Scalar.addi v1373 c128_i32_498
  let c0_i32_500 : BitVec 32 := 0#32
  let v1376 : BitVec 1 := Scalar.cmpi .sgt v1374 c0_i32_500
  let v1377 : BitVec 32 := Scalar.extui v1376
  let c0_i32_501 : BitVec 32 := 0#32
  let v1378 : BitVec 1 := Scalar.cmpi .slt v1374 c0_i32_501
  let v1379 : BitVec 32 := Scalar.extui v1378
  let v1380 : BitVec 32 := Scalar.subi v1377 v1379
  let c2_i32_499 : BitVec 32 := 2#32
  let c0_i32_502 : BitVec 32 := 0#32
  let v1381 : BitVec 1 := Scalar.cmpi .sgt c2_i32_499 c0_i32_502
  let v1382 : BitVec 32 := Scalar.extui v1381
  let c0_i32_503 : BitVec 32 := 0#32
  let v1383 : BitVec 1 := Scalar.cmpi .slt c2_i32_499 c0_i32_503
  let v1384 : BitVec 32 := Scalar.extui v1383
  let v1385 : BitVec 32 := Scalar.subi v1382 v1384
  let v1386 : BitVec 1 := Scalar.cmpi .ne v1380 v1385
  let v1387 : BitVec 32 := Scalar.remsi v1374 c2_i32_499
  let c0_i32_504 : BitVec 32 := 0#32
  let v1388 : BitVec 1 := Scalar.cmpi .ne v1387 c0_i32_504
  let v1389 : BitVec 1 := Scalar.andi v1386 v1388
  let v1375 : BitVec 32 := Scalar.divsi v1374 c2_i32_499
  let c1_i32_505 : BitVec 32 := 1#32
  let v1390 : BitVec 32 := Scalar.subi v1375 c1_i32_505
  let v1391 : BitVec 32 := Scalar.select v1389 v1390 v1375
  v1391
def k0_off50 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1405 : Index := Scalar.indexCast v741
  let c128_510 : Index := 128#32
  let c768_511 : Index := 768#32
  ![v1405.toNat, 128, 768]
def k0_mult20 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_512 : BitVec 32 := 256#32
  let v1409 : BitVec 32 := Scalar.muli arg14 c256_i32_512
  let c128_i32_513 : BitVec 32 := 128#32
  let v1410 : BitVec 32 := Scalar.addi v1409 c128_i32_513
  let c0_i32_515 : BitVec 32 := 0#32
  let v1412 : BitVec 1 := Scalar.cmpi .sgt v1410 c0_i32_515
  let v1413 : BitVec 32 := Scalar.extui v1412
  let c0_i32_516 : BitVec 32 := 0#32
  let v1414 : BitVec 1 := Scalar.cmpi .slt v1410 c0_i32_516
  let v1415 : BitVec 32 := Scalar.extui v1414
  let v1416 : BitVec 32 := Scalar.subi v1413 v1415
  let c2_i32_514 : BitVec 32 := 2#32
  let c0_i32_517 : BitVec 32 := 0#32
  let v1417 : BitVec 1 := Scalar.cmpi .sgt c2_i32_514 c0_i32_517
  let v1418 : BitVec 32 := Scalar.extui v1417
  let c0_i32_518 : BitVec 32 := 0#32
  let v1419 : BitVec 1 := Scalar.cmpi .slt c2_i32_514 c0_i32_518
  let v1420 : BitVec 32 := Scalar.extui v1419
  let v1421 : BitVec 32 := Scalar.subi v1418 v1420
  let v1422 : BitVec 1 := Scalar.cmpi .ne v1416 v1421
  let v1423 : BitVec 32 := Scalar.remsi v1410 c2_i32_514
  let c0_i32_519 : BitVec 32 := 0#32
  let v1424 : BitVec 1 := Scalar.cmpi .ne v1423 c0_i32_519
  let v1425 : BitVec 1 := Scalar.andi v1422 v1424
  let v1411 : BitVec 32 := Scalar.divsi v1410 c2_i32_514
  let c1_i32_520 : BitVec 32 := 1#32
  let v1426 : BitVec 32 := Scalar.subi v1411 c1_i32_520
  let v1427 : BitVec 32 := Scalar.select v1425 v1426 v1411
  v1427
def k0_off51 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1441 : Index := Scalar.indexCast v741
  let c128_525 : Index := 128#32
  let c896_526 : Index := 896#32
  ![v1441.toNat, 128, 896]
def k0_mult21 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_527 : BitVec 32 := 256#32
  let v1445 : BitVec 32 := Scalar.muli arg14 c256_i32_527
  let c128_i32_528 : BitVec 32 := 128#32
  let v1446 : BitVec 32 := Scalar.addi v1445 c128_i32_528
  let c0_i32_530 : BitVec 32 := 0#32
  let v1448 : BitVec 1 := Scalar.cmpi .sgt v1446 c0_i32_530
  let v1449 : BitVec 32 := Scalar.extui v1448
  let c0_i32_531 : BitVec 32 := 0#32
  let v1450 : BitVec 1 := Scalar.cmpi .slt v1446 c0_i32_531
  let v1451 : BitVec 32 := Scalar.extui v1450
  let v1452 : BitVec 32 := Scalar.subi v1449 v1451
  let c2_i32_529 : BitVec 32 := 2#32
  let c0_i32_532 : BitVec 32 := 0#32
  let v1453 : BitVec 1 := Scalar.cmpi .sgt c2_i32_529 c0_i32_532
  let v1454 : BitVec 32 := Scalar.extui v1453
  let c0_i32_533 : BitVec 32 := 0#32
  let v1455 : BitVec 1 := Scalar.cmpi .slt c2_i32_529 c0_i32_533
  let v1456 : BitVec 32 := Scalar.extui v1455
  let v1457 : BitVec 32 := Scalar.subi v1454 v1456
  let v1458 : BitVec 1 := Scalar.cmpi .ne v1452 v1457
  let v1459 : BitVec 32 := Scalar.remsi v1446 c2_i32_529
  let c0_i32_534 : BitVec 32 := 0#32
  let v1460 : BitVec 1 := Scalar.cmpi .ne v1459 c0_i32_534
  let v1461 : BitVec 1 := Scalar.andi v1458 v1460
  let v1447 : BitVec 32 := Scalar.divsi v1446 c2_i32_529
  let c1_i32_535 : BitVec 32 := 1#32
  let v1462 : BitVec 32 := Scalar.subi v1447 c1_i32_535
  let v1463 : BitVec 32 := Scalar.select v1461 v1462 v1447
  v1463
def k0_off52 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1477 : Index := Scalar.indexCast v741
  let c128_540 : Index := 128#32
  let c1024_541 : Index := 1024#32
  ![v1477.toNat, 128, 1024]
def k0_mult22 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_542 : BitVec 32 := 256#32
  let v1481 : BitVec 32 := Scalar.muli arg14 c256_i32_542
  let c128_i32_543 : BitVec 32 := 128#32
  let v1482 : BitVec 32 := Scalar.addi v1481 c128_i32_543
  let c0_i32_545 : BitVec 32 := 0#32
  let v1484 : BitVec 1 := Scalar.cmpi .sgt v1482 c0_i32_545
  let v1485 : BitVec 32 := Scalar.extui v1484
  let c0_i32_546 : BitVec 32 := 0#32
  let v1486 : BitVec 1 := Scalar.cmpi .slt v1482 c0_i32_546
  let v1487 : BitVec 32 := Scalar.extui v1486
  let v1488 : BitVec 32 := Scalar.subi v1485 v1487
  let c2_i32_544 : BitVec 32 := 2#32
  let c0_i32_547 : BitVec 32 := 0#32
  let v1489 : BitVec 1 := Scalar.cmpi .sgt c2_i32_544 c0_i32_547
  let v1490 : BitVec 32 := Scalar.extui v1489
  let c0_i32_548 : BitVec 32 := 0#32
  let v1491 : BitVec 1 := Scalar.cmpi .slt c2_i32_544 c0_i32_548
  let v1492 : BitVec 32 := Scalar.extui v1491
  let v1493 : BitVec 32 := Scalar.subi v1490 v1492
  let v1494 : BitVec 1 := Scalar.cmpi .ne v1488 v1493
  let v1495 : BitVec 32 := Scalar.remsi v1482 c2_i32_544
  let c0_i32_549 : BitVec 32 := 0#32
  let v1496 : BitVec 1 := Scalar.cmpi .ne v1495 c0_i32_549
  let v1497 : BitVec 1 := Scalar.andi v1494 v1496
  let v1483 : BitVec 32 := Scalar.divsi v1482 c2_i32_544
  let c1_i32_550 : BitVec 32 := 1#32
  let v1498 : BitVec 32 := Scalar.subi v1483 c1_i32_550
  let v1499 : BitVec 32 := Scalar.select v1497 v1498 v1483
  v1499
def k0_off53 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1513 : Index := Scalar.indexCast v741
  let c128_555 : Index := 128#32
  let c1152_556 : Index := 1152#32
  ![v1513.toNat, 128, 1152]
def k0_mult23 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_557 : BitVec 32 := 256#32
  let v1517 : BitVec 32 := Scalar.muli arg14 c256_i32_557
  let c128_i32_558 : BitVec 32 := 128#32
  let v1518 : BitVec 32 := Scalar.addi v1517 c128_i32_558
  let c0_i32_560 : BitVec 32 := 0#32
  let v1520 : BitVec 1 := Scalar.cmpi .sgt v1518 c0_i32_560
  let v1521 : BitVec 32 := Scalar.extui v1520
  let c0_i32_561 : BitVec 32 := 0#32
  let v1522 : BitVec 1 := Scalar.cmpi .slt v1518 c0_i32_561
  let v1523 : BitVec 32 := Scalar.extui v1522
  let v1524 : BitVec 32 := Scalar.subi v1521 v1523
  let c2_i32_559 : BitVec 32 := 2#32
  let c0_i32_562 : BitVec 32 := 0#32
  let v1525 : BitVec 1 := Scalar.cmpi .sgt c2_i32_559 c0_i32_562
  let v1526 : BitVec 32 := Scalar.extui v1525
  let c0_i32_563 : BitVec 32 := 0#32
  let v1527 : BitVec 1 := Scalar.cmpi .slt c2_i32_559 c0_i32_563
  let v1528 : BitVec 32 := Scalar.extui v1527
  let v1529 : BitVec 32 := Scalar.subi v1526 v1528
  let v1530 : BitVec 1 := Scalar.cmpi .ne v1524 v1529
  let v1531 : BitVec 32 := Scalar.remsi v1518 c2_i32_559
  let c0_i32_564 : BitVec 32 := 0#32
  let v1532 : BitVec 1 := Scalar.cmpi .ne v1531 c0_i32_564
  let v1533 : BitVec 1 := Scalar.andi v1530 v1532
  let v1519 : BitVec 32 := Scalar.divsi v1518 c2_i32_559
  let c1_i32_565 : BitVec 32 := 1#32
  let v1534 : BitVec 32 := Scalar.subi v1519 c1_i32_565
  let v1535 : BitVec 32 := Scalar.select v1533 v1534 v1519
  v1535
def k0_off54 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1549 : Index := Scalar.indexCast v741
  let c128_570 : Index := 128#32
  let c1280_571 : Index := 1280#32
  ![v1549.toNat, 128, 1280]
def k0_mult24 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_572 : BitVec 32 := 256#32
  let v1553 : BitVec 32 := Scalar.muli arg14 c256_i32_572
  let c128_i32_573 : BitVec 32 := 128#32
  let v1554 : BitVec 32 := Scalar.addi v1553 c128_i32_573
  let c0_i32_575 : BitVec 32 := 0#32
  let v1556 : BitVec 1 := Scalar.cmpi .sgt v1554 c0_i32_575
  let v1557 : BitVec 32 := Scalar.extui v1556
  let c0_i32_576 : BitVec 32 := 0#32
  let v1558 : BitVec 1 := Scalar.cmpi .slt v1554 c0_i32_576
  let v1559 : BitVec 32 := Scalar.extui v1558
  let v1560 : BitVec 32 := Scalar.subi v1557 v1559
  let c2_i32_574 : BitVec 32 := 2#32
  let c0_i32_577 : BitVec 32 := 0#32
  let v1561 : BitVec 1 := Scalar.cmpi .sgt c2_i32_574 c0_i32_577
  let v1562 : BitVec 32 := Scalar.extui v1561
  let c0_i32_578 : BitVec 32 := 0#32
  let v1563 : BitVec 1 := Scalar.cmpi .slt c2_i32_574 c0_i32_578
  let v1564 : BitVec 32 := Scalar.extui v1563
  let v1565 : BitVec 32 := Scalar.subi v1562 v1564
  let v1566 : BitVec 1 := Scalar.cmpi .ne v1560 v1565
  let v1567 : BitVec 32 := Scalar.remsi v1554 c2_i32_574
  let c0_i32_579 : BitVec 32 := 0#32
  let v1568 : BitVec 1 := Scalar.cmpi .ne v1567 c0_i32_579
  let v1569 : BitVec 1 := Scalar.andi v1566 v1568
  let v1555 : BitVec 32 := Scalar.divsi v1554 c2_i32_574
  let c1_i32_580 : BitVec 32 := 1#32
  let v1570 : BitVec 32 := Scalar.subi v1555 c1_i32_580
  let v1571 : BitVec 32 := Scalar.select v1569 v1570 v1555
  v1571
def k0_off55 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1585 : Index := Scalar.indexCast v741
  let c128_585 : Index := 128#32
  let c1408_586 : Index := 1408#32
  ![v1585.toNat, 128, 1408]
def k0_mult25 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_587 : BitVec 32 := 256#32
  let v1589 : BitVec 32 := Scalar.muli arg14 c256_i32_587
  let c128_i32_588 : BitVec 32 := 128#32
  let v1590 : BitVec 32 := Scalar.addi v1589 c128_i32_588
  let c0_i32_590 : BitVec 32 := 0#32
  let v1592 : BitVec 1 := Scalar.cmpi .sgt v1590 c0_i32_590
  let v1593 : BitVec 32 := Scalar.extui v1592
  let c0_i32_591 : BitVec 32 := 0#32
  let v1594 : BitVec 1 := Scalar.cmpi .slt v1590 c0_i32_591
  let v1595 : BitVec 32 := Scalar.extui v1594
  let v1596 : BitVec 32 := Scalar.subi v1593 v1595
  let c2_i32_589 : BitVec 32 := 2#32
  let c0_i32_592 : BitVec 32 := 0#32
  let v1597 : BitVec 1 := Scalar.cmpi .sgt c2_i32_589 c0_i32_592
  let v1598 : BitVec 32 := Scalar.extui v1597
  let c0_i32_593 : BitVec 32 := 0#32
  let v1599 : BitVec 1 := Scalar.cmpi .slt c2_i32_589 c0_i32_593
  let v1600 : BitVec 32 := Scalar.extui v1599
  let v1601 : BitVec 32 := Scalar.subi v1598 v1600
  let v1602 : BitVec 1 := Scalar.cmpi .ne v1596 v1601
  let v1603 : BitVec 32 := Scalar.remsi v1590 c2_i32_589
  let c0_i32_594 : BitVec 32 := 0#32
  let v1604 : BitVec 1 := Scalar.cmpi .ne v1603 c0_i32_594
  let v1605 : BitVec 1 := Scalar.andi v1602 v1604
  let v1591 : BitVec 32 := Scalar.divsi v1590 c2_i32_589
  let c1_i32_595 : BitVec 32 := 1#32
  let v1606 : BitVec 32 := Scalar.subi v1591 c1_i32_595
  let v1607 : BitVec 32 := Scalar.select v1605 v1606 v1591
  v1607
def k0_mult26 : BitVec 32 :=
  let c0_i32_17 : BitVec 32 := 0#32
  let c3_i32_18 : BitVec 32 := 3#32
  let v21 : BitVec 32 := Scalar.remsi c0_i32_17 c3_i32_18
  let c256_i32_19 : BitVec 32 := 256#32
  let v22 : BitVec 32 := Scalar.muli v21 c256_i32_19
  v22
def k0_mult27 : BitVec 32 :=
  let c1_i32_235 : BitVec 32 := 1#32
  let c3_i32_236 : BitVec 32 := 3#32
  let v732 : BitVec 32 := Scalar.remsi c1_i32_235 c3_i32_236
  let c256_i32_237 : BitVec 32 := 256#32
  let v733 : BitVec 32 := Scalar.muli v732 c256_i32_237
  v733
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let c48_i32 : BitVec 32 := 48#32
  let v4 : BitVec 1 := Scalar.cmpi .sle arg0 c48_i32
  let v5 : BitVec 1 := Scalar.andi v3 v4
  let v6 : BitVec 32 := Scalar.extui v5
  let c0_i32_2 : BitVec 32 := 0#32
  let v7 : BitVec 1 := Scalar.cmpi .ne v6 c0_i32_2
  v7

def k0_mult28 : BitVec 32 :=
  let c0_i32_4 : BitVec 32 := 0#32
  let c3_i32_5 : BitVec 32 := 3#32
  let v9 : BitVec 32 := Scalar.remsi c0_i32_4 c3_i32_5
  let c256_i32 : BitVec 32 := 256#32
  let v10 : BitVec 32 := Scalar.muli v9 c256_i32
  v10
def k0_off56 : Fin 3 → Nat :=
  let c0_i32_6 : BitVec 32 := 0#32
  let c0_i32_3 : BitVec 32 := 0#32
  let c3_i32 : BitVec 32 := 3#32
  let v8 : BitVec 32 := Scalar.divsi c0_i32_3 c3_i32
  let c0_i32_4 : BitVec 32 := 0#32
  let c3_i32_5 : BitVec 32 := 3#32
  let v9 : BitVec 32 := Scalar.remsi c0_i32_4 c3_i32_5
  let c256_i32 : BitVec 32 := 256#32
  let v10 : BitVec 32 := Scalar.muli v9 c256_i32
  let v11 : BitVec 32 := v10
  ![0, v8.toNat, v11.toNat]
def k0_cond4 (i : grid0.Coords) : BitVec 1 :=
  let arg0 : BitVec 32 := BitVec.ofNat 32 (i 0).val
  let c48_i32_252 : BitVec 32 := 48#32
  let v761 : BitVec 1 := Scalar.cmpi .slt arg0 c48_i32_252
  let v762 : BitVec 32 := Scalar.extui v761
  let c0_i32_253 : BitVec 32 := 0#32
  let v763 : BitVec 1 := Scalar.cmpi .ne v762 c0_i32_253
  v763

def k0_mult29 (i : grid0.Coords) : BitVec 32 :=
  let arg0 : BitVec 32 := BitVec.ofNat 32 (i 0).val
  let c1_i32 : BitVec 32 := 1#32
  let v764 : BitVec 32 := Scalar.addi arg0 c1_i32
  let c47_i32 : BitVec 32 := 47#32
  let v765 : BitVec 32 := Scalar.minsi v764 c47_i32
  let c3_i32_255 : BitVec 32 := 3#32
  let v767 : BitVec 32 := Scalar.remsi v765 c3_i32_255
  let c256_i32_256 : BitVec 32 := 256#32
  let v768 : BitVec 32 := Scalar.muli v767 c256_i32_256
  v768
def k0_off57 (i : grid0.Coords) : Fin 3 → Nat :=
  let c0_i32_257 : BitVec 32 := 0#32
  let arg0 : BitVec 32 := BitVec.ofNat 32 (i 0).val
  let c1_i32 : BitVec 32 := 1#32
  let v764 : BitVec 32 := Scalar.addi arg0 c1_i32
  let c47_i32 : BitVec 32 := 47#32
  let v765 : BitVec 32 := Scalar.minsi v764 c47_i32
  let c3_i32_254 : BitVec 32 := 3#32
  let v766 : BitVec 32 := Scalar.divsi v765 c3_i32_254
  let c3_i32_255 : BitVec 32 := 3#32
  let v767 : BitVec 32 := Scalar.remsi v765 c3_i32_255
  let c256_i32_256 : BitVec 32 := 256#32
  let v768 : BitVec 32 := Scalar.muli v767 c256_i32_256
  let v769 : BitVec 32 := v768
  ![0, v766.toNat, v769.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c47_i32 : BitVec 32 := 47#32
  let v1 : BitVec 32 := Scalar.maxsi c0_i32_0 v0
  let v2 : BitVec 32 := Scalar.minsi c47_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

abbrev stage0_0 : Fin 1 → Memref sig .tc .smem S12x70 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8960 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S16x768x8960 : Shape := ⟨3, ![16, 768, 8960]⟩
abbrev S16x768x70 : Shape := ⟨3, ![16, 768, 70]⟩
abbrev S8960x1536 : Shape := ⟨2, ![8960, 1536]⟩
abbrev S70x12 : Shape := ⟨2, ![70, 12]⟩
abbrev S16x768x1536 : Shape := ⟨3, ![16, 768, 1536]⟩
abbrev S1536 : Shape := ⟨1, ![1536]⟩
abbrev S1536x2048 : Shape := ⟨2, ![1536, 2048]⟩
abbrev S12x16 : Shape := ⟨2, ![12, 16]⟩
abbrev S16x768 : Shape := ⟨2, ![16, 768]⟩
abbrev S128 : Shape := ⟨1, ![128]⟩
abbrev S12x70 : Shape := ⟨2, ![12, 70]⟩
abbrev S12288x8960 : Shape := ⟨2, ![12288, 8960]⟩
abbrev S70x16x768 : Shape := ⟨3, ![70, 16, 768]⟩
abbrev S12288x1536 : Shape := ⟨2, ![12288, 1536]⟩
abbrev S256x8960 : Shape := ⟨2, ![256, 8960]⟩
abbrev S256x1536 : Shape := ⟨2, ![256, 1536]⟩
abbrev S4480x1536 : Shape := ⟨2, ![4480, 1536]⟩
abbrev S4480x2x1536 : Shape := ⟨3, ![4480, 2, 1536]⟩
abbrev S4480x1x1536 : Shape := ⟨3, ![4480, 1, 1536]⟩
abbrev S2x256x2048 : Shape := ⟨3, ![2, 256, 2048]⟩
abbrev S70x256 : Shape := ⟨2, ![70, 256]⟩
abbrev S2 : Shape := ⟨1, ![2]⟩
abbrev S_ : Shape := ⟨0, ![]⟩
abbrev S70x1x256 : Shape := ⟨3, ![70, 1, 256]⟩
abbrev S1 : Shape := ⟨1, ![1]⟩
abbrev S1x256x1536 : Shape := ⟨3, ![1, 256, 1536]⟩
abbrev S1x1 : Shape := ⟨2, ![1, 1]⟩
abbrev S128x128 : Shape := ⟨2, ![128, 128]⟩
abbrev S1x128x128 : Shape := ⟨3, ![1, 128, 128]⟩
abbrev S64x128 : Shape := ⟨2, ![64, 128]⟩
abbrev S64x2x128 : Shape := ⟨3, ![64, 2, 128]⟩
abbrev S64x1x128 : Shape := ⟨3, ![64, 1, 128]⟩
abbrev S58x256 : Shape := ⟨2, ![58, 256]⟩
abbrev S128x256 : Shape := ⟨2, ![128, 256]⟩
abbrev S256x128 : Shape := ⟨2, ![256, 128]⟩
abbrev S256x1 : Shape := ⟨2, ![256, 1]⟩
abbrev S4480x512 : Shape := ⟨2, ![4480, 512]⟩
abbrev S4480x2x512 : Shape := ⟨3, ![4480, 2, 512]⟩
abbrev S4480x1x512 : Shape := ⟨3, ![4480, 1, 512]⟩
abbrev S8960x512 : Shape := ⟨2, ![8960, 512]⟩
abbrev S256x512 : Shape := ⟨2, ![256, 512]⟩

abbrev nBuf : Space → Nat
  | .hbm => 16
  | .vmem => 11
  | .smem => 1
  | _ => 0

abbrev bufTy : (tb : Table) → Fin (tcTables nBuf tb) → BufTy
  | .hbm, ⟨0, _⟩ => ⟨S16x768x8960, .fp8e4m3⟩
  | .hbm, ⟨1, _⟩ => ⟨S16x768x70, .f32⟩
  | .hbm, ⟨2, _⟩ => ⟨S8960x1536, .fp8e4m3⟩
  | .hbm, ⟨3, _⟩ => ⟨S70x12, .f32⟩
  | .hbm, ⟨4, _⟩ => ⟨S16x768x1536, .bf16⟩
  | .hbm, ⟨5, _⟩ => ⟨S1536, .f32⟩
  | .hbm, ⟨6, _⟩ => ⟨S1536x2048, .fp8e4m3⟩
  | .hbm, ⟨7, _⟩ => ⟨S12x16, .f32⟩
  | .hbm, ⟨8, _⟩ => ⟨S16x768, .i32⟩
  | .hbm, ⟨9, _⟩ => ⟨S128, .f32⟩
  | .hbm, ⟨10, _⟩ => ⟨S128, .f32⟩
  | .hbm, ⟨11, _⟩ => ⟨S12x70, .f32⟩
  | .hbm, ⟨12, _⟩ => ⟨S12288x8960, .fp8e4m3⟩
  | .hbm, ⟨13, _⟩ => ⟨S70x16x768, .f32⟩
  | .hbm, ⟨14, _⟩ => ⟨S12288x1536, .bf16⟩
  | .hbm, ⟨15, _⟩ => ⟨S12288x1536, .bf16⟩
  | .local _ .vmem, ⟨0, _⟩ => ⟨S256x8960, .fp8e4m3⟩
  | .local _ .vmem, ⟨1, _⟩ => ⟨S256x8960, .fp8e4m3⟩
  | .local _ .vmem, ⟨2, _⟩ => ⟨S256x1536, .bf16⟩
  | .local _ .vmem, ⟨3, _⟩ => ⟨S256x1536, .bf16⟩
  | .local _ .vmem, ⟨4, _⟩ => ⟨S256x1536, .bf16⟩
  | .local _ .vmem, ⟨5, _⟩ => ⟨S256x1536, .bf16⟩
  | .local _ .vmem, ⟨6, _⟩ => ⟨S4480x2x1536, .bf16⟩
  | .local _ .vmem, ⟨7, _⟩ => ⟨S256x8960, .bf16⟩
  | .local _ .vmem, ⟨8, _⟩ => ⟨S256x1536, .f32⟩
  | .local _ .vmem, ⟨9, _⟩ => ⟨S2x256x2048, .fp8e4m3⟩
  | .local _ .vmem, ⟨10, _⟩ => ⟨S70x256, .f32⟩
  | .local _ .smem, ⟨0, _⟩ => ⟨S12x70, .f32⟩
  | _, _ => ⟨S16x768x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_4 : BitVec 32 := 0#32
  let c3_i32_5 : BitVec 32 := 3#32
  let v9 : BitVec 32 := Scalar.remsi c0_i32_4 c3_i32_5
  let c256_i32 : BitVec 32 := 256#32
  let v10 : BitVec 32 := Scalar.muli v9 c256_i32
  v10
def k0_off1 (c0_i32_3 : BitVec 32) (c0_i32_4 : BitVec 32) : Fin 3 → Nat :=
  let c0_i32_6 : BitVec 32 := 0#32
  let c3_i32 : BitVec 32 := 3#32
  let v8 : BitVec 32 := Scalar.divsi c0_i32_3 c3_i32
  let c3_i32_5 : BitVec 32 := 3#32
  let v9 : BitVec 32 := Scalar.remsi c0_i32_4 c3_i32_5
  let c256_i32 : BitVec 32 := 256#32
  let v10 : BitVec 32 := Scalar.muli v9 c256_i32
  let v11 : BitVec 32 := v10
  ![0, v8.toNat, v11.toNat]
def k0_off1_at (r : Fin 2) : BitVec 32 × BitVec 32 :=
  if r.val < 1 then
    (0#32, 0#32)
  else
    (1#32, 1#32)
@[reducible] def k0_t1_loop : Scf.Loop 32 :=
  let c0_i32_13 : BitVec 32 := 0#32
  let c35_i32 : BitVec 32 := 35#32
  let v19 : BitVec 32 := Scalar.addi c0_i32_13 c35_i32
  let c1_i32 : BitVec 32 := 1#32
  ⟨c0_i32_13, v19, c1_i32⟩
def k0_cond2 (k0_t1 : Fin k0_t1_loop.trips) : BitVec 1 :=
  let c0_i32_13 : BitVec 32 := 0#32
  let c1_i32 : BitVec 32 := 1#32
  let arg14 : BitVec 32 := Scf.iv c0_i32_13 c1_i32 k0_t1
  let c1_i32_242 : BitVec 32 := 1#32
  let v742 : BitVec 32 := Scalar.addi arg14 c1_i32_242
  let c35_i32_243 : BitVec 32 := 35#32
  let v743 : BitVec 1 := Scalar.cmpi .slt v742 c35_i32_243
  let v744 : BitVec 32 := Scalar.extui v743
  let c0_i32_244 : BitVec 32 := 0#32
  let v745 : BitVec 1 := Scalar.cmpi .ne v744 c0_i32_244
  v745

def k0_off2 (k0_t1 : Fin k0_t1_loop.trips) : Fin 1 → Nat :=
  let c1_i32_598 : BitVec 32 := 1#32
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1617 : BitVec 32 := Scalar.subi c1_i32_598 v741
  ![v1617.toNat]
def k0_off3 (k0_t1 : Fin k0_t1_loop.trips) : Fin 3 → Nat :=
  let c1_i32_598 : BitVec 32 := 1#32
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1617 : BitVec 32 := Scalar.subi c1_i32_598 v741
  let c0_i32_600 : BitVec 32 := 0#32
  let c0_i32_601 : BitVec 32 := 0#32
  ![v1617.toNat, 0, 0]
def k0_off4 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c1_i32_597 : BitVec 32 := 1#32
  let v1616 : BitVec 32 := Scalar.addi arg14 c1_i32_597
  let c256_i32_599 : BitVec 32 := 256#32
  let v1618 : BitVec 32 := Scalar.muli v1616 c256_i32_599
  let c0_i32_602 : BitVec 32 := 0#32
  ![v1618.toNat, 0]
def k0_off5 (k0_t1 : Fin k0_t1_loop.trips) : Fin 1 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  ![v741.toNat]
def k0_off6 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let c0_i32_246 : BitVec 32 := 0#32
  let c0_i32_247 : BitVec 32 := 0#32
  ![v741.toNat, 0, 0]
def k0_off7 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c256_i32_245 : BitVec 32 := 256#32
  let v746 : BitVec 32 := Scalar.muli arg14 c256_i32_245
  let c0_i32_248 : BitVec 32 := 0#32
  ![v746.toNat, 0]
def k0_off8 (k0_t1 : Fin k0_t1_loop.trips) (c0_i32_250 : BitVec 32) : Fin 2 → Nat :=
  let c0_251 : Index := 0#32
  let c0_i32_13 : BitVec 32 := 0#32
  let c1_i32 : BitVec 32 := 1#32
  let arg14 : BitVec 32 := Scf.iv c0_i32_13 c1_i32 k0_t1
  let c2_i32_249 : BitVec 32 := 2#32
  let v752 : BitVec 32 := Scalar.muli arg14 c2_i32_249
  let v753 : BitVec 32 := Scalar.addi v752 c0_i32_250
  let v754 : Index := Scalar.indexCast v753
  ![0, v754.toNat]
def k0_off9 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v757 : Index := Scalar.indexCast v741
  let c0_252 : Index := 0#32
  let c0_253 : Index := 0#32
  ![v757.toNat, 0, 0]
def k0_mult2 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_254 : BitVec 32 := 256#32
  let v761 : BitVec 32 := Scalar.muli arg14 c256_i32_254
  let c0_i32_255 : BitVec 32 := 0#32
  let v762 : BitVec 32 := Scalar.addi v761 c0_i32_255
  let c0_i32_257 : BitVec 32 := 0#32
  let v764 : BitVec 1 := Scalar.cmpi .sgt v762 c0_i32_257
  let v765 : BitVec 32 := Scalar.extui v764
  let c0_i32_258 : BitVec 32 := 0#32
  let v766 : BitVec 1 := Scalar.cmpi .slt v762 c0_i32_258
  let v767 : BitVec 32 := Scalar.extui v766
  let v768 : BitVec 32 := Scalar.subi v765 v767
  let c2_i32_256 : BitVec 32 := 2#32
  let c0_i32_259 : BitVec 32 := 0#32
  let v769 : BitVec 1 := Scalar.cmpi .sgt c2_i32_256 c0_i32_259
  let v770 : BitVec 32 := Scalar.extui v769
  let c0_i32_260 : BitVec 32 := 0#32
  let v771 : BitVec 1 := Scalar.cmpi .slt c2_i32_256 c0_i32_260
  let v772 : BitVec 32 := Scalar.extui v771
  let v773 : BitVec 32 := Scalar.subi v770 v772
  let v774 : BitVec 1 := Scalar.cmpi .ne v768 v773
  let v775 : BitVec 32 := Scalar.remsi v762 c2_i32_256
  let c0_i32_261 : BitVec 32 := 0#32
  let v776 : BitVec 1 := Scalar.cmpi .ne v775 c0_i32_261
  let v777 : BitVec 1 := Scalar.andi v774 v776
  let v763 : BitVec 32 := Scalar.divsi v762 c2_i32_256
  let c1_i32_262 : BitVec 32 := 1#32
  let v778 : BitVec 32 := Scalar.subi v763 c1_i32_262
  let v779 : BitVec 32 := Scalar.select v777 v778 v763
  v779
def k0_off10 (k0_t1 : Fin k0_t1_loop.trips) (c0_i32_255 : BitVec 32) : Fin 3 → Nat :=
  let c0_i32_13 : BitVec 32 := 0#32
  let c1_i32 : BitVec 32 := 1#32
  let arg14 : BitVec 32 := Scf.iv c0_i32_13 c1_i32 k0_t1
  let c256_i32_254 : BitVec 32 := 256#32
  let v761 : BitVec 32 := Scalar.muli arg14 c256_i32_254
  let v762 : BitVec 32 := Scalar.addi v761 c0_i32_255
  let c0_i32_257 : BitVec 32 := 0#32
  let v764 : BitVec 1 := Scalar.cmpi .sgt v762 c0_i32_257
  let v765 : BitVec 32 := Scalar.extui v764
  let c0_i32_258 : BitVec 32 := 0#32
  let v766 : BitVec 1 := Scalar.cmpi .slt v762 c0_i32_258
  let v767 : BitVec 32 := Scalar.extui v766
  let v768 : BitVec 32 := Scalar.subi v765 v767
  let c2_i32_256 : BitVec 32 := 2#32
  let c0_i32_259 : BitVec 32 := 0#32
  let v769 : BitVec 1 := Scalar.cmpi .sgt c2_i32_256 c0_i32_259
  let v770 : BitVec 32 := Scalar.extui v769
  let c0_i32_260 : BitVec 32 := 0#32
  let v771 : BitVec 1 := Scalar.cmpi .slt c2_i32_256 c0_i32_260
  let v772 : BitVec 32 := Scalar.extui v771
  let v773 : BitVec 32 := Scalar.subi v770 v772
  let v774 : BitVec 1 := Scalar.cmpi .ne v768 v773
  let v775 : BitVec 32 := Scalar.remsi v762 c2_i32_256
  let c0_i32_261 : BitVec 32 := 0#32
  let v776 : BitVec 1 := Scalar.cmpi .ne v775 c0_i32_261
  let v777 : BitVec 1 := Scalar.andi v774 v776
  let v763 : BitVec 32 := Scalar.divsi v762 c2_i32_256
  let c1_i32_262 : BitVec 32 := 1#32
  let v778 : BitVec 32 := Scalar.subi v763 c1_i32_262
  let v779 : BitVec 32 := Scalar.select v777 v778 v763
  let v780 : BitVec 32 := v779
  let v784 : Index := Scalar.indexCast v780
  let c0_263 : Index := 0#32
  ![v784.toNat, 0, 0]
def k0_off11 (k0_t1 : Fin k0_t1_loop.trips) (c0_i32_265 : BitVec 32) : Fin 2 → Nat :=
  let c1 : Index := 1#32
  let c0_i32_13 : BitVec 32 := 0#32
  let c1_i32 : BitVec 32 := 1#32
  let arg14 : BitVec 32 := Scf.iv c0_i32_13 c1_i32 k0_t1
  let c2_i32_264 : BitVec 32 := 2#32
  let v788 : BitVec 32 := Scalar.muli arg14 c2_i32_264
  let v789 : BitVec 32 := Scalar.addi v788 c0_i32_265
  let v790 : Index := Scalar.indexCast v789
  ![1, v790.toNat]
def k0_off12 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v793 : Index := Scalar.indexCast v741
  let c0_266 : Index := 0#32
  let c128_267 : Index := 128#32
  ![v793.toNat, 0, 128]
def k0_mult3 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_268 : BitVec 32 := 256#32
  let v797 : BitVec 32 := Scalar.muli arg14 c256_i32_268
  let c0_i32_269 : BitVec 32 := 0#32
  let v798 : BitVec 32 := Scalar.addi v797 c0_i32_269
  let c0_i32_271 : BitVec 32 := 0#32
  let v800 : BitVec 1 := Scalar.cmpi .sgt v798 c0_i32_271
  let v801 : BitVec 32 := Scalar.extui v800
  let c0_i32_272 : BitVec 32 := 0#32
  let v802 : BitVec 1 := Scalar.cmpi .slt v798 c0_i32_272
  let v803 : BitVec 32 := Scalar.extui v802
  let v804 : BitVec 32 := Scalar.subi v801 v803
  let c2_i32_270 : BitVec 32 := 2#32
  let c0_i32_273 : BitVec 32 := 0#32
  let v805 : BitVec 1 := Scalar.cmpi .sgt c2_i32_270 c0_i32_273
  let v806 : BitVec 32 := Scalar.extui v805
  let c0_i32_274 : BitVec 32 := 0#32
  let v807 : BitVec 1 := Scalar.cmpi .slt c2_i32_270 c0_i32_274
  let v808 : BitVec 32 := Scalar.extui v807
  let v809 : BitVec 32 := Scalar.subi v806 v808
  let v810 : BitVec 1 := Scalar.cmpi .ne v804 v809
  let v811 : BitVec 32 := Scalar.remsi v798 c2_i32_270
  let c0_i32_275 : BitVec 32 := 0#32
  let v812 : BitVec 1 := Scalar.cmpi .ne v811 c0_i32_275
  let v813 : BitVec 1 := Scalar.andi v810 v812
  let v799 : BitVec 32 := Scalar.divsi v798 c2_i32_270
  let c1_i32_276 : BitVec 32 := 1#32
  let v814 : BitVec 32 := Scalar.subi v799 c1_i32_276
  let v815 : BitVec 32 := Scalar.select v813 v814 v799
  v815
def k0_off13 (k0_t1 : Fin k0_t1_loop.trips) (c0_i32_269 : BitVec 32) : Fin 3 → Nat :=
  let c0_i32_13 : BitVec 32 := 0#32
  let c1_i32 : BitVec 32 := 1#32
  let arg14 : BitVec 32 := Scf.iv c0_i32_13 c1_i32 k0_t1
  let c256_i32_268 : BitVec 32 := 256#32
  let v797 : BitVec 32 := Scalar.muli arg14 c256_i32_268
  let v798 : BitVec 32 := Scalar.addi v797 c0_i32_269
  let c0_i32_271 : BitVec 32 := 0#32
  let v800 : BitVec 1 := Scalar.cmpi .sgt v798 c0_i32_271
  let v801 : BitVec 32 := Scalar.extui v800
  let c0_i32_272 : BitVec 32 := 0#32
  let v802 : BitVec 1 := Scalar.cmpi .slt v798 c0_i32_272
  let v803 : BitVec 32 := Scalar.extui v802
  let v804 : BitVec 32 := Scalar.subi v801 v803
  let c2_i32_270 : BitVec 32 := 2#32
  let c0_i32_273 : BitVec 32 := 0#32
  let v805 : BitVec 1 := Scalar.cmpi .sgt c2_i32_270 c0_i32_273
  let v806 : BitVec 32 := Scalar.extui v805
  let c0_i32_274 : BitVec 32 := 0#32
  let v807 : BitVec 1 := Scalar.cmpi .slt c2_i32_270 c0_i32_274
  let v808 : BitVec 32 := Scalar.extui v807
  let v809 : BitVec 32 := Scalar.subi v806 v808
  let v810 : BitVec 1 := Scalar.cmpi .ne v804 v809
  let v811 : BitVec 32 := Scalar.remsi v798 c2_i32_270
  let c0_i32_275 : BitVec 32 := 0#32
  let v812 : BitVec 1 := Scalar.cmpi .ne v811 c0_i32_275
  let v813 : BitVec 1 := Scalar.andi v810 v812
  let v799 : BitVec 32 := Scalar.divsi v798 c2_i32_270
  let c1_i32_276 : BitVec 32 := 1#32
  let v814 : BitVec 32 := Scalar.subi v799 c1_i32_276
  let v815 : BitVec 32 := Scalar.select v813 v814 v799
  let v816 : BitVec 32 := v815
  let v820 : Index := Scalar.indexCast v816
  let c128_277 : Index := 128#32
  ![v820.toNat, 0, 128]
def k0_off14 (k0_t1 : Fin k0_t1_loop.trips) (c0_i32_279 : BitVec 32) : Fin 2 → Nat :=
  let c2 : Index := 2#32
  let c0_i32_13 : BitVec 32 := 0#32
  let c1_i32 : BitVec 32 := 1#32
  let arg14 : BitVec 32 := Scf.iv c0_i32_13 c1_i32 k0_t1
  let c2_i32_278 : BitVec 32 := 2#32
  let v824 : BitVec 32 := Scalar.muli arg14 c2_i32_278
  let v825 : BitVec 32 := Scalar.addi v824 c0_i32_279
  let v826 : Index := Scalar.indexCast v825
  ![2, v826.toNat]
def k0_off15 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v829 : Index := Scalar.indexCast v741
  let c0_280 : Index := 0#32
  let c256_281 : Index := 256#32
  ![v829.toNat, 0, 256]
def k0_mult4 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_282 : BitVec 32 := 256#32
  let v833 : BitVec 32 := Scalar.muli arg14 c256_i32_282
  let c0_i32_283 : BitVec 32 := 0#32
  let v834 : BitVec 32 := Scalar.addi v833 c0_i32_283
  let c0_i32_285 : BitVec 32 := 0#32
  let v836 : BitVec 1 := Scalar.cmpi .sgt v834 c0_i32_285
  let v837 : BitVec 32 := Scalar.extui v836
  let c0_i32_286 : BitVec 32 := 0#32
  let v838 : BitVec 1 := Scalar.cmpi .slt v834 c0_i32_286
  let v839 : BitVec 32 := Scalar.extui v838
  let v840 : BitVec 32 := Scalar.subi v837 v839
  let c2_i32_284 : BitVec 32 := 2#32
  let c0_i32_287 : BitVec 32 := 0#32
  let v841 : BitVec 1 := Scalar.cmpi .sgt c2_i32_284 c0_i32_287
  let v842 : BitVec 32 := Scalar.extui v841
  let c0_i32_288 : BitVec 32 := 0#32
  let v843 : BitVec 1 := Scalar.cmpi .slt c2_i32_284 c0_i32_288
  let v844 : BitVec 32 := Scalar.extui v843
  let v845 : BitVec 32 := Scalar.subi v842 v844
  let v846 : BitVec 1 := Scalar.cmpi .ne v840 v845
  let v847 : BitVec 32 := Scalar.remsi v834 c2_i32_284
  let c0_i32_289 : BitVec 32 := 0#32
  let v848 : BitVec 1 := Scalar.cmpi .ne v847 c0_i32_289
  let v849 : BitVec 1 := Scalar.andi v846 v848
  let v835 : BitVec 32 := Scalar.divsi v834 c2_i32_284
  let c1_i32_290 : BitVec 32 := 1#32
  let v850 : BitVec 32 := Scalar.subi v835 c1_i32_290
  let v851 : BitVec 32 := Scalar.select v849 v850 v835
  v851
def k0_off16 (k0_t1 : Fin k0_t1_loop.trips) (c0_i32_283 : BitVec 32) : Fin 3 → Nat :=
  let c0_i32_13 : BitVec 32 := 0#32
  let c1_i32 : BitVec 32 := 1#32
  let arg14 : BitVec 32 := Scf.iv c0_i32_13 c1_i32 k0_t1
  let c256_i32_282 : BitVec 32 := 256#32
  let v833 : BitVec 32 := Scalar.muli arg14 c256_i32_282
  let v834 : BitVec 32 := Scalar.addi v833 c0_i32_283
  let c0_i32_285 : BitVec 32 := 0#32
  let v836 : BitVec 1 := Scalar.cmpi .sgt v834 c0_i32_285
  let v837 : BitVec 32 := Scalar.extui v836
  let c0_i32_286 : BitVec 32 := 0#32
  let v838 : BitVec 1 := Scalar.cmpi .slt v834 c0_i32_286
  let v839 : BitVec 32 := Scalar.extui v838
  let v840 : BitVec 32 := Scalar.subi v837 v839
  let c2_i32_284 : BitVec 32 := 2#32
  let c0_i32_287 : BitVec 32 := 0#32
  let v841 : BitVec 1 := Scalar.cmpi .sgt c2_i32_284 c0_i32_287
  let v842 : BitVec 32 := Scalar.extui v841
  let c0_i32_288 : BitVec 32 := 0#32
  let v843 : BitVec 1 := Scalar.cmpi .slt c2_i32_284 c0_i32_288
  let v844 : BitVec 32 := Scalar.extui v843
  let v845 : BitVec 32 := Scalar.subi v842 v844
  let v846 : BitVec 1 := Scalar.cmpi .ne v840 v845
  let v847 : BitVec 32 := Scalar.remsi v834 c2_i32_284
  let c0_i32_289 : BitVec 32 := 0#32
  let v848 : BitVec 1 := Scalar.cmpi .ne v847 c0_i32_289
  let v849 : BitVec 1 := Scalar.andi v846 v848
  let v835 : BitVec 32 := Scalar.divsi v834 c2_i32_284
  let c1_i32_290 : BitVec 32 := 1#32
  let v850 : BitVec 32 := Scalar.subi v835 c1_i32_290
  let v851 : BitVec 32 := Scalar.select v849 v850 v835
  let v852 : BitVec 32 := v851
  let v856 : Index := Scalar.indexCast v852
  let c256_291 : Index := 256#32
  ![v856.toNat, 0, 256]
def k0_off17 (k0_t1 : Fin k0_t1_loop.trips) (c0_i32_293 : BitVec 32) : Fin 2 → Nat :=
  let c3 : Index := 3#32
  let c0_i32_13 : BitVec 32 := 0#32
  let c1_i32 : BitVec 32 := 1#32
  let arg14 : BitVec 32 := Scf.iv c0_i32_13 c1_i32 k0_t1
  let c2_i32_292 : BitVec 32 := 2#32
  let v860 : BitVec 32 := Scalar.muli arg14 c2_i32_292
  let v861 : BitVec 32 := Scalar.addi v860 c0_i32_293
  let v862 : Index := Scalar.indexCast v861
  ![3, v862.toNat]
def k0_off18 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v865 : Index := Scalar.indexCast v741
  let c0_294 : Index := 0#32
  let c384_295 : Index := 384#32
  ![v865.toNat, 0, 384]
def k0_mult5 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_296 : BitVec 32 := 256#32
  let v869 : BitVec 32 := Scalar.muli arg14 c256_i32_296
  let c0_i32_297 : BitVec 32 := 0#32
  let v870 : BitVec 32 := Scalar.addi v869 c0_i32_297
  let c0_i32_299 : BitVec 32 := 0#32
  let v872 : BitVec 1 := Scalar.cmpi .sgt v870 c0_i32_299
  let v873 : BitVec 32 := Scalar.extui v872
  let c0_i32_300 : BitVec 32 := 0#32
  let v874 : BitVec 1 := Scalar.cmpi .slt v870 c0_i32_300
  let v875 : BitVec 32 := Scalar.extui v874
  let v876 : BitVec 32 := Scalar.subi v873 v875
  let c2_i32_298 : BitVec 32 := 2#32
  let c0_i32_301 : BitVec 32 := 0#32
  let v877 : BitVec 1 := Scalar.cmpi .sgt c2_i32_298 c0_i32_301
  let v878 : BitVec 32 := Scalar.extui v877
  let c0_i32_302 : BitVec 32 := 0#32
  let v879 : BitVec 1 := Scalar.cmpi .slt c2_i32_298 c0_i32_302
  let v880 : BitVec 32 := Scalar.extui v879
  let v881 : BitVec 32 := Scalar.subi v878 v880
  let v882 : BitVec 1 := Scalar.cmpi .ne v876 v881
  let v883 : BitVec 32 := Scalar.remsi v870 c2_i32_298
  let c0_i32_303 : BitVec 32 := 0#32
  let v884 : BitVec 1 := Scalar.cmpi .ne v883 c0_i32_303
  let v885 : BitVec 1 := Scalar.andi v882 v884
  let v871 : BitVec 32 := Scalar.divsi v870 c2_i32_298
  let c1_i32_304 : BitVec 32 := 1#32
  let v886 : BitVec 32 := Scalar.subi v871 c1_i32_304
  let v887 : BitVec 32 := Scalar.select v885 v886 v871
  v887
def k0_off19 (k0_t1 : Fin k0_t1_loop.trips) (c0_i32_297 : BitVec 32) : Fin 3 → Nat :=
  let c0_i32_13 : BitVec 32 := 0#32
  let c1_i32 : BitVec 32 := 1#32
  let arg14 : BitVec 32 := Scf.iv c0_i32_13 c1_i32 k0_t1
  let c256_i32_296 : BitVec 32 := 256#32
  let v869 : BitVec 32 := Scalar.muli arg14 c256_i32_296
  let v870 : BitVec 32 := Scalar.addi v869 c0_i32_297
  let c0_i32_299 : BitVec 32 := 0#32
  let v872 : BitVec 1 := Scalar.cmpi .sgt v870 c0_i32_299
  let v873 : BitVec 32 := Scalar.extui v872
  let c0_i32_300 : BitVec 32 := 0#32
  let v874 : BitVec 1 := Scalar.cmpi .slt v870 c0_i32_300
  let v875 : BitVec 32 := Scalar.extui v874
  let v876 : BitVec 32 := Scalar.subi v873 v875
  let c2_i32_298 : BitVec 32 := 2#32
  let c0_i32_301 : BitVec 32 := 0#32
  let v877 : BitVec 1 := Scalar.cmpi .sgt c2_i32_298 c0_i32_301
  let v878 : BitVec 32 := Scalar.extui v877
  let c0_i32_302 : BitVec 32 := 0#32
  let v879 : BitVec 1 := Scalar.cmpi .slt c2_i32_298 c0_i32_302
  let v880 : BitVec 32 := Scalar.extui v879
  let v881 : BitVec 32 := Scalar.subi v878 v880
  let v882 : BitVec 1 := Scalar.cmpi .ne v876 v881
  let v883 : BitVec 32 := Scalar.remsi v870 c2_i32_298
  let c0_i32_303 : BitVec 32 := 0#32
  let v884 : BitVec 1 := Scalar.cmpi .ne v883 c0_i32_303
  let v885 : BitVec 1 := Scalar.andi v882 v884
  let v871 : BitVec 32 := Scalar.divsi v870 c2_i32_298
  let c1_i32_304 : BitVec 32 := 1#32
  let v886 : BitVec 32 := Scalar.subi v871 c1_i32_304
  let v887 : BitVec 32 := Scalar.select v885 v886 v871
  let v888 : BitVec 32 := v887
  let v892 : Index := Scalar.indexCast v888
  let c384_305 : Index := 384#32
  ![v892.toNat, 0, 384]
def k0_off20 (k0_t1 : Fin k0_t1_loop.trips) (c0_i32_307 : BitVec 32) : Fin 2 → Nat :=
  let c4 : Index := 4#32
  let c0_i32_13 : BitVec 32 := 0#32
  let c1_i32 : BitVec 32 := 1#32
  let arg14 : BitVec 32 := Scf.iv c0_i32_13 c1_i32 k0_t1
  let c2_i32_306 : BitVec 32 := 2#32
  let v896 : BitVec 32 := Scalar.muli arg14 c2_i32_306
  let v897 : BitVec 32 := Scalar.addi v896 c0_i32_307
  let v898 : Index := Scalar.indexCast v897
  ![4, v898.toNat]
def k0_off21 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v901 : Index := Scalar.indexCast v741
  let c0_308 : Index := 0#32
  let c512_309 : Index := 512#32
  ![v901.toNat, 0, 512]
def k0_mult6 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_310 : BitVec 32 := 256#32
  let v905 : BitVec 32 := Scalar.muli arg14 c256_i32_310
  let c0_i32_311 : BitVec 32 := 0#32
  let v906 : BitVec 32 := Scalar.addi v905 c0_i32_311
  let c0_i32_313 : BitVec 32 := 0#32
  let v908 : BitVec 1 := Scalar.cmpi .sgt v906 c0_i32_313
  let v909 : BitVec 32 := Scalar.extui v908
  let c0_i32_314 : BitVec 32 := 0#32
  let v910 : BitVec 1 := Scalar.cmpi .slt v906 c0_i32_314
  let v911 : BitVec 32 := Scalar.extui v910
  let v912 : BitVec 32 := Scalar.subi v909 v911
  let c2_i32_312 : BitVec 32 := 2#32
  let c0_i32_315 : BitVec 32 := 0#32
  let v913 : BitVec 1 := Scalar.cmpi .sgt c2_i32_312 c0_i32_315
  let v914 : BitVec 32 := Scalar.extui v913
  let c0_i32_316 : BitVec 32 := 0#32
  let v915 : BitVec 1 := Scalar.cmpi .slt c2_i32_312 c0_i32_316
  let v916 : BitVec 32 := Scalar.extui v915
  let v917 : BitVec 32 := Scalar.subi v914 v916
  let v918 : BitVec 1 := Scalar.cmpi .ne v912 v917
  let v919 : BitVec 32 := Scalar.remsi v906 c2_i32_312
  let c0_i32_317 : BitVec 32 := 0#32
  let v920 : BitVec 1 := Scalar.cmpi .ne v919 c0_i32_317
  let v921 : BitVec 1 := Scalar.andi v918 v920
  let v907 : BitVec 32 := Scalar.divsi v906 c2_i32_312
  let c1_i32_318 : BitVec 32 := 1#32
  let v922 : BitVec 32 := Scalar.subi v907 c1_i32_318
  let v923 : BitVec 32 := Scalar.select v921 v922 v907
  v923
def k0_off22 (k0_t1 : Fin k0_t1_loop.trips) (c0_i32_311 : BitVec 32) : Fin 3 → Nat :=
  let c0_i32_13 : BitVec 32 := 0#32
  let c1_i32 : BitVec 32 := 1#32
  let arg14 : BitVec 32 := Scf.iv c0_i32_13 c1_i32 k0_t1
  let c256_i32_310 : BitVec 32 := 256#32
  let v905 : BitVec 32 := Scalar.muli arg14 c256_i32_310
  let v906 : BitVec 32 := Scalar.addi v905 c0_i32_311
  let c0_i32_313 : BitVec 32 := 0#32
  let v908 : BitVec 1 := Scalar.cmpi .sgt v906 c0_i32_313
  let v909 : BitVec 32 := Scalar.extui v908
  let c0_i32_314 : BitVec 32 := 0#32
  let v910 : BitVec 1 := Scalar.cmpi .slt v906 c0_i32_314
  let v911 : BitVec 32 := Scalar.extui v910
  let v912 : BitVec 32 := Scalar.subi v909 v911
  let c2_i32_312 : BitVec 32 := 2#32
  let c0_i32_315 : BitVec 32 := 0#32
  let v913 : BitVec 1 := Scalar.cmpi .sgt c2_i32_312 c0_i32_315
  let v914 : BitVec 32 := Scalar.extui v913
  let c0_i32_316 : BitVec 32 := 0#32
  let v915 : BitVec 1 := Scalar.cmpi .slt c2_i32_312 c0_i32_316
  let v916 : BitVec 32 := Scalar.extui v915
  let v917 : BitVec 32 := Scalar.subi v914 v916
  let v918 : BitVec 1 := Scalar.cmpi .ne v912 v917
  let v919 : BitVec 32 := Scalar.remsi v906 c2_i32_312
  let c0_i32_317 : BitVec 32 := 0#32
  let v920 : BitVec 1 := Scalar.cmpi .ne v919 c0_i32_317
  let v921 : BitVec 1 := Scalar.andi v918 v920
  let v907 : BitVec 32 := Scalar.divsi v906 c2_i32_312
  let c1_i32_318 : BitVec 32 := 1#32
  let v922 : BitVec 32 := Scalar.subi v907 c1_i32_318
  let v923 : BitVec 32 := Scalar.select v921 v922 v907
  let v924 : BitVec 32 := v923
  let v928 : Index := Scalar.indexCast v924
  let c512_319 : Index := 512#32
  ![v928.toNat, 0, 512]
def k0_off23 (k0_t1 : Fin k0_t1_loop.trips) (c0_i32_321 : BitVec 32) : Fin 2 → Nat :=
  let c5 : Index := 5#32
  let c0_i32_13 : BitVec 32 := 0#32
  let c1_i32 : BitVec 32 := 1#32
  let arg14 : BitVec 32 := Scf.iv c0_i32_13 c1_i32 k0_t1
  let c2_i32_320 : BitVec 32 := 2#32
  let v932 : BitVec 32 := Scalar.muli arg14 c2_i32_320
  let v933 : BitVec 32 := Scalar.addi v932 c0_i32_321
  let v934 : Index := Scalar.indexCast v933
  ![5, v934.toNat]
def k0_off24 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v937 : Index := Scalar.indexCast v741
  let c0_322 : Index := 0#32
  let c640_323 : Index := 640#32
  ![v937.toNat, 0, 640]
def k0_mult7 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_324 : BitVec 32 := 256#32
  let v941 : BitVec 32 := Scalar.muli arg14 c256_i32_324
  let c0_i32_325 : BitVec 32 := 0#32
  let v942 : BitVec 32 := Scalar.addi v941 c0_i32_325
  let c0_i32_327 : BitVec 32 := 0#32
  let v944 : BitVec 1 := Scalar.cmpi .sgt v942 c0_i32_327
  let v945 : BitVec 32 := Scalar.extui v944
  let c0_i32_328 : BitVec 32 := 0#32
  let v946 : BitVec 1 := Scalar.cmpi .slt v942 c0_i32_328
  let v947 : BitVec 32 := Scalar.extui v946
  let v948 : BitVec 32 := Scalar.subi v945 v947
  let c2_i32_326 : BitVec 32 := 2#32
  let c0_i32_329 : BitVec 32 := 0#32
  let v949 : BitVec 1 := Scalar.cmpi .sgt c2_i32_326 c0_i32_329
  let v950 : BitVec 32 := Scalar.extui v949
  let c0_i32_330 : BitVec 32 := 0#32
  let v951 : BitVec 1 := Scalar.cmpi .slt c2_i32_326 c0_i32_330
  let v952 : BitVec 32 := Scalar.extui v951
  let v953 : BitVec 32 := Scalar.subi v950 v952
  let v954 : BitVec 1 := Scalar.cmpi .ne v948 v953
  let v955 : BitVec 32 := Scalar.remsi v942 c2_i32_326
  let c0_i32_331 : BitVec 32 := 0#32
  let v956 : BitVec 1 := Scalar.cmpi .ne v955 c0_i32_331
  let v957 : BitVec 1 := Scalar.andi v954 v956
  let v943 : BitVec 32 := Scalar.divsi v942 c2_i32_326
  let c1_i32_332 : BitVec 32 := 1#32
  let v958 : BitVec 32 := Scalar.subi v943 c1_i32_332
  let v959 : BitVec 32 := Scalar.select v957 v958 v943
  v959
def k0_off25 (k0_t1 : Fin k0_t1_loop.trips) (c0_i32_325 : BitVec 32) : Fin 3 → Nat :=
  let c0_i32_13 : BitVec 32 := 0#32
  let c1_i32 : BitVec 32 := 1#32
  let arg14 : BitVec 32 := Scf.iv c0_i32_13 c1_i32 k0_t1
  let c256_i32_324 : BitVec 32 := 256#32
  let v941 : BitVec 32 := Scalar.muli arg14 c256_i32_324
  let v942 : BitVec 32 := Scalar.addi v941 c0_i32_325
  let c0_i32_327 : BitVec 32 := 0#32
  let v944 : BitVec 1 := Scalar.cmpi .sgt v942 c0_i32_327
  let v945 : BitVec 32 := Scalar.extui v944
  let c0_i32_328 : BitVec 32 := 0#32
  let v946 : BitVec 1 := Scalar.cmpi .slt v942 c0_i32_328
  let v947 : BitVec 32 := Scalar.extui v946
  let v948 : BitVec 32 := Scalar.subi v945 v947
  let c2_i32_326 : BitVec 32 := 2#32
  let c0_i32_329 : BitVec 32 := 0#32
  let v949 : BitVec 1 := Scalar.cmpi .sgt c2_i32_326 c0_i32_329
  let v950 : BitVec 32 := Scalar.extui v949
  let c0_i32_330 : BitVec 32 := 0#32
  let v951 : BitVec 1 := Scalar.cmpi .slt c2_i32_326 c0_i32_330
  let v952 : BitVec 32 := Scalar.extui v951
  let v953 : BitVec 32 := Scalar.subi v950 v952
  let v954 : BitVec 1 := Scalar.cmpi .ne v948 v953
  let v955 : BitVec 32 := Scalar.remsi v942 c2_i32_326
  let c0_i32_331 : BitVec 32 := 0#32
  let v956 : BitVec 1 := Scalar.cmpi .ne v955 c0_i32_331
  let v957 : BitVec 1 := Scalar.andi v954 v956
  let v943 : BitVec 32 := Scalar.divsi v942 c2_i32_326
  let c1_i32_332 : BitVec 32 := 1#32
  let v958 : BitVec 32 := Scalar.subi v943 c1_i32_332
  let v959 : BitVec 32 := Scalar.select v957 v958 v943
  let v960 : BitVec 32 := v959
  let v964 : Index := Scalar.indexCast v960
  let c640_333 : Index := 640#32
  ![v964.toNat, 0, 640]
def k0_off26 (k0_t1 : Fin k0_t1_loop.trips) (c0_i32_335 : BitVec 32) : Fin 2 → Nat :=
  let c6 : Index := 6#32
  let c0_i32_13 : BitVec 32 := 0#32
  let c1_i32 : BitVec 32 := 1#32
  let arg14 : BitVec 32 := Scf.iv c0_i32_13 c1_i32 k0_t1
  let c2_i32_334 : BitVec 32 := 2#32
  let v968 : BitVec 32 := Scalar.muli arg14 c2_i32_334
  let v969 : BitVec 32 := Scalar.addi v968 c0_i32_335
  let v970 : Index := Scalar.indexCast v969
  ![6, v970.toNat]
def k0_off27 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v973 : Index := Scalar.indexCast v741
  let c0_336 : Index := 0#32
  let c768_337 : Index := 768#32
  ![v973.toNat, 0, 768]
def k0_mult8 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_338 : BitVec 32 := 256#32
  let v977 : BitVec 32 := Scalar.muli arg14 c256_i32_338
  let c0_i32_339 : BitVec 32 := 0#32
  let v978 : BitVec 32 := Scalar.addi v977 c0_i32_339
  let c0_i32_341 : BitVec 32 := 0#32
  let v980 : BitVec 1 := Scalar.cmpi .sgt v978 c0_i32_341
  let v981 : BitVec 32 := Scalar.extui v980
  let c0_i32_342 : BitVec 32 := 0#32
  let v982 : BitVec 1 := Scalar.cmpi .slt v978 c0_i32_342
  let v983 : BitVec 32 := Scalar.extui v982
  let v984 : BitVec 32 := Scalar.subi v981 v983
  let c2_i32_340 : BitVec 32 := 2#32
  let c0_i32_343 : BitVec 32 := 0#32
  let v985 : BitVec 1 := Scalar.cmpi .sgt c2_i32_340 c0_i32_343
  let v986 : BitVec 32 := Scalar.extui v985
  let c0_i32_344 : BitVec 32 := 0#32
  let v987 : BitVec 1 := Scalar.cmpi .slt c2_i32_340 c0_i32_344
  let v988 : BitVec 32 := Scalar.extui v987
  let v989 : BitVec 32 := Scalar.subi v986 v988
  let v990 : BitVec 1 := Scalar.cmpi .ne v984 v989
  let v991 : BitVec 32 := Scalar.remsi v978 c2_i32_340
  let c0_i32_345 : BitVec 32 := 0#32
  let v992 : BitVec 1 := Scalar.cmpi .ne v991 c0_i32_345
  let v993 : BitVec 1 := Scalar.andi v990 v992
  let v979 : BitVec 32 := Scalar.divsi v978 c2_i32_340
  let c1_i32_346 : BitVec 32 := 1#32
  let v994 : BitVec 32 := Scalar.subi v979 c1_i32_346
  let v995 : BitVec 32 := Scalar.select v993 v994 v979
  v995
def k0_off28 (k0_t1 : Fin k0_t1_loop.trips) (c0_i32_339 : BitVec 32) : Fin 3 → Nat :=
  let c0_i32_13 : BitVec 32 := 0#32
  let c1_i32 : BitVec 32 := 1#32
  let arg14 : BitVec 32 := Scf.iv c0_i32_13 c1_i32 k0_t1
  let c256_i32_338 : BitVec 32 := 256#32
  let v977 : BitVec 32 := Scalar.muli arg14 c256_i32_338
  let v978 : BitVec 32 := Scalar.addi v977 c0_i32_339
  let c0_i32_341 : BitVec 32 := 0#32
  let v980 : BitVec 1 := Scalar.cmpi .sgt v978 c0_i32_341
  let v981 : BitVec 32 := Scalar.extui v980
  let c0_i32_342 : BitVec 32 := 0#32
  let v982 : BitVec 1 := Scalar.cmpi .slt v978 c0_i32_342
  let v983 : BitVec 32 := Scalar.extui v982
  let v984 : BitVec 32 := Scalar.subi v981 v983
  let c2_i32_340 : BitVec 32 := 2#32
  let c0_i32_343 : BitVec 32 := 0#32
  let v985 : BitVec 1 := Scalar.cmpi .sgt c2_i32_340 c0_i32_343
  let v986 : BitVec 32 := Scalar.extui v985
  let c0_i32_344 : BitVec 32 := 0#32
  let v987 : BitVec 1 := Scalar.cmpi .slt c2_i32_340 c0_i32_344
  let v988 : BitVec 32 := Scalar.extui v987
  let v989 : BitVec 32 := Scalar.subi v986 v988
  let v990 : BitVec 1 := Scalar.cmpi .ne v984 v989
  let v991 : BitVec 32 := Scalar.remsi v978 c2_i32_340
  let c0_i32_345 : BitVec 32 := 0#32
  let v992 : BitVec 1 := Scalar.cmpi .ne v991 c0_i32_345
  let v993 : BitVec 1 := Scalar.andi v990 v992
  let v979 : BitVec 32 := Scalar.divsi v978 c2_i32_340
  let c1_i32_346 : BitVec 32 := 1#32
  let v994 : BitVec 32 := Scalar.subi v979 c1_i32_346
  let v995 : BitVec 32 := Scalar.select v993 v994 v979
  let v996 : BitVec 32 := v995
  let v1000 : Index := Scalar.indexCast v996
  let c768_347 : Index := 768#32
  ![v1000.toNat, 0, 768]
def k0_off29 (k0_t1 : Fin k0_t1_loop.trips) (c0_i32_349 : BitVec 32) : Fin 2 → Nat :=
  let c7 : Index := 7#32
  let c0_i32_13 : BitVec 32 := 0#32
  let c1_i32 : BitVec 32 := 1#32
  let arg14 : BitVec 32 := Scf.iv c0_i32_13 c1_i32 k0_t1
  let c2_i32_348 : BitVec 32 := 2#32
  let v1004 : BitVec 32 := Scalar.muli arg14 c2_i32_348
  let v1005 : BitVec 32 := Scalar.addi v1004 c0_i32_349
  let v1006 : Index := Scalar.indexCast v1005
  ![7, v1006.toNat]
def k0_off30 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1009 : Index := Scalar.indexCast v741
  let c0_350 : Index := 0#32
  let c896_351 : Index := 896#32
  ![v1009.toNat, 0, 896]
def k0_mult9 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_352 : BitVec 32 := 256#32
  let v1013 : BitVec 32 := Scalar.muli arg14 c256_i32_352
  let c0_i32_353 : BitVec 32 := 0#32
  let v1014 : BitVec 32 := Scalar.addi v1013 c0_i32_353
  let c0_i32_355 : BitVec 32 := 0#32
  let v1016 : BitVec 1 := Scalar.cmpi .sgt v1014 c0_i32_355
  let v1017 : BitVec 32 := Scalar.extui v1016
  let c0_i32_356 : BitVec 32 := 0#32
  let v1018 : BitVec 1 := Scalar.cmpi .slt v1014 c0_i32_356
  let v1019 : BitVec 32 := Scalar.extui v1018
  let v1020 : BitVec 32 := Scalar.subi v1017 v1019
  let c2_i32_354 : BitVec 32 := 2#32
  let c0_i32_357 : BitVec 32 := 0#32
  let v1021 : BitVec 1 := Scalar.cmpi .sgt c2_i32_354 c0_i32_357
  let v1022 : BitVec 32 := Scalar.extui v1021
  let c0_i32_358 : BitVec 32 := 0#32
  let v1023 : BitVec 1 := Scalar.cmpi .slt c2_i32_354 c0_i32_358
  let v1024 : BitVec 32 := Scalar.extui v1023
  let v1025 : BitVec 32 := Scalar.subi v1022 v1024
  let v1026 : BitVec 1 := Scalar.cmpi .ne v1020 v1025
  let v1027 : BitVec 32 := Scalar.remsi v1014 c2_i32_354
  let c0_i32_359 : BitVec 32 := 0#32
  let v1028 : BitVec 1 := Scalar.cmpi .ne v1027 c0_i32_359
  let v1029 : BitVec 1 := Scalar.andi v1026 v1028
  let v1015 : BitVec 32 := Scalar.divsi v1014 c2_i32_354
  let c1_i32_360 : BitVec 32 := 1#32
  let v1030 : BitVec 32 := Scalar.subi v1015 c1_i32_360
  let v1031 : BitVec 32 := Scalar.select v1029 v1030 v1015
  v1031
def k0_off31 (k0_t1 : Fin k0_t1_loop.trips) (c0_i32_353 : BitVec 32) : Fin 3 → Nat :=
  let c0_i32_13 : BitVec 32 := 0#32
  let c1_i32 : BitVec 32 := 1#32
  let arg14 : BitVec 32 := Scf.iv c0_i32_13 c1_i32 k0_t1
  let c256_i32_352 : BitVec 32 := 256#32
  let v1013 : BitVec 32 := Scalar.muli arg14 c256_i32_352
  let v1014 : BitVec 32 := Scalar.addi v1013 c0_i32_353
  let c0_i32_355 : BitVec 32 := 0#32
  let v1016 : BitVec 1 := Scalar.cmpi .sgt v1014 c0_i32_355
  let v1017 : BitVec 32 := Scalar.extui v1016
  let c0_i32_356 : BitVec 32 := 0#32
  let v1018 : BitVec 1 := Scalar.cmpi .slt v1014 c0_i32_356
  let v1019 : BitVec 32 := Scalar.extui v1018
  let v1020 : BitVec 32 := Scalar.subi v1017 v1019
  let c2_i32_354 : BitVec 32 := 2#32
  let c0_i32_357 : BitVec 32 := 0#32
  let v1021 : BitVec 1 := Scalar.cmpi .sgt c2_i32_354 c0_i32_357
  let v1022 : BitVec 32 := Scalar.extui v1021
  let c0_i32_358 : BitVec 32 := 0#32
  let v1023 : BitVec 1 := Scalar.cmpi .slt c2_i32_354 c0_i32_358
  let v1024 : BitVec 32 := Scalar.extui v1023
  let v1025 : BitVec 32 := Scalar.subi v1022 v1024
  let v1026 : BitVec 1 := Scalar.cmpi .ne v1020 v1025
  let v1027 : BitVec 32 := Scalar.remsi v1014 c2_i32_354
  let c0_i32_359 : BitVec 32 := 0#32
  let v1028 : BitVec 1 := Scalar.cmpi .ne v1027 c0_i32_359
  let v1029 : BitVec 1 := Scalar.andi v1026 v1028
  let v1015 : BitVec 32 := Scalar.divsi v1014 c2_i32_354
  let c1_i32_360 : BitVec 32 := 1#32
  let v1030 : BitVec 32 := Scalar.subi v1015 c1_i32_360
  let v1031 : BitVec 32 := Scalar.select v1029 v1030 v1015
  let v1032 : BitVec 32 := v1031
  let v1036 : Index := Scalar.indexCast v1032
  let c896_361 : Index := 896#32
  ![v1036.toNat, 0, 896]
def k0_off32 (k0_t1 : Fin k0_t1_loop.trips) (c0_i32_363 : BitVec 32) : Fin 2 → Nat :=
  let c8 : Index := 8#32
  let c0_i32_13 : BitVec 32 := 0#32
  let c1_i32 : BitVec 32 := 1#32
  let arg14 : BitVec 32 := Scf.iv c0_i32_13 c1_i32 k0_t1
  let c2_i32_362 : BitVec 32 := 2#32
  let v1040 : BitVec 32 := Scalar.muli arg14 c2_i32_362
  let v1041 : BitVec 32 := Scalar.addi v1040 c0_i32_363
  let v1042 : Index := Scalar.indexCast v1041
  ![8, v1042.toNat]
def k0_off33 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1045 : Index := Scalar.indexCast v741
  let c0_364 : Index := 0#32
  let c1024_365 : Index := 1024#32
  ![v1045.toNat, 0, 1024]
def k0_mult10 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_366 : BitVec 32 := 256#32
  let v1049 : BitVec 32 := Scalar.muli arg14 c256_i32_366
  let c0_i32_367 : BitVec 32 := 0#32
  let v1050 : BitVec 32 := Scalar.addi v1049 c0_i32_367
  let c0_i32_369 : BitVec 32 := 0#32
  let v1052 : BitVec 1 := Scalar.cmpi .sgt v1050 c0_i32_369
  let v1053 : BitVec 32 := Scalar.extui v1052
  let c0_i32_370 : BitVec 32 := 0#32
  let v1054 : BitVec 1 := Scalar.cmpi .slt v1050 c0_i32_370
  let v1055 : BitVec 32 := Scalar.extui v1054
  let v1056 : BitVec 32 := Scalar.subi v1053 v1055
  let c2_i32_368 : BitVec 32 := 2#32
  let c0_i32_371 : BitVec 32 := 0#32
  let v1057 : BitVec 1 := Scalar.cmpi .sgt c2_i32_368 c0_i32_371
  let v1058 : BitVec 32 := Scalar.extui v1057
  let c0_i32_372 : BitVec 32 := 0#32
  let v1059 : BitVec 1 := Scalar.cmpi .slt c2_i32_368 c0_i32_372
  let v1060 : BitVec 32 := Scalar.extui v1059
  let v1061 : BitVec 32 := Scalar.subi v1058 v1060
  let v1062 : BitVec 1 := Scalar.cmpi .ne v1056 v1061
  let v1063 : BitVec 32 := Scalar.remsi v1050 c2_i32_368
  let c0_i32_373 : BitVec 32 := 0#32
  let v1064 : BitVec 1 := Scalar.cmpi .ne v1063 c0_i32_373
  let v1065 : BitVec 1 := Scalar.andi v1062 v1064
  let v1051 : BitVec 32 := Scalar.divsi v1050 c2_i32_368
  let c1_i32_374 : BitVec 32 := 1#32
  let v1066 : BitVec 32 := Scalar.subi v1051 c1_i32_374
  let v1067 : BitVec 32 := Scalar.select v1065 v1066 v1051
  v1067
def k0_off34 (k0_t1 : Fin k0_t1_loop.trips) (c0_i32_367 : BitVec 32) : Fin 3 → Nat :=
  let c0_i32_13 : BitVec 32 := 0#32
  let c1_i32 : BitVec 32 := 1#32
  let arg14 : BitVec 32 := Scf.iv c0_i32_13 c1_i32 k0_t1
  let c256_i32_366 : BitVec 32 := 256#32
  let v1049 : BitVec 32 := Scalar.muli arg14 c256_i32_366
  let v1050 : BitVec 32 := Scalar.addi v1049 c0_i32_367
  let c0_i32_369 : BitVec 32 := 0#32
  let v1052 : BitVec 1 := Scalar.cmpi .sgt v1050 c0_i32_369
  let v1053 : BitVec 32 := Scalar.extui v1052
  let c0_i32_370 : BitVec 32 := 0#32
  let v1054 : BitVec 1 := Scalar.cmpi .slt v1050 c0_i32_370
  let v1055 : BitVec 32 := Scalar.extui v1054
  let v1056 : BitVec 32 := Scalar.subi v1053 v1055
  let c2_i32_368 : BitVec 32 := 2#32
  let c0_i32_371 : BitVec 32 := 0#32
  let v1057 : BitVec 1 := Scalar.cmpi .sgt c2_i32_368 c0_i32_371
  let v1058 : BitVec 32 := Scalar.extui v1057
  let c0_i32_372 : BitVec 32 := 0#32
  let v1059 : BitVec 1 := Scalar.cmpi .slt c2_i32_368 c0_i32_372
  let v1060 : BitVec 32 := Scalar.extui v1059
  let v1061 : BitVec 32 := Scalar.subi v1058 v1060
  let v1062 : BitVec 1 := Scalar.cmpi .ne v1056 v1061
  let v1063 : BitVec 32 := Scalar.remsi v1050 c2_i32_368
  let c0_i32_373 : BitVec 32 := 0#32
  let v1064 : BitVec 1 := Scalar.cmpi .ne v1063 c0_i32_373
  let v1065 : BitVec 1 := Scalar.andi v1062 v1064
  let v1051 : BitVec 32 := Scalar.divsi v1050 c2_i32_368
  let c1_i32_374 : BitVec 32 := 1#32
  let v1066 : BitVec 32 := Scalar.subi v1051 c1_i32_374
  let v1067 : BitVec 32 := Scalar.select v1065 v1066 v1051
  let v1068 : BitVec 32 := v1067
  let v1072 : Index := Scalar.indexCast v1068
  let c1024_375 : Index := 1024#32
  ![v1072.toNat, 0, 1024]
def k0_off35 (k0_t1 : Fin k0_t1_loop.trips) (c0_i32_377 : BitVec 32) : Fin 2 → Nat :=
  let c9 : Index := 9#32
  let c0_i32_13 : BitVec 32 := 0#32
  let c1_i32 : BitVec 32 := 1#32
  let arg14 : BitVec 32 := Scf.iv c0_i32_13 c1_i32 k0_t1
  let c2_i32_376 : BitVec 32 := 2#32
  let v1076 : BitVec 32 := Scalar.muli arg14 c2_i32_376
  let v1077 : BitVec 32 := Scalar.addi v1076 c0_i32_377
  let v1078 : Index := Scalar.indexCast v1077
  ![9, v1078.toNat]
def k0_off36 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1081 : Index := Scalar.indexCast v741
  let c0_378 : Index := 0#32
  let c1152_379 : Index := 1152#32
  ![v1081.toNat, 0, 1152]
def k0_mult11 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_380 : BitVec 32 := 256#32
  let v1085 : BitVec 32 := Scalar.muli arg14 c256_i32_380
  let c0_i32_381 : BitVec 32 := 0#32
  let v1086 : BitVec 32 := Scalar.addi v1085 c0_i32_381
  let c0_i32_383 : BitVec 32 := 0#32
  let v1088 : BitVec 1 := Scalar.cmpi .sgt v1086 c0_i32_383
  let v1089 : BitVec 32 := Scalar.extui v1088
  let c0_i32_384 : BitVec 32 := 0#32
  let v1090 : BitVec 1 := Scalar.cmpi .slt v1086 c0_i32_384
  let v1091 : BitVec 32 := Scalar.extui v1090
  let v1092 : BitVec 32 := Scalar.subi v1089 v1091
  let c2_i32_382 : BitVec 32 := 2#32
  let c0_i32_385 : BitVec 32 := 0#32
  let v1093 : BitVec 1 := Scalar.cmpi .sgt c2_i32_382 c0_i32_385
  let v1094 : BitVec 32 := Scalar.extui v1093
  let c0_i32_386 : BitVec 32 := 0#32
  let v1095 : BitVec 1 := Scalar.cmpi .slt c2_i32_382 c0_i32_386
  let v1096 : BitVec 32 := Scalar.extui v1095
  let v1097 : BitVec 32 := Scalar.subi v1094 v1096
  let v1098 : BitVec 1 := Scalar.cmpi .ne v1092 v1097
  let v1099 : BitVec 32 := Scalar.remsi v1086 c2_i32_382
  let c0_i32_387 : BitVec 32 := 0#32
  let v1100 : BitVec 1 := Scalar.cmpi .ne v1099 c0_i32_387
  let v1101 : BitVec 1 := Scalar.andi v1098 v1100
  let v1087 : BitVec 32 := Scalar.divsi v1086 c2_i32_382
  let c1_i32_388 : BitVec 32 := 1#32
  let v1102 : BitVec 32 := Scalar.subi v1087 c1_i32_388
  let v1103 : BitVec 32 := Scalar.select v1101 v1102 v1087
  v1103
def k0_off37 (k0_t1 : Fin k0_t1_loop.trips) (c0_i32_381 : BitVec 32) : Fin 3 → Nat :=
  let c0_i32_13 : BitVec 32 := 0#32
  let c1_i32 : BitVec 32 := 1#32
  let arg14 : BitVec 32 := Scf.iv c0_i32_13 c1_i32 k0_t1
  let c256_i32_380 : BitVec 32 := 256#32
  let v1085 : BitVec 32 := Scalar.muli arg14 c256_i32_380
  let v1086 : BitVec 32 := Scalar.addi v1085 c0_i32_381
  let c0_i32_383 : BitVec 32 := 0#32
  let v1088 : BitVec 1 := Scalar.cmpi .sgt v1086 c0_i32_383
  let v1089 : BitVec 32 := Scalar.extui v1088
  let c0_i32_384 : BitVec 32 := 0#32
  let v1090 : BitVec 1 := Scalar.cmpi .slt v1086 c0_i32_384
  let v1091 : BitVec 32 := Scalar.extui v1090
  let v1092 : BitVec 32 := Scalar.subi v1089 v1091
  let c2_i32_382 : BitVec 32 := 2#32
  let c0_i32_385 : BitVec 32 := 0#32
  let v1093 : BitVec 1 := Scalar.cmpi .sgt c2_i32_382 c0_i32_385
  let v1094 : BitVec 32 := Scalar.extui v1093
  let c0_i32_386 : BitVec 32 := 0#32
  let v1095 : BitVec 1 := Scalar.cmpi .slt c2_i32_382 c0_i32_386
  let v1096 : BitVec 32 := Scalar.extui v1095
  let v1097 : BitVec 32 := Scalar.subi v1094 v1096
  let v1098 : BitVec 1 := Scalar.cmpi .ne v1092 v1097
  let v1099 : BitVec 32 := Scalar.remsi v1086 c2_i32_382
  let c0_i32_387 : BitVec 32 := 0#32
  let v1100 : BitVec 1 := Scalar.cmpi .ne v1099 c0_i32_387
  let v1101 : BitVec 1 := Scalar.andi v1098 v1100
  let v1087 : BitVec 32 := Scalar.divsi v1086 c2_i32_382
  let c1_i32_388 : BitVec 32 := 1#32
  let v1102 : BitVec 32 := Scalar.subi v1087 c1_i32_388
  let v1103 : BitVec 32 := Scalar.select v1101 v1102 v1087
  let v1104 : BitVec 32 := v1103
  let v1108 : Index := Scalar.indexCast v1104
  let c1152_389 : Index := 1152#32
  ![v1108.toNat, 0, 1152]
def k0_off38 (k0_t1 : Fin k0_t1_loop.trips) (c0_i32_391 : BitVec 32) : Fin 2 → Nat :=
  let c10 : Index := 10#32
  let c0_i32_13 : BitVec 32 := 0#32
  let c1_i32 : BitVec 32 := 1#32
  let arg14 : BitVec 32 := Scf.iv c0_i32_13 c1_i32 k0_t1
  let c2_i32_390 : BitVec 32 := 2#32
  let v1112 : BitVec 32 := Scalar.muli arg14 c2_i32_390
  let v1113 : BitVec 32 := Scalar.addi v1112 c0_i32_391
  let v1114 : Index := Scalar.indexCast v1113
  ![10, v1114.toNat]
def k0_off39 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1117 : Index := Scalar.indexCast v741
  let c0_392 : Index := 0#32
  let c1280_393 : Index := 1280#32
  ![v1117.toNat, 0, 1280]
def k0_mult12 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_394 : BitVec 32 := 256#32
  let v1121 : BitVec 32 := Scalar.muli arg14 c256_i32_394
  let c0_i32_395 : BitVec 32 := 0#32
  let v1122 : BitVec 32 := Scalar.addi v1121 c0_i32_395
  let c0_i32_397 : BitVec 32 := 0#32
  let v1124 : BitVec 1 := Scalar.cmpi .sgt v1122 c0_i32_397
  let v1125 : BitVec 32 := Scalar.extui v1124
  let c0_i32_398 : BitVec 32 := 0#32
  let v1126 : BitVec 1 := Scalar.cmpi .slt v1122 c0_i32_398
  let v1127 : BitVec 32 := Scalar.extui v1126
  let v1128 : BitVec 32 := Scalar.subi v1125 v1127
  let c2_i32_396 : BitVec 32 := 2#32
  let c0_i32_399 : BitVec 32 := 0#32
  let v1129 : BitVec 1 := Scalar.cmpi .sgt c2_i32_396 c0_i32_399
  let v1130 : BitVec 32 := Scalar.extui v1129
  let c0_i32_400 : BitVec 32 := 0#32
  let v1131 : BitVec 1 := Scalar.cmpi .slt c2_i32_396 c0_i32_400
  let v1132 : BitVec 32 := Scalar.extui v1131
  let v1133 : BitVec 32 := Scalar.subi v1130 v1132
  let v1134 : BitVec 1 := Scalar.cmpi .ne v1128 v1133
  let v1135 : BitVec 32 := Scalar.remsi v1122 c2_i32_396
  let c0_i32_401 : BitVec 32 := 0#32
  let v1136 : BitVec 1 := Scalar.cmpi .ne v1135 c0_i32_401
  let v1137 : BitVec 1 := Scalar.andi v1134 v1136
  let v1123 : BitVec 32 := Scalar.divsi v1122 c2_i32_396
  let c1_i32_402 : BitVec 32 := 1#32
  let v1138 : BitVec 32 := Scalar.subi v1123 c1_i32_402
  let v1139 : BitVec 32 := Scalar.select v1137 v1138 v1123
  v1139
def k0_off40 (k0_t1 : Fin k0_t1_loop.trips) (c0_i32_395 : BitVec 32) : Fin 3 → Nat :=
  let c0_i32_13 : BitVec 32 := 0#32
  let c1_i32 : BitVec 32 := 1#32
  let arg14 : BitVec 32 := Scf.iv c0_i32_13 c1_i32 k0_t1
  let c256_i32_394 : BitVec 32 := 256#32
  let v1121 : BitVec 32 := Scalar.muli arg14 c256_i32_394
  let v1122 : BitVec 32 := Scalar.addi v1121 c0_i32_395
  let c0_i32_397 : BitVec 32 := 0#32
  let v1124 : BitVec 1 := Scalar.cmpi .sgt v1122 c0_i32_397
  let v1125 : BitVec 32 := Scalar.extui v1124
  let c0_i32_398 : BitVec 32 := 0#32
  let v1126 : BitVec 1 := Scalar.cmpi .slt v1122 c0_i32_398
  let v1127 : BitVec 32 := Scalar.extui v1126
  let v1128 : BitVec 32 := Scalar.subi v1125 v1127
  let c2_i32_396 : BitVec 32 := 2#32
  let c0_i32_399 : BitVec 32 := 0#32
  let v1129 : BitVec 1 := Scalar.cmpi .sgt c2_i32_396 c0_i32_399
  let v1130 : BitVec 32 := Scalar.extui v1129
  let c0_i32_400 : BitVec 32 := 0#32
  let v1131 : BitVec 1 := Scalar.cmpi .slt c2_i32_396 c0_i32_400
  let v1132 : BitVec 32 := Scalar.extui v1131
  let v1133 : BitVec 32 := Scalar.subi v1130 v1132
  let v1134 : BitVec 1 := Scalar.cmpi .ne v1128 v1133
  let v1135 : BitVec 32 := Scalar.remsi v1122 c2_i32_396
  let c0_i32_401 : BitVec 32 := 0#32
  let v1136 : BitVec 1 := Scalar.cmpi .ne v1135 c0_i32_401
  let v1137 : BitVec 1 := Scalar.andi v1134 v1136
  let v1123 : BitVec 32 := Scalar.divsi v1122 c2_i32_396
  let c1_i32_402 : BitVec 32 := 1#32
  let v1138 : BitVec 32 := Scalar.subi v1123 c1_i32_402
  let v1139 : BitVec 32 := Scalar.select v1137 v1138 v1123
  let v1140 : BitVec 32 := v1139
  let v1144 : Index := Scalar.indexCast v1140
  let c1280_403 : Index := 1280#32
  ![v1144.toNat, 0, 1280]
def k0_off41 (k0_t1 : Fin k0_t1_loop.trips) (c0_i32_405 : BitVec 32) : Fin 2 → Nat :=
  let c11 : Index := 11#32
  let c0_i32_13 : BitVec 32 := 0#32
  let c1_i32 : BitVec 32 := 1#32
  let arg14 : BitVec 32 := Scf.iv c0_i32_13 c1_i32 k0_t1
  let c2_i32_404 : BitVec 32 := 2#32
  let v1148 : BitVec 32 := Scalar.muli arg14 c2_i32_404
  let v1149 : BitVec 32 := Scalar.addi v1148 c0_i32_405
  let v1150 : Index := Scalar.indexCast v1149
  ![11, v1150.toNat]
def k0_off42 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1153 : Index := Scalar.indexCast v741
  let c0_406 : Index := 0#32
  let c1408_407 : Index := 1408#32
  ![v1153.toNat, 0, 1408]
def k0_mult13 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_408 : BitVec 32 := 256#32
  let v1157 : BitVec 32 := Scalar.muli arg14 c256_i32_408
  let c0_i32_409 : BitVec 32 := 0#32
  let v1158 : BitVec 32 := Scalar.addi v1157 c0_i32_409
  let c0_i32_411 : BitVec 32 := 0#32
  let v1160 : BitVec 1 := Scalar.cmpi .sgt v1158 c0_i32_411
  let v1161 : BitVec 32 := Scalar.extui v1160
  let c0_i32_412 : BitVec 32 := 0#32
  let v1162 : BitVec 1 := Scalar.cmpi .slt v1158 c0_i32_412
  let v1163 : BitVec 32 := Scalar.extui v1162
  let v1164 : BitVec 32 := Scalar.subi v1161 v1163
  let c2_i32_410 : BitVec 32 := 2#32
  let c0_i32_413 : BitVec 32 := 0#32
  let v1165 : BitVec 1 := Scalar.cmpi .sgt c2_i32_410 c0_i32_413
  let v1166 : BitVec 32 := Scalar.extui v1165
  let c0_i32_414 : BitVec 32 := 0#32
  let v1167 : BitVec 1 := Scalar.cmpi .slt c2_i32_410 c0_i32_414
  let v1168 : BitVec 32 := Scalar.extui v1167
  let v1169 : BitVec 32 := Scalar.subi v1166 v1168
  let v1170 : BitVec 1 := Scalar.cmpi .ne v1164 v1169
  let v1171 : BitVec 32 := Scalar.remsi v1158 c2_i32_410
  let c0_i32_415 : BitVec 32 := 0#32
  let v1172 : BitVec 1 := Scalar.cmpi .ne v1171 c0_i32_415
  let v1173 : BitVec 1 := Scalar.andi v1170 v1172
  let v1159 : BitVec 32 := Scalar.divsi v1158 c2_i32_410
  let c1_i32_416 : BitVec 32 := 1#32
  let v1174 : BitVec 32 := Scalar.subi v1159 c1_i32_416
  let v1175 : BitVec 32 := Scalar.select v1173 v1174 v1159
  v1175
def k0_off43 (k0_t1 : Fin k0_t1_loop.trips) (c0_i32_409 : BitVec 32) : Fin 3 → Nat :=
  let c0_i32_13 : BitVec 32 := 0#32
  let c1_i32 : BitVec 32 := 1#32
  let arg14 : BitVec 32 := Scf.iv c0_i32_13 c1_i32 k0_t1
  let c256_i32_408 : BitVec 32 := 256#32
  let v1157 : BitVec 32 := Scalar.muli arg14 c256_i32_408
  let v1158 : BitVec 32 := Scalar.addi v1157 c0_i32_409
  let c0_i32_411 : BitVec 32 := 0#32
  let v1160 : BitVec 1 := Scalar.cmpi .sgt v1158 c0_i32_411
  let v1161 : BitVec 32 := Scalar.extui v1160
  let c0_i32_412 : BitVec 32 := 0#32
  let v1162 : BitVec 1 := Scalar.cmpi .slt v1158 c0_i32_412
  let v1163 : BitVec 32 := Scalar.extui v1162
  let v1164 : BitVec 32 := Scalar.subi v1161 v1163
  let c2_i32_410 : BitVec 32 := 2#32
  let c0_i32_413 : BitVec 32 := 0#32
  let v1165 : BitVec 1 := Scalar.cmpi .sgt c2_i32_410 c0_i32_413
  let v1166 : BitVec 32 := Scalar.extui v1165
  let c0_i32_414 : BitVec 32 := 0#32
  let v1167 : BitVec 1 := Scalar.cmpi .slt c2_i32_410 c0_i32_414
  let v1168 : BitVec 32 := Scalar.extui v1167
  let v1169 : BitVec 32 := Scalar.subi v1166 v1168
  let v1170 : BitVec 1 := Scalar.cmpi .ne v1164 v1169
  let v1171 : BitVec 32 := Scalar.remsi v1158 c2_i32_410
  let c0_i32_415 : BitVec 32 := 0#32
  let v1172 : BitVec 1 := Scalar.cmpi .ne v1171 c0_i32_415
  let v1173 : BitVec 1 := Scalar.andi v1170 v1172
  let v1159 : BitVec 32 := Scalar.divsi v1158 c2_i32_410
  let c1_i32_416 : BitVec 32 := 1#32
  let v1174 : BitVec 32 := Scalar.subi v1159 c1_i32_416
  let v1175 : BitVec 32 := Scalar.select v1173 v1174 v1159
  let v1176 : BitVec 32 := v1175
  let v1180 : Index := Scalar.indexCast v1176
  let c1408_417 : Index := 1408#32
  ![v1180.toNat, 0, 1408]
def k0_off44 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1189 : Index := Scalar.indexCast v741
  let c128_421 : Index := 128#32
  let c0_422 : Index := 0#32
  ![v1189.toNat, 128, 0]
def k0_mult14 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_423 : BitVec 32 := 256#32
  let v1193 : BitVec 32 := Scalar.muli arg14 c256_i32_423
  let c128_i32 : BitVec 32 := 128#32
  let v1194 : BitVec 32 := Scalar.addi v1193 c128_i32
  let c0_i32_425 : BitVec 32 := 0#32
  let v1196 : BitVec 1 := Scalar.cmpi .sgt v1194 c0_i32_425
  let v1197 : BitVec 32 := Scalar.extui v1196
  let c0_i32_426 : BitVec 32 := 0#32
  let v1198 : BitVec 1 := Scalar.cmpi .slt v1194 c0_i32_426
  let v1199 : BitVec 32 := Scalar.extui v1198
  let v1200 : BitVec 32 := Scalar.subi v1197 v1199
  let c2_i32_424 : BitVec 32 := 2#32
  let c0_i32_427 : BitVec 32 := 0#32
  let v1201 : BitVec 1 := Scalar.cmpi .sgt c2_i32_424 c0_i32_427
  let v1202 : BitVec 32 := Scalar.extui v1201
  let c0_i32_428 : BitVec 32 := 0#32
  let v1203 : BitVec 1 := Scalar.cmpi .slt c2_i32_424 c0_i32_428
  let v1204 : BitVec 32 := Scalar.extui v1203
  let v1205 : BitVec 32 := Scalar.subi v1202 v1204
  let v1206 : BitVec 1 := Scalar.cmpi .ne v1200 v1205
  let v1207 : BitVec 32 := Scalar.remsi v1194 c2_i32_424
  let c0_i32_429 : BitVec 32 := 0#32
  let v1208 : BitVec 1 := Scalar.cmpi .ne v1207 c0_i32_429
  let v1209 : BitVec 1 := Scalar.andi v1206 v1208
  let v1195 : BitVec 32 := Scalar.divsi v1194 c2_i32_424
  let c1_i32_430 : BitVec 32 := 1#32
  let v1210 : BitVec 32 := Scalar.subi v1195 c1_i32_430
  let v1211 : BitVec 32 := Scalar.select v1209 v1210 v1195
  v1211
def k0_off45 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1225 : Index := Scalar.indexCast v741
  let c128_435 : Index := 128#32
  let c128_436 : Index := 128#32
  ![v1225.toNat, 128, 128]
def k0_mult15 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_437 : BitVec 32 := 256#32
  let v1229 : BitVec 32 := Scalar.muli arg14 c256_i32_437
  let c128_i32_438 : BitVec 32 := 128#32
  let v1230 : BitVec 32 := Scalar.addi v1229 c128_i32_438
  let c0_i32_440 : BitVec 32 := 0#32
  let v1232 : BitVec 1 := Scalar.cmpi .sgt v1230 c0_i32_440
  let v1233 : BitVec 32 := Scalar.extui v1232
  let c0_i32_441 : BitVec 32 := 0#32
  let v1234 : BitVec 1 := Scalar.cmpi .slt v1230 c0_i32_441
  let v1235 : BitVec 32 := Scalar.extui v1234
  let v1236 : BitVec 32 := Scalar.subi v1233 v1235
  let c2_i32_439 : BitVec 32 := 2#32
  let c0_i32_442 : BitVec 32 := 0#32
  let v1237 : BitVec 1 := Scalar.cmpi .sgt c2_i32_439 c0_i32_442
  let v1238 : BitVec 32 := Scalar.extui v1237
  let c0_i32_443 : BitVec 32 := 0#32
  let v1239 : BitVec 1 := Scalar.cmpi .slt c2_i32_439 c0_i32_443
  let v1240 : BitVec 32 := Scalar.extui v1239
  let v1241 : BitVec 32 := Scalar.subi v1238 v1240
  let v1242 : BitVec 1 := Scalar.cmpi .ne v1236 v1241
  let v1243 : BitVec 32 := Scalar.remsi v1230 c2_i32_439
  let c0_i32_444 : BitVec 32 := 0#32
  let v1244 : BitVec 1 := Scalar.cmpi .ne v1243 c0_i32_444
  let v1245 : BitVec 1 := Scalar.andi v1242 v1244
  let v1231 : BitVec 32 := Scalar.divsi v1230 c2_i32_439
  let c1_i32_445 : BitVec 32 := 1#32
  let v1246 : BitVec 32 := Scalar.subi v1231 c1_i32_445
  let v1247 : BitVec 32 := Scalar.select v1245 v1246 v1231
  v1247
def k0_off46 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1261 : Index := Scalar.indexCast v741
  let c128_450 : Index := 128#32
  let c256_451 : Index := 256#32
  ![v1261.toNat, 128, 256]
def k0_mult16 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_452 : BitVec 32 := 256#32
  let v1265 : BitVec 32 := Scalar.muli arg14 c256_i32_452
  let c128_i32_453 : BitVec 32 := 128#32
  let v1266 : BitVec 32 := Scalar.addi v1265 c128_i32_453
  let c0_i32_455 : BitVec 32 := 0#32
  let v1268 : BitVec 1 := Scalar.cmpi .sgt v1266 c0_i32_455
  let v1269 : BitVec 32 := Scalar.extui v1268
  let c0_i32_456 : BitVec 32 := 0#32
  let v1270 : BitVec 1 := Scalar.cmpi .slt v1266 c0_i32_456
  let v1271 : BitVec 32 := Scalar.extui v1270
  let v1272 : BitVec 32 := Scalar.subi v1269 v1271
  let c2_i32_454 : BitVec 32 := 2#32
  let c0_i32_457 : BitVec 32 := 0#32
  let v1273 : BitVec 1 := Scalar.cmpi .sgt c2_i32_454 c0_i32_457
  let v1274 : BitVec 32 := Scalar.extui v1273
  let c0_i32_458 : BitVec 32 := 0#32
  let v1275 : BitVec 1 := Scalar.cmpi .slt c2_i32_454 c0_i32_458
  let v1276 : BitVec 32 := Scalar.extui v1275
  let v1277 : BitVec 32 := Scalar.subi v1274 v1276
  let v1278 : BitVec 1 := Scalar.cmpi .ne v1272 v1277
  let v1279 : BitVec 32 := Scalar.remsi v1266 c2_i32_454
  let c0_i32_459 : BitVec 32 := 0#32
  let v1280 : BitVec 1 := Scalar.cmpi .ne v1279 c0_i32_459
  let v1281 : BitVec 1 := Scalar.andi v1278 v1280
  let v1267 : BitVec 32 := Scalar.divsi v1266 c2_i32_454
  let c1_i32_460 : BitVec 32 := 1#32
  let v1282 : BitVec 32 := Scalar.subi v1267 c1_i32_460
  let v1283 : BitVec 32 := Scalar.select v1281 v1282 v1267
  v1283
def k0_off47 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1297 : Index := Scalar.indexCast v741
  let c128_465 : Index := 128#32
  let c384_466 : Index := 384#32
  ![v1297.toNat, 128, 384]
def k0_mult17 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_467 : BitVec 32 := 256#32
  let v1301 : BitVec 32 := Scalar.muli arg14 c256_i32_467
  let c128_i32_468 : BitVec 32 := 128#32
  let v1302 : BitVec 32 := Scalar.addi v1301 c128_i32_468
  let c0_i32_470 : BitVec 32 := 0#32
  let v1304 : BitVec 1 := Scalar.cmpi .sgt v1302 c0_i32_470
  let v1305 : BitVec 32 := Scalar.extui v1304
  let c0_i32_471 : BitVec 32 := 0#32
  let v1306 : BitVec 1 := Scalar.cmpi .slt v1302 c0_i32_471
  let v1307 : BitVec 32 := Scalar.extui v1306
  let v1308 : BitVec 32 := Scalar.subi v1305 v1307
  let c2_i32_469 : BitVec 32 := 2#32
  let c0_i32_472 : BitVec 32 := 0#32
  let v1309 : BitVec 1 := Scalar.cmpi .sgt c2_i32_469 c0_i32_472
  let v1310 : BitVec 32 := Scalar.extui v1309
  let c0_i32_473 : BitVec 32 := 0#32
  let v1311 : BitVec 1 := Scalar.cmpi .slt c2_i32_469 c0_i32_473
  let v1312 : BitVec 32 := Scalar.extui v1311
  let v1313 : BitVec 32 := Scalar.subi v1310 v1312
  let v1314 : BitVec 1 := Scalar.cmpi .ne v1308 v1313
  let v1315 : BitVec 32 := Scalar.remsi v1302 c2_i32_469
  let c0_i32_474 : BitVec 32 := 0#32
  let v1316 : BitVec 1 := Scalar.cmpi .ne v1315 c0_i32_474
  let v1317 : BitVec 1 := Scalar.andi v1314 v1316
  let v1303 : BitVec 32 := Scalar.divsi v1302 c2_i32_469
  let c1_i32_475 : BitVec 32 := 1#32
  let v1318 : BitVec 32 := Scalar.subi v1303 c1_i32_475
  let v1319 : BitVec 32 := Scalar.select v1317 v1318 v1303
  v1319
def k0_off48 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1333 : Index := Scalar.indexCast v741
  let c128_480 : Index := 128#32
  let c512_481 : Index := 512#32
  ![v1333.toNat, 128, 512]
def k0_mult18 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_482 : BitVec 32 := 256#32
  let v1337 : BitVec 32 := Scalar.muli arg14 c256_i32_482
  let c128_i32_483 : BitVec 32 := 128#32
  let v1338 : BitVec 32 := Scalar.addi v1337 c128_i32_483
  let c0_i32_485 : BitVec 32 := 0#32
  let v1340 : BitVec 1 := Scalar.cmpi .sgt v1338 c0_i32_485
  let v1341 : BitVec 32 := Scalar.extui v1340
  let c0_i32_486 : BitVec 32 := 0#32
  let v1342 : BitVec 1 := Scalar.cmpi .slt v1338 c0_i32_486
  let v1343 : BitVec 32 := Scalar.extui v1342
  let v1344 : BitVec 32 := Scalar.subi v1341 v1343
  let c2_i32_484 : BitVec 32 := 2#32
  let c0_i32_487 : BitVec 32 := 0#32
  let v1345 : BitVec 1 := Scalar.cmpi .sgt c2_i32_484 c0_i32_487
  let v1346 : BitVec 32 := Scalar.extui v1345
  let c0_i32_488 : BitVec 32 := 0#32
  let v1347 : BitVec 1 := Scalar.cmpi .slt c2_i32_484 c0_i32_488
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_484
  let c0_i32_489 : BitVec 32 := 0#32
  let v1352 : BitVec 1 := Scalar.cmpi .ne v1351 c0_i32_489
  let v1353 : BitVec 1 := Scalar.andi v1350 v1352
  let v1339 : BitVec 32 := Scalar.divsi v1338 c2_i32_484
  let c1_i32_490 : BitVec 32 := 1#32
  let v1354 : BitVec 32 := Scalar.subi v1339 c1_i32_490
  let v1355 : BitVec 32 := Scalar.select v1353 v1354 v1339
  v1355
def k0_off49 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1369 : Index := Scalar.indexCast v741
  let c128_495 : Index := 128#32
  let c640_496 : Index := 640#32
  ![v1369.toNat, 128, 640]
def k0_mult19 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_497 : BitVec 32 := 256#32
  let v1373 : BitVec 32 := Scalar.muli arg14 c256_i32_497
  let c128_i32_498 : BitVec 32 := 128#32
  let v1374 : BitVec 32 := Scalar.addi v1373 c128_i32_498
  let c0_i32_500 : BitVec 32 := 0#32
  let v1376 : BitVec 1 := Scalar.cmpi .sgt v1374 c0_i32_500
  let v1377 : BitVec 32 := Scalar.extui v1376
  let c0_i32_501 : BitVec 32 := 0#32
  let v1378 : BitVec 1 := Scalar.cmpi .slt v1374 c0_i32_501
  let v1379 : BitVec 32 := Scalar.extui v1378
  let v1380 : BitVec 32 := Scalar.subi v1377 v1379
  let c2_i32_499 : BitVec 32 := 2#32
  let c0_i32_502 : BitVec 32 := 0#32
  let v1381 : BitVec 1 := Scalar.cmpi .sgt c2_i32_499 c0_i32_502
  let v1382 : BitVec 32 := Scalar.extui v1381
  let c0_i32_503 : BitVec 32 := 0#32
  let v1383 : BitVec 1 := Scalar.cmpi .slt c2_i32_499 c0_i32_503
  let v1384 : BitVec 32 := Scalar.extui v1383
  let v1385 : BitVec 32 := Scalar.subi v1382 v1384
  let v1386 : BitVec 1 := Scalar.cmpi .ne v1380 v1385
  let v1387 : BitVec 32 := Scalar.remsi v1374 c2_i32_499
  let c0_i32_504 : BitVec 32 := 0#32
  let v1388 : BitVec 1 := Scalar.cmpi .ne v1387 c0_i32_504
  let v1389 : BitVec 1 := Scalar.andi v1386 v1388
  let v1375 : BitVec 32 := Scalar.divsi v1374 c2_i32_499
  let c1_i32_505 : BitVec 32 := 1#32
  let v1390 : BitVec 32 := Scalar.subi v1375 c1_i32_505
  let v1391 : BitVec 32 := Scalar.select v1389 v1390 v1375
  v1391
def k0_off50 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1405 : Index := Scalar.indexCast v741
  let c128_510 : Index := 128#32
  let c768_511 : Index := 768#32
  ![v1405.toNat, 128, 768]
def k0_mult20 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_512 : BitVec 32 := 256#32
  let v1409 : BitVec 32 := Scalar.muli arg14 c256_i32_512
  let c128_i32_513 : BitVec 32 := 128#32
  let v1410 : BitVec 32 := Scalar.addi v1409 c128_i32_513
  let c0_i32_515 : BitVec 32 := 0#32
  let v1412 : BitVec 1 := Scalar.cmpi .sgt v1410 c0_i32_515
  let v1413 : BitVec 32 := Scalar.extui v1412
  let c0_i32_516 : BitVec 32 := 0#32
  let v1414 : BitVec 1 := Scalar.cmpi .slt v1410 c0_i32_516
  let v1415 : BitVec 32 := Scalar.extui v1414
  let v1416 : BitVec 32 := Scalar.subi v1413 v1415
  let c2_i32_514 : BitVec 32 := 2#32
  let c0_i32_517 : BitVec 32 := 0#32
  let v1417 : BitVec 1 := Scalar.cmpi .sgt c2_i32_514 c0_i32_517
  let v1418 : BitVec 32 := Scalar.extui v1417
  let c0_i32_518 : BitVec 32 := 0#32
  let v1419 : BitVec 1 := Scalar.cmpi .slt c2_i32_514 c0_i32_518
  let v1420 : BitVec 32 := Scalar.extui v1419
  let v1421 : BitVec 32 := Scalar.subi v1418 v1420
  let v1422 : BitVec 1 := Scalar.cmpi .ne v1416 v1421
  let v1423 : BitVec 32 := Scalar.remsi v1410 c2_i32_514
  let c0_i32_519 : BitVec 32 := 0#32
  let v1424 : BitVec 1 := Scalar.cmpi .ne v1423 c0_i32_519
  let v1425 : BitVec 1 := Scalar.andi v1422 v1424
  let v1411 : BitVec 32 := Scalar.divsi v1410 c2_i32_514
  let c1_i32_520 : BitVec 32 := 1#32
  let v1426 : BitVec 32 := Scalar.subi v1411 c1_i32_520
  let v1427 : BitVec 32 := Scalar.select v1425 v1426 v1411
  v1427
def k0_off51 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1441 : Index := Scalar.indexCast v741
  let c128_525 : Index := 128#32
  let c896_526 : Index := 896#32
  ![v1441.toNat, 128, 896]
def k0_mult21 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_527 : BitVec 32 := 256#32
  let v1445 : BitVec 32 := Scalar.muli arg14 c256_i32_527
  let c128_i32_528 : BitVec 32 := 128#32
  let v1446 : BitVec 32 := Scalar.addi v1445 c128_i32_528
  let c0_i32_530 : BitVec 32 := 0#32
  let v1448 : BitVec 1 := Scalar.cmpi .sgt v1446 c0_i32_530
  let v1449 : BitVec 32 := Scalar.extui v1448
  let c0_i32_531 : BitVec 32 := 0#32
  let v1450 : BitVec 1 := Scalar.cmpi .slt v1446 c0_i32_531
  let v1451 : BitVec 32 := Scalar.extui v1450
  let v1452 : BitVec 32 := Scalar.subi v1449 v1451
  let c2_i32_529 : BitVec 32 := 2#32
  let c0_i32_532 : BitVec 32 := 0#32
  let v1453 : BitVec 1 := Scalar.cmpi .sgt c2_i32_529 c0_i32_532
  let v1454 : BitVec 32 := Scalar.extui v1453
  let c0_i32_533 : BitVec 32 := 0#32
  let v1455 : BitVec 1 := Scalar.cmpi .slt c2_i32_529 c0_i32_533
  let v1456 : BitVec 32 := Scalar.extui v1455
  let v1457 : BitVec 32 := Scalar.subi v1454 v1456
  let v1458 : BitVec 1 := Scalar.cmpi .ne v1452 v1457
  let v1459 : BitVec 32 := Scalar.remsi v1446 c2_i32_529
  let c0_i32_534 : BitVec 32 := 0#32
  let v1460 : BitVec 1 := Scalar.cmpi .ne v1459 c0_i32_534
  let v1461 : BitVec 1 := Scalar.andi v1458 v1460
  let v1447 : BitVec 32 := Scalar.divsi v1446 c2_i32_529
  let c1_i32_535 : BitVec 32 := 1#32
  let v1462 : BitVec 32 := Scalar.subi v1447 c1_i32_535
  let v1463 : BitVec 32 := Scalar.select v1461 v1462 v1447
  v1463
def k0_off52 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1477 : Index := Scalar.indexCast v741
  let c128_540 : Index := 128#32
  let c1024_541 : Index := 1024#32
  ![v1477.toNat, 128, 1024]
def k0_mult22 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_542 : BitVec 32 := 256#32
  let v1481 : BitVec 32 := Scalar.muli arg14 c256_i32_542
  let c128_i32_543 : BitVec 32 := 128#32
  let v1482 : BitVec 32 := Scalar.addi v1481 c128_i32_543
  let c0_i32_545 : BitVec 32 := 0#32
  let v1484 : BitVec 1 := Scalar.cmpi .sgt v1482 c0_i32_545
  let v1485 : BitVec 32 := Scalar.extui v1484
  let c0_i32_546 : BitVec 32 := 0#32
  let v1486 : BitVec 1 := Scalar.cmpi .slt v1482 c0_i32_546
  let v1487 : BitVec 32 := Scalar.extui v1486
  let v1488 : BitVec 32 := Scalar.subi v1485 v1487
  let c2_i32_544 : BitVec 32 := 2#32
  let c0_i32_547 : BitVec 32 := 0#32
  let v1489 : BitVec 1 := Scalar.cmpi .sgt c2_i32_544 c0_i32_547
  let v1490 : BitVec 32 := Scalar.extui v1489
  let c0_i32_548 : BitVec 32 := 0#32
  let v1491 : BitVec 1 := Scalar.cmpi .slt c2_i32_544 c0_i32_548
  let v1492 : BitVec 32 := Scalar.extui v1491
  let v1493 : BitVec 32 := Scalar.subi v1490 v1492
  let v1494 : BitVec 1 := Scalar.cmpi .ne v1488 v1493
  let v1495 : BitVec 32 := Scalar.remsi v1482 c2_i32_544
  let c0_i32_549 : BitVec 32 := 0#32
  let v1496 : BitVec 1 := Scalar.cmpi .ne v1495 c0_i32_549
  let v1497 : BitVec 1 := Scalar.andi v1494 v1496
  let v1483 : BitVec 32 := Scalar.divsi v1482 c2_i32_544
  let c1_i32_550 : BitVec 32 := 1#32
  let v1498 : BitVec 32 := Scalar.subi v1483 c1_i32_550
  let v1499 : BitVec 32 := Scalar.select v1497 v1498 v1483
  v1499
def k0_off53 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1513 : Index := Scalar.indexCast v741
  let c128_555 : Index := 128#32
  let c1152_556 : Index := 1152#32
  ![v1513.toNat, 128, 1152]
def k0_mult23 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_557 : BitVec 32 := 256#32
  let v1517 : BitVec 32 := Scalar.muli arg14 c256_i32_557
  let c128_i32_558 : BitVec 32 := 128#32
  let v1518 : BitVec 32 := Scalar.addi v1517 c128_i32_558
  let c0_i32_560 : BitVec 32 := 0#32
  let v1520 : BitVec 1 := Scalar.cmpi .sgt v1518 c0_i32_560
  let v1521 : BitVec 32 := Scalar.extui v1520
  let c0_i32_561 : BitVec 32 := 0#32
  let v1522 : BitVec 1 := Scalar.cmpi .slt v1518 c0_i32_561
  let v1523 : BitVec 32 := Scalar.extui v1522
  let v1524 : BitVec 32 := Scalar.subi v1521 v1523
  let c2_i32_559 : BitVec 32 := 2#32
  let c0_i32_562 : BitVec 32 := 0#32
  let v1525 : BitVec 1 := Scalar.cmpi .sgt c2_i32_559 c0_i32_562
  let v1526 : BitVec 32 := Scalar.extui v1525
  let c0_i32_563 : BitVec 32 := 0#32
  let v1527 : BitVec 1 := Scalar.cmpi .slt c2_i32_559 c0_i32_563
  let v1528 : BitVec 32 := Scalar.extui v1527
  let v1529 : BitVec 32 := Scalar.subi v1526 v1528
  let v1530 : BitVec 1 := Scalar.cmpi .ne v1524 v1529
  let v1531 : BitVec 32 := Scalar.remsi v1518 c2_i32_559
  let c0_i32_564 : BitVec 32 := 0#32
  let v1532 : BitVec 1 := Scalar.cmpi .ne v1531 c0_i32_564
  let v1533 : BitVec 1 := Scalar.andi v1530 v1532
  let v1519 : BitVec 32 := Scalar.divsi v1518 c2_i32_559
  let c1_i32_565 : BitVec 32 := 1#32
  let v1534 : BitVec 32 := Scalar.subi v1519 c1_i32_565
  let v1535 : BitVec 32 := Scalar.select v1533 v1534 v1519
  v1535
def k0_off54 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1549 : Index := Scalar.indexCast v741
  let c128_570 : Index := 128#32
  let c1280_571 : Index := 1280#32
  ![v1549.toNat, 128, 1280]
def k0_mult24 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_572 : BitVec 32 := 256#32
  let v1553 : BitVec 32 := Scalar.muli arg14 c256_i32_572
  let c128_i32_573 : BitVec 32 := 128#32
  let v1554 : BitVec 32 := Scalar.addi v1553 c128_i32_573
  let c0_i32_575 : BitVec 32 := 0#32
  let v1556 : BitVec 1 := Scalar.cmpi .sgt v1554 c0_i32_575
  let v1557 : BitVec 32 := Scalar.extui v1556
  let c0_i32_576 : BitVec 32 := 0#32
  let v1558 : BitVec 1 := Scalar.cmpi .slt v1554 c0_i32_576
  let v1559 : BitVec 32 := Scalar.extui v1558
  let v1560 : BitVec 32 := Scalar.subi v1557 v1559
  let c2_i32_574 : BitVec 32 := 2#32
  let c0_i32_577 : BitVec 32 := 0#32
  let v1561 : BitVec 1 := Scalar.cmpi .sgt c2_i32_574 c0_i32_577
  let v1562 : BitVec 32 := Scalar.extui v1561
  let c0_i32_578 : BitVec 32 := 0#32
  let v1563 : BitVec 1 := Scalar.cmpi .slt c2_i32_574 c0_i32_578
  let v1564 : BitVec 32 := Scalar.extui v1563
  let v1565 : BitVec 32 := Scalar.subi v1562 v1564
  let v1566 : BitVec 1 := Scalar.cmpi .ne v1560 v1565
  let v1567 : BitVec 32 := Scalar.remsi v1554 c2_i32_574
  let c0_i32_579 : BitVec 32 := 0#32
  let v1568 : BitVec 1 := Scalar.cmpi .ne v1567 c0_i32_579
  let v1569 : BitVec 1 := Scalar.andi v1566 v1568
  let v1555 : BitVec 32 := Scalar.divsi v1554 c2_i32_574
  let c1_i32_580 : BitVec 32 := 1#32
  let v1570 : BitVec 32 := Scalar.subi v1555 c1_i32_580
  let v1571 : BitVec 32 := Scalar.select v1569 v1570 v1555
  v1571
def k0_off55 (k0_t1 : Fin k0_t1_loop.trips) : Fin 3 → Nat :=
  let c0_i32_13 : BitVec 32 := 0#32
  let c1_i32 : BitVec 32 := 1#32
  let arg14 : BitVec 32 := Scf.iv c0_i32_13 c1_i32 k0_t1
  let c2_i32 : BitVec 32 := 2#32
  let v741 : BitVec 32 := Scalar.remsi arg14 c2_i32
  let v1585 : Index := Scalar.indexCast v741
  let c128_585 : Index := 128#32
  let c1408_586 : Index := 1408#32
  ![v1585.toNat, 128, 1408]
def k0_mult25 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c256_i32_587 : BitVec 32 := 256#32
  let v1589 : BitVec 32 := Scalar.muli arg14 c256_i32_587
  let c128_i32_588 : BitVec 32 := 128#32
  let v1590 : BitVec 32 := Scalar.addi v1589 c128_i32_588
  let c0_i32_590 : BitVec 32 := 0#32
  let v1592 : BitVec 1 := Scalar.cmpi .sgt v1590 c0_i32_590
  let v1593 : BitVec 32 := Scalar.extui v1592
  let c0_i32_591 : BitVec 32 := 0#32
  let v1594 : BitVec 1 := Scalar.cmpi .slt v1590 c0_i32_591
  let v1595 : BitVec 32 := Scalar.extui v1594
  let v1596 : BitVec 32 := Scalar.subi v1593 v1595
  let c2_i32_589 : BitVec 32 := 2#32
  let c0_i32_592 : BitVec 32 := 0#32
  let v1597 : BitVec 1 := Scalar.cmpi .sgt c2_i32_589 c0_i32_592
  let v1598 : BitVec 32 := Scalar.extui v1597
  let c0_i32_593 : BitVec 32 := 0#32
  let v1599 : BitVec 1 := Scalar.cmpi .slt c2_i32_589 c0_i32_593
  let v1600 : BitVec 32 := Scalar.extui v1599
  let v1601 : BitVec 32 := Scalar.subi v1598 v1600
  let v1602 : BitVec 1 := Scalar.cmpi .ne v1596 v1601
  let v1603 : BitVec 32 := Scalar.remsi v1590 c2_i32_589
  let c0_i32_594 : BitVec 32 := 0#32
  let v1604 : BitVec 1 := Scalar.cmpi .ne v1603 c0_i32_594
  let v1605 : BitVec 1 := Scalar.andi v1602 v1604
  let v1591 : BitVec 32 := Scalar.divsi v1590 c2_i32_589
  let c1_i32_595 : BitVec 32 := 1#32
  let v1606 : BitVec 32 := Scalar.subi v1591 c1_i32_595
  let v1607 : BitVec 32 := Scalar.select v1605 v1606 v1591
  v1607
def k0_mult26 : BitVec 32 :=
  let c0_i32_17 : BitVec 32 := 0#32
  let c3_i32_18 : BitVec 32 := 3#32
  let v21 : BitVec 32 := Scalar.remsi c0_i32_17 c3_i32_18
  let c256_i32_19 : BitVec 32 := 256#32
  let v22 : BitVec 32 := Scalar.muli v21 c256_i32_19
  v22
def k0_mult27 : BitVec 32 :=
  let c1_i32_235 : BitVec 32 := 1#32
  let c3_i32_236 : BitVec 32 := 3#32
  let v732 : BitVec 32 := Scalar.remsi c1_i32_235 c3_i32_236
  let c256_i32_237 : BitVec 32 := 256#32
  let v733 : BitVec 32 := Scalar.muli v732 c256_i32_237
  v733
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let c48_i32 : BitVec 32 := 48#32
  let v4 : BitVec 1 := Scalar.cmpi .sle arg0 c48_i32
  let v5 : BitVec 1 := Scalar.andi v3 v4
  let v6 : BitVec 32 := Scalar.extui v5
  let c0_i32_2 : BitVec 32 := 0#32
  let v7 : BitVec 1 := Scalar.cmpi .ne v6 c0_i32_2
  v7

def k0_mult28 : BitVec 32 :=
  let c0_i32_4 : BitVec 32 := 0#32
  let c3_i32_5 : BitVec 32 := 3#32
  let v9 : BitVec 32 := Scalar.remsi c0_i32_4 c3_i32_5
  let c256_i32 : BitVec 32 := 256#32
  let v10 : BitVec 32 := Scalar.muli v9 c256_i32
  v10
def k0_off56 : Fin 3 → Nat :=
  let c0_i32_6 : BitVec 32 := 0#32
  let c0_i32_3 : BitVec 32 := 0#32
  let c3_i32 : BitVec 32 := 3#32
  let v8 : BitVec 32 := Scalar.divsi c0_i32_3 c3_i32
  let c0_i32_4 : BitVec 32 := 0#32
  let c3_i32_5 : BitVec 32 := 3#32
  let v9 : BitVec 32 := Scalar.remsi c0_i32_4 c3_i32_5
  let c256_i32 : BitVec 32 := 256#32
  let v10 : BitVec 32 := Scalar.muli v9 c256_i32
  let v11 : BitVec 32 := v10
  ![0, v8.toNat, v11.toNat]
def k0_cond4 (i : grid0.Coords) : BitVec 1 :=
  let arg0 : BitVec 32 := BitVec.ofNat 32 (i 0).val
  let c48_i32_252 : BitVec 32 := 48#32
  let v761 : BitVec 1 := Scalar.cmpi .slt arg0 c48_i32_252
  let v762 : BitVec 32 := Scalar.extui v761
  let c0_i32_253 : BitVec 32 := 0#32
  let v763 : BitVec 1 := Scalar.cmpi .ne v762 c0_i32_253
  v763

def k0_mult29 (i : grid0.Coords) : BitVec 32 :=
  let arg0 : BitVec 32 := BitVec.ofNat 32 (i 0).val
  let c1_i32 : BitVec 32 := 1#32
  let v764 : BitVec 32 := Scalar.addi arg0 c1_i32
  let c47_i32 : BitVec 32 := 47#32
  let v765 : BitVec 32 := Scalar.minsi v764 c47_i32
  let c3_i32_255 : BitVec 32 := 3#32
  let v767 : BitVec 32 := Scalar.remsi v765 c3_i32_255
  let c256_i32_256 : BitVec 32 := 256#32
  let v768 : BitVec 32 := Scalar.muli v767 c256_i32_256
  v768
def k0_off57 (i : grid0.Coords) : Fin 3 → Nat :=
  let c0_i32_257 : BitVec 32 := 0#32
  let arg0 : BitVec 32 := BitVec.ofNat 32 (i 0).val
  let c1_i32 : BitVec 32 := 1#32
  let v764 : BitVec 32 := Scalar.addi arg0 c1_i32
  let c47_i32 : BitVec 32 := 47#32
  let v765 : BitVec 32 := Scalar.minsi v764 c47_i32
  let c3_i32_254 : BitVec 32 := 3#32
  let v766 : BitVec 32 := Scalar.divsi v765 c3_i32_254
  let c3_i32_255 : BitVec 32 := 3#32
  let v767 : BitVec 32 := Scalar.remsi v765 c3_i32_255
  let c256_i32_256 : BitVec 32 := 256#32
  let v768 : BitVec 32 := Scalar.muli v767 c256_i32_256
  let v769 : BitVec 32 := v768
  ![0, v766.toNat, v769.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c47_i32 : BitVec 32 := 47#32
  let v1 : BitVec 32 := Scalar.maxsi c0_i32_0 v0
  let v2 : BitVec 32 := Scalar.minsi c47_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

abbrev stage0_0 : Fin 1 → Memref sig .tc .smem S12x70 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8960 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x768x8960 : Shape := ⟨3, ![16, 768, 8960]⟩
abbrev S16x768x70 : Shape := ⟨3, ![16, 768, 70]⟩
abbrev S8960x1536 : Shape := ⟨2, ![8960, 1536]⟩
abbrev S70x12 : Shape := ⟨2, ![70, 12]⟩
abbrev S16x768x1536 : Shape := ⟨3, ![16, 768, 1536]⟩
abbrev S1536 : Shape := ⟨1, ![1536]⟩
abbrev S1536x2048 : Shape := ⟨2, ![1536, 2048]⟩
abbrev S12x16 : Shape := ⟨2, ![12, 16]⟩
abbrev S16x768 : Shape := ⟨2, ![16, 768]⟩
abbrev S128 : Shape := ⟨1, ![128]⟩
abbrev S12288x8960 : Shape := ⟨2, ![12288, 8960]⟩
abbrev S12288x70 : Shape := ⟨2, ![12288, 70]⟩
abbrev S12288x1536 : Shape := ⟨2, ![12288, 1536]⟩
abbrev S12288x70x128 : Shape := ⟨3, ![12288, 70, 128]⟩
abbrev S12288x70x1 : Shape := ⟨3, ![12288, 70, 1]⟩
abbrev S70x128x12x128 : Shape := ⟨4, ![70, 128, 12, 128]⟩
abbrev S70x1x12x1 : Shape := ⟨4, ![70, 1, 12, 1]⟩

abbrev nBuf : Space → Nat
  | .hbm => 15
  | .vmem => 6
  | .smem => 0
  | _ => 0

abbrev bufTy : (tb : Table) → Fin (tcTables nBuf tb) → BufTy
  | .hbm, ⟨0, _⟩ => ⟨S16x768x8960, .fp8e4m3⟩
  | .hbm, ⟨1, _⟩ => ⟨S16x768x70, .f32⟩
  | .hbm, ⟨2, _⟩ => ⟨S8960x1536, .fp8e4m3⟩
  | .hbm, ⟨3, _⟩ => ⟨S70x12, .f32⟩
  | .hbm, ⟨4, _⟩ => ⟨S16x768x1536, .bf16⟩
  | .hbm, ⟨5, _⟩ => ⟨S1536, .f32⟩
  | .hbm, ⟨6, _⟩ => ⟨S1536x2048, .fp8e4m3⟩
  | .hbm, ⟨7, _⟩ => ⟨S12x16, .f32⟩
  | .hbm, ⟨8, _⟩ => ⟨S16x768, .i32⟩
  | .hbm, ⟨9, _⟩ => ⟨S128, .f32⟩
  | .hbm, ⟨10, _⟩ => ⟨S128, .f32⟩
  | .hbm, ⟨11, _⟩ => ⟨S12288x8960, .fp8e4m3⟩
  | .hbm, ⟨12, _⟩ => ⟨S12288x70, .f32⟩
  | .hbm, ⟨13, _⟩ => ⟨S12288x1536, .bf16⟩
  | .hbm, ⟨14, _⟩ => ⟨S12288x1536, .bf16⟩
  | .local _ .vmem, ⟨0, _⟩ => ⟨S12288x8960, .fp8e4m3⟩
  | .local _ .vmem, ⟨1, _⟩ => ⟨S12288x70, .f32⟩
  | .local _ .vmem, ⟨2, _⟩ => ⟨S8960x1536, .fp8e4m3⟩
  | .local _ .vmem, ⟨3, _⟩ => ⟨S70x12, .f32⟩
  | .local _ .vmem, ⟨4, _⟩ => ⟨S12288x1536, .bf16⟩
  | .local _ .vmem, ⟨5, _⟩ => ⟨S12288x1536, .bf16⟩
  | _, _ => ⟨S16x768x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x8960 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x70 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S70x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsTrip.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [BitOps F]

local notation "𝕄" => MT nD τ sig Unit (Elt F) ℕ (Pipeline.UD sig nD τ) ℕ

abbrev 𝒱₀ : Variants := Variants.none

/-! ## The streaming ring: two slots of the staging buffer, one semaphore each -/

abbrev slotOff (s : Fin 2) : Fin 3 → Nat := ![s.val, 0, 0]
theorem slotOff_inb (s : Fin 2) : ∀ a, slotOff s a + S1x256x1536.size a ≤ S2x256x2048.size a := by
  revert s; decide
abbrev semOff (s : Fin 2) : Fin 1 → Nat := ![s.val]
theorem semOff_inb (s : Fin 2) : ∀ a, semOff s a + S1.size a ≤ S2.size a := by revert s; decide
/-- Rows `256 b … 256 b + 255` of the weights in HBM. -/
abbrev chOff (b : Fin 35) : Fin 2 → Nat := ![256 * b.val, 0]
theorem chOff_inb (b : Fin 35) : ∀ a, chOff b a + S256x1536.size a ≤ S8960x1536.size a := by revert b; decide

abbrev wM : Memref sig .tc .hbm S8960x1536 .fp8e4m3 := Memref.whole main_arg2
abbrev stM : Memref sig .tc .vmem S2x256x2048 .fp8e4m3 := Memref.whole cc0_scratch3
abbrev w7M : Memref sig .tc .vmem S4480x1536 .i32 := Memref.whole cc0_scratch0
abbrev hdM : Memref sig .tc .vmem S256x8960 .bf16 := Memref.whole cc0_scratch1
abbrev rkM : Memref sig .tc .vmem S256x1536 .f32 := Memref.whole cc0_scratch2
abbrev hsM : Memref sig .tc .vmem S70x256 .f32 := Memref.whole cc0_scratch4
abbrev hscM : Memref sig .tc .hbm S70x16x768 .f32 := Memref.whole main_v2

def rslot (s : Fin 2) : Memref sig .tc .vmem S256x1536 .fp8e4m3 :=
  (stM.slice (Rect.unit (s := S2x256x2048) (slotOff s) S1x256x1536.size (slotOff_inb s)) (fun _ => rfl)).squeeze S256x1536 squeezes_S1x256x1536_S256x1536
def csm (s : Fin 2) : DmaSems sig S_ := (cc0_scratch5.slice (Rect.unit (s := S2) (semOff s) S1.size (semOff_inb s))).squeeze S_ squeezes_S1_S_
def chunk (b : Fin 35) : Memref sig .tc .hbm S256x1536 .fp8e4m3 :=
  wM.slice (Rect.unit (s := S8960x1536) (chOff b) S256x1536.size (chOff_inb b)) (fun _ => rfl)

instance (s : Fin 2) : ClosedOff (slotOff s) := ⟨slotOff s, rfl⟩
/-- A slot named by a trip's parity, at the parity itself. -/
theorem slotOff_sl (k : ℕ) : slotOff (Ring.sl 2 k) = ![k % 2, 0, 0] := by
  unfold slotOff; congr 1
instance (priority := high) (k : ℕ) : ClosedOff (slotOff (Ring.sl 2 k)) := ⟨![k % 2, 0, 0], slotOff_sl k⟩
instance (b : Fin 35) : ClosedOff (chOff b) := ⟨chOff b, rfl⟩

private theorem csm_congr {off : Fin 1 → Nat} {s : Fin 2} (e : off = semOff s) (hh) :
    (cc0_scratch5.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (stM.slice (Rect.unit (s := S2x256x2048) off S1x256x1536.size hh) hs).squeeze S256x1536 squeezes_S1x256x1536_S256x1536 = rslot s :=
  congrArg (fun M : Memref sig .tc .vmem S1x256x1536 .fp8e4m3 => M.squeeze S256x1536 squeezes_S1x256x1536_S256x1536) (Memref.slice_unit_congr _ e _ _ _ _)
private theorem chunk_congr {off : Fin 2 → Nat} {b : Fin 35} (e : off = chOff b) (hh hs) :
    wM.slice (Rect.unit (s := S8960x1536) off S256x1536.size hh) hs = chunk b :=
  Memref.slice_unit_congr _ e _ _ _ (fun _ => rfl)

abbrev K := Fin k0_t1_loop.trips
theorem trips_eq : k0_t1_loop.trips = 35 := by decide

theorem cond2_iff : ∀ k : K, k0_cond2 k = 1#1 ↔ k.val + 1 < 35 := by decide +kernel

theorem semI_off (k : K) : k0_off2 k = semOff (Ring.sl 2 (k.val + 1)) := by
  rw [k0_off2_eq]; unfold semOff; congr 1; simp [Ring.sl, Fin.ofNat]; omega
theorem slotI_off (k : K) : k0_off3 k = slotOff (Ring.sl 2 (k.val + 1)) := by
  rw [k0_off3_eq]; unfold slotOff; congr 1; simp [Ring.sl, Fin.ofNat]; omega
theorem semW_off (k : K) : k0_off5 k = semOff (Ring.sl 2 k.val) := by
  rw [k0_off5_eq]; unfold semOff; congr 1
theorem slotW_off (k : K) : k0_off6 k = slotOff (Ring.sl 2 k.val) := by
  rw [k0_off6_eq]; unfold slotOff; congr 1
theorem chI_off (k : K) (h : k.val + 1 < 35) : k0_off4 k = chOff (Ring.bk 35 (k.val + 1)) := by
  rw [k0_off4_eq]; unfold chOff; rw [Ring.bk_val h]; congr 1
theorem chW_off (k : K) (h : k.val < 35) : k0_off7 k = chOff (Ring.bk 35 k.val) := by
  rw [k0_off7_eq]; unfold chOff; rw [Ring.bk_val h]

@[sl_canon] theorem semL0 (hh) : (cc0_scratch5.slice (Rect.unit (s := S2) ![0] S1.size hh)).squeeze S_ squeezes_S1_S_ = csm 0 := csm_congr (by decide) _
@[sl_canon] theorem slotL0 (hh hs) : (stM.slice (Rect.unit (s := S2x256x2048) ![0, 0, 0] S1x256x1536.size hh) hs).squeeze S256x1536 squeezes_S1x256x1536_S256x1536 = rslot 0 := rslot_congr (by decide) _ _
@[sl_canon] theorem chL0 (hh hs) : wM.slice (Rect.unit (s := S8960x1536) ![0, 0] S256x1536.size hh) hs = chunk 0 := chunk_congr (by decide) _ _
@[sl_canon] theorem semI (k : K) (hh) :
    (cc0_scratch5.slice (Rect.unit (s := S2) (k0_off2 k) S1.size hh)).squeeze S_ squeezes_S1_S_ = csm (Ring.sl 2 (k.val + 1)) := csm_congr (semI_off k) _
@[sl_canon] theorem slotI (k : K) (hh hs) :
    (stM.slice (Rect.unit (s := S2x256x2048) (k0_off3 k) S1x256x1536.size hh) hs).squeeze S256x1536 squeezes_S1x256x1536_S256x1536 = rslot (Ring.sl 2 (k.val + 1)) := rslot_congr (slotI_off k) _ _
@[sl_canon] theorem semW (k : K) (hh) :
    (cc0_scratch5.slice (Rect.unit (s := S2) (k0_off5 k) S1.size hh)).squeeze S_ squeezes_S1_S_ = csm (Ring.sl 2 k.val) := csm_congr (semW_off k) _
@[sl_canon] theorem slotW (k : K) (hh hs) :
    (stM.slice (Rect.unit (s := S2x256x2048) (k0_off6 k) S1x256x1536.size hh) hs).squeeze S256x1536 squeezes_S1x256x1536_S256x1536 = rslot (Ring.sl 2 k.val) := rslot_congr (slotW_off k) _ _
@[sl_canon] theorem chI (k : K) (h : k.val + 1 < 35) (hh hs) :
    wM.slice (Rect.unit (s := S8960x1536) (k0_off4 k) S256x1536.size hh) hs = chunk (Ring.bk 35 (k.val + 1)) := chunk_congr (chI_off k h) _ _
@[sl_canon] theorem chW (k : K) (h : k.val < 35) (hh hs) :
    wM.slice (Rect.unit (s := S8960x1536) (k0_off7 k) S256x1536.size hh) hs = chunk (Ring.bk 35 k.val) := chunk_congr (chW_off k h) _ _

section Pieces
variable (c : Dev nD) (XW : Buf (Elt F) (wM.view.loc (c : Thread nD τ)))

/-- The share of the weights' array that slot `s`'s copies read through. -/
def qs (s : Fin 2) : PosShare TreeShare := if s = 0 then fullShare.left else fullShare.right

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev landed (s : Fin 2) (b : Fin 35) (f : Buf (Elt F) ((rslot s).view.loc (c : Thread nD τ))) : Buf (Elt F) ((rslot s).view.loc (c : Thread nD τ)) :=
  (rslot s).view.writes (Elt F) f [⟨Rect.whole S256x1536, ReadAs.same.apply ((chunk b).view.read (Elt F) XW)⟩]
/-- The rest of slot `s`'s share of the weights while chunk `b` is read through it. -/
def restP (s : Fin 2) (b : Fin 35) : sProp 𝕄 :=
  wM.view.loc (c : Thread nD τ) ↦[Finset.univ \ (chunk b).view.set]{qs s} XW
/-- Chunk `b` of the weights at slot `s`'s share. -/
abbrev chunkP (s : Fin 2) (b : Fin 35) : sProp 𝕄 :=
  (chunk b).view.loc (c : Thread nD τ) ↦[(chunk b).view.set]{qs s} XW
theorem chunk_split (s : Fin 2) (b : Fin 35) :
    iprop(wM.view.loc (c : Thread nD τ) ↦[Finset.univ]{qs s} XW) ⊣⊢ iprop(chunkP c XW s b ∗ restP c XW s b) :=
  pointsTo_split_subset (Finset.subset_univ _)
attribute [irreducible] restP
/-- Slot `s` in flight with chunk `b`, the rest of its share of the weights beside it. -/
abbrev flightP (s : Fin 2) (b : Fin 35) (f : Buf (Elt F) ((rslot s).view.loc (c : Thread nD τ))) : sProp 𝕄 :=
  iprop(Transfers.Flight countersEmb (c : Thread nD τ) (SemLoc.dma (csm s).sem) () 12288
      iprop(slotP c s (landed c XW s b f) ∗ chunkP c XW s b)
    ∗ restP c XW s b)
end Pieces

section Trip
variable (c : Dev nD) (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (k0_h1 : k0_cond1 i = 1#1)
  (XW : Buf (Elt F) (wM.view.loc (c : Thread nD τ))) (XS : Buf (Elt F) (arg1.view.loc (c : Thread nD τ)))

/-- Slot `s` at rest: held whole, its semaphore at zero, its share of the weights whole. -/
abbrev homeP (s : Fin 2) : sProp 𝕄 :=
  iprop((∃ f, slotP c s f) ∗ cellP (F := F) c s ∗ (wM.view.loc (c : Thread nD τ) ↦[Finset.univ]{qs s} XW))

/-- What the loop's trips share. -/
abbrev baseP (f7 : Buf (Elt F) (w7M.view.loc (c : Thread nD τ))) : sProp 𝕄 :=
  iprop((arg1.view.loc (c : Thread nD τ) ↦[arg1.view.set]{fullShare} XS) ∗ (w7M.view.loc (c : Thread nD τ) ↦[w7M.view.set]{fullShare} f7) ∗ (∃ W, owes (c : Thread nD τ) 0 W))

abbrev tripG (k : K) : Prog (TpuEff nD τ sig (Elt F) Λ₀ .tc) Unit :=
  k0_t1_body (F := F) i arg1 harg1 arg2 harg2 hscM (Memref.isWhole_whole _) arg4 harg4 wM (Memref.isWhole_whole _) arg6 harg6 w7M (Memref.isWhole_whole _) hdM (Memref.isWhole_whole _) rkM (Memref.isWhole_whole _) stM (Memref.isWhole_whole _) hsM (Memref.isWhole_whole _) cc0_scratch5 cc0_scratch6 k0_h1 k ()

set_option sl_exec.resultNames true in
set_option backward.proofsInPublic true in
def tripRun (k : K) (h2 : k.val + 1 < 35) (f7 : Buf (Elt F) (w7M.view.loc (c : Thread nD τ))) :
    { w : List (View.Piece (Elt F) S4480x1536 .i32) //
      iprop(baseP c arg1 XS f7 ∗ (∃ f, flightP c XW (Ring.sl 2 k.val) (Ring.bk 35 k.val) f) ∗ homeP c XW (Ring.sl 2 (k.val + 1)))
      ⊢ wp frame (wpE (defs₀ (F := F)) 𝒱₀ (c : Thread nD τ) none) Set.univ (tripG i arg1 harg1 arg2 harg2 arg4 harg4 arg6 harg6 k0_h1 k)
        (fun _ => iprop(baseP c arg1 XS (w7M.view.writes (Elt F) f7 w) ∗ (∃ f, flightP c XW (Ring.sl 2 (k.val + 1)) (Ring.bk 35 (k.val + 1)) f) ∗ homeP c XW (Ring.sl 2 k.val))) } := by
  refine ⟨?_, ?run⟩
  case run =>
    have h1 : k.val < 35 := by omega
    have hc2 : k0_cond2 k = 1#1 := (cond2_iff k).2 h2
    iintro ⟨⟨HS, H7, ⟨%W, HW⟩⟩, ⟨%f0, HF, HR⟩, ⟨%f1, HD⟩, Hc, HX⟩
    unfold tripG
    sl_unfold [k0_t1_body]
    ihave HX := ((chunk_split c XW (Ring.sl 2 (k.val + 1)) (Ring.bk 35 (k.val + 1))).1) $$ HX
    icases HX with ⟨HX, HX2⟩
    sl_exec
    sl_step
    isplitl [HS H7 HW]
    · isplitl [HS]; · iexact HS
      isplitl [H7]; · iexact H7
      iexists _; iexact HW
    isplitl [Hc HX2]
    · iexists f1
      isplitl [Hc]; · iexact Hc
      iexact HX2
    isplitl [HF_dst]; · iexists _; iexact HF_dst
    isplitl [HF]; · iexact HF
    iapply (chunk_split c XW (Ring.sl 2 k.val) (Ring.bk 35 k.val)).2
    isplitl [HF_src]; · iexact HF_src
    iexact HR

set_option sl_exec.resultNames true in
set_option backward.proofsInPublic true in
/-- The last trip: nothing more to start. -/
def lastRun (k : K) (h2 : ¬ k.val + 1 < 35) (f7 : Buf (Elt F) (w7M.view.loc (c : Thread nD τ))) :
    { w : List (View.Piece (Elt F) S4480x1536 .i32) //
      iprop(baseP c arg1 XS f7 ∗ (∃ f, flightP c XW (Ring.sl 2 k.val) (Ring.bk 35 k.val) f))
      ⊢ wp frame (wpE (defs₀ (F := F)) 𝒱₀ (c : Thread nD τ) none) Set.univ (tripG i arg1 harg1 arg2 harg2 arg4 harg4 arg6 harg6 k0_h1 k)
        (fun _ => iprop(baseP c arg1 XS (w7M.view.writes (Elt F) f7 w) ∗ homeP c XW (Ring.sl 2 k.val))) } := by
  refine ⟨?_, ?run⟩
  case run =>
    have h1 : k.val < 35 := Nat.lt_of_lt_of_eq k.isLt trips_eq
    have hc2 : ¬ k0_cond2 k = 1#1 := fun h => h2 ((cond2_iff k).1 h)
    iintro ⟨⟨HS, H7, ⟨%W, HW⟩⟩, ⟨%f0, HF, HR⟩⟩
    unfold tripG
    sl_unfold [k0_t1_body]
    sl_exec
    sl_step
    isplitl [HS H7 HW]
    · isplitl [HS]; · iexact HS
      isplitl [H7]; · iexact H7
      iexists _; iexact HW
    isplitl [HF_dst]; · iexists _; iexact HF_dst
    isplitl [HF]; · iexact HF
    iapply (chunk_split c XW (Ring.sl 2 k.val) (Ring.bk 35 k.val)).2
    isplitl [HF_src]; · iexact HF_src
    iexact HR

end Trip
end Cert.Kernel.Hand
end
-- ==== Proof.BitsLoop.lean ====
module

public import proofs.«01_k».proof.Proof.BitsTrip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [BitOps F]

local notation "𝕄" => MT nD τ sig Unit (Elt F) ℕ (Pipeline.UD sig nD τ) ℕ

/-! ## The loop's invariant -/
section Loop
variable (c : Dev nD) (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (k0_h1 : k0_cond1 i = 1#1)
  (XW : Buf (Elt F) (wM.view.loc (c : Thread nD τ))) (XS : Buf (Elt F) (arg1.view.loc (c : Thread nD τ)))
  (Pw : ℕ → Buf (Elt F) (w7M.view.loc (c : Thread nD τ)) → Prop)

/-- The ring before trip `k`: chunk `k` under way in its slot, the other slot at rest; after the last trip both at rest. -/
def ringP (k : ℕ) : sProp 𝕄 :=
  if k < 35 then iprop((∃ f, flightP c XW (Ring.sl 2 k) (Ring.bk 35 k) f) ∗ homeP c XW (Ring.sl 2 (k + 1)))
  else iprop(homeP c XW (Ring.sl 2 k) ∗ homeP c XW (Ring.sl 2 (k + 1)))

/-- Before trip `k`: the weights' buffer as the trips before it left it, and the ring. -/
def genInv (k : ℕ) : sProp 𝕄 :=
  iprop((∃ f7, ⌜Pw k f7⌝ ∗ baseP c arg1 XS f7) ∗ ringP c XW k)

/-- The same at the loop's entry, spelt as the copies before it leave things. -/
abbrev inv0 : sProp 𝕄 :=
  iprop((arg1.view.loc (c : Thread nD τ) ↦[arg1.view.set]{fullShare} XS) ∗ (∃ f7, w7M.view.loc (c : Thread nD τ) ↦[w7M.view.set]{fullShare} f7) ∗ (∃ W, owes (c : Thread nD τ) 0 W)
    ∗ (∃ f, Transfers.Flight countersEmb (c : Thread nD τ) (SemLoc.dma (csm 0).sem) () 12288 iprop(slotP c 0 (landed c XW 0 0 f) ∗ chunkP c XW 0 0))
    ∗ restP c XW 0 0 ∗ (∃ f, slotP c 1 f) ∗ cellP (F := F) c 1 ∗ (wM.view.loc (c : Thread nD τ) ↦[Finset.univ]{qs 1} XW))

/-- The weights' buffer with what the trips so far left in it. -/
def w7At (k : ℕ) (f7 : Buf (Elt F) (w7M.view.loc (c : Thread nD τ))) : sProp 𝕄 :=
  iprop(⌜Pw k f7⌝ ∗ (w7M.view.loc (c : Thread nD τ) ↦[w7M.view.set]{fullShare} f7))

/-- Before a later trip: the same number of conjuncts as at the entry, the ring being one of them. -/
abbrev invS (k : ℕ) : sProp 𝕄 :=
  iprop((arg1.view.loc (c : Thread nD τ) ↦[arg1.view.set]{fullShare} XS) ∗ (∃ f7, w7At c Pw k f7) ∗ (∃ W, owes (c : Thread nD τ) 0 W)
    ∗ (∃ f : Buf (Elt F) (w7M.view.loc (c : Thread nD τ)), ringP c XW k) ∗ emp ∗ (∃ f : Buf (Elt F) (w7M.view.loc (c : Thread nD τ)), emp) ∗ emp ∗ emp)

theorem invS_gen (k : ℕ) : invS c arg1 XW XS Pw k ⊢ genInv c arg1 XW XS Pw k := by
  unfold invS genInv w7At
  iintro ⟨HS, ⟨%f7, %hp, H7⟩, HW, ⟨%f, HR⟩, -⟩
  isplitl [HS H7 HW]
  · iexists f7
    isplitr; · ipureintro; exact hp
    isplitl [HS]; · iexact HS
    isplitl [H7]; · iexact H7
    iexact HW
  iexact HR
theorem gen_invS (k : ℕ) : genInv c arg1 XW XS Pw k ⊢ invS c arg1 XW XS Pw k := by
  unfold invS genInv w7At
  iintro ⟨⟨%f7, %hp, HS, H7, HW⟩, HR⟩
  isplitl [HS]; · iexact HS
  isplitl [H7]
  · iexists f7
    isplitr; · ipureintro; exact hp
    iexact H7
  isplitl [HW]; · iexact HW
  isplitl [HR]
  · iexists f7
    iexact HR
  isplitr; · iempintro
  isplitr
  · iexists f7
    iempintro
  isplitr <;> iempintro
attribute [irreducible] w7At

@[reducible] def invAt : ℕ → sProp 𝕄
  | 0 => inv0 c arg1 XW XS
  | k + 1 => invS c arg1 XW XS Pw (k + 1)

theorem inv0_gen (h0 : ∀ f, Pw 0 f) : inv0 c arg1 XW XS ⊢ genInv c arg1 XW XS Pw 0 := by
  unfold genInv ringP
  rw [if_pos (by decide)]
  iintro ⟨HS, ⟨%f7, H7⟩, HW, ⟨%f, HF⟩, HR, HD, Hc, HX⟩
  isplitl [HS H7 HW]
  · iexists f7
    isplitr; · ipureintro; exact h0 f7
    isplitl [HS]; · iexact HS
    isplitl [H7]; · iexact H7
    iexact HW
  isplitl [HF HR]
  · iexists f
    isplitl [HF]; · iexact HF
    iexact HR
  isplitl [HD]; · iexact HD
  isplitl [Hc]; · iexact Hc
  iexact HX

theorem invAt_gen (h0 : ∀ f, Pw 0 f) (k : ℕ) : invAt c arg1 XW XS Pw k ⊢ genInv c arg1 XW XS Pw k := by
  cases k with
  | zero => exact inv0_gen c arg1 XW XS Pw h0
  | succ k => exact invS_gen c arg1 XW XS Pw (k + 1)

theorem genStep (k : K)
    (hs : ∀ (h2 : k.val + 1 < 35) f7, Pw k.val f7 → Pw (k.val + 1) (w7M.view.writes (Elt F) f7 (tripRun c i arg1 harg1 arg2 harg2 arg4 harg4 arg6 harg6 k0_h1 XW XS k h2 f7).1))
    (hl : ∀ (h2 : ¬ k.val + 1 < 35) f7, Pw k.val f7 → Pw (k.val + 1) (w7M.view.writes (Elt F) f7 (lastRun c i arg1 harg1 arg2 harg2 arg4 harg4 arg6 harg6 k0_h1 XW XS k h2 f7).1)) :
    genInv c arg1 XW XS Pw k.val ⊢ wp frame (wpE (defs₀ (F := F)) 𝒱₀ (c : Thread nD τ) none) Set.univ (tripG i arg1 harg1 arg2 harg2 arg4 harg4 arg6 harg6 k0_h1 k)
        (fun _ => genInv c arg1 XW XS Pw (k.val + 1)) := by
  have h1 : k.val < 35 := Nat.lt_of_lt_of_eq k.isLt trips_eq
  have e2 : Ring.sl 2 (k.val + 1 + 1) = Ring.sl 2 k.val := by
    apply Fin.ext; simp [Ring.sl, Fin.ofNat]; omega
  unfold genInv ringP
  rw [if_pos h1]
  by_cases h2 : k.val + 1 < 35
  · rw [if_pos h2, e2]
    iintro ⟨⟨%f7, %hp, HB⟩, HF, HH⟩
    iapply (wp_wand_r Idealize.ShloMosaic.frame (wpE (defs₀ (F := F)) 𝒱₀ (c : Thread nD τ) none) Set.univ)
    isplitl [HB HF HH]
    · iapply (tripRun c i arg1 harg1 arg2 harg2 arg4 harg4 arg6 harg6 k0_h1 XW XS k h2 f7).2
      isplitl [HB]; · iexact HB
      isplitl [HF]; · iexact HF
      iexact HH
    · iintro %_ ⟨HB, HF, HH⟩
      isplitl [HB]
      · iexists _
        isplitr; · ipureintro; exact hs h2 f7 hp
        iexact HB
      isplitl [HF]; · iexact HF
      iexact HH
  · rw [if_neg h2, e2]
    iintro ⟨⟨%f7, %hp, HB⟩, HF, HH⟩
    iapply (wp_wand_r Idealize.ShloMosaic.frame (wpE (defs₀ (F := F)) 𝒱₀ (c : Thread nD τ) none) Set.univ)
    isplitl [HB HF]
    · iapply (lastRun c i arg1 harg1 arg2 harg2 arg4 harg4 arg6 harg6 k0_h1 XW XS k h2 f7).2
      isplitl [HB]; · iexact HB
      iexact HF
    · iintro %_ ⟨HB, HK⟩
      isplitl [HB]
      · iexists _
        isplitr; · ipureintro; exact hl h2 f7 hp
        iexact HB
      isplitl [HH]; · iexact HH
      iexact HK

theorem ringP_exit : ringP c XW 35 ⊢ iprop(homeP c XW 1 ∗ homeP c XW 0) := by
  unfold ringP
  rw [if_neg (by decide)]
  exact .rfl
theorem w7At_exit (f7 : Buf (Elt F) (w7M.view.loc (c : Thread nD τ))) (k : ℕ) :
    w7At c Pw k f7 ⊢ iprop(⌜Pw k f7⌝ ∗ (w7M.view.loc (c : Thread nD τ) ↦[w7M.view.set]{fullShare} f7)) := by
  unfold w7At
  exact .rfl
attribute [irreducible] ringP

/-- What a property of the weights' buffer must satisfy to be carried through the loop. -/
structure Carried : Prop where
  start : ∀ f, Pw 0 f
  next : ∀ (k : K) (h2 : k.val + 1 < 35) f7, Pw k.val f7 → Pw (k.val + 1) (w7M.view.writes (Elt F) f7 (tripRun c i arg1 harg1 arg2 harg2 arg4 harg4 arg6 harg6 k0_h1 XW XS k h2 f7).1)
  last : ∀ (k : K) (h2 : ¬ k.val + 1 < 35) f7, Pw k.val f7 → Pw (k.val + 1) (w7M.view.writes (Elt F) f7 (lastRun c i arg1 harg1 arg2 harg2 arg4 harg4 arg6 harg6 k0_h1 XW XS k h2 f7).1)

set_option warn.classDefReducibility false in
def loopInv (hP : Carried c i arg1 harg1 arg2 harg2 arg4 harg4 arg6 harg6 k0_h1 XW XS Pw) :
    Gen.LoopInvTy_k0_t1 (F := F) Unit ℕ (Pipeline.UD sig nD τ) ℕ 𝒱₀ c none Set.univ i arg1 harg1 arg2 harg2 hscM (Memref.isWhole_whole _) arg4 harg4 wM (Memref.isWhole_whole _) arg6 harg6 w7M (Memref.isWhole_whole _) hdM (Memref.isWhole_whole _) rkM (Memref.isWhole_whole _) stM (Memref.isWhole_whole _) hsM (Memref.isWhole_whole _) cc0_scratch5 cc0_scratch6 k0_h1 where
  inv k _ := invAt c arg1 XW XS Pw k
  step k _ := (invAt_gen c arg1 XW XS Pw hP.start k.val).trans
    ((genStep c i arg1 harg1 arg2 harg2 arg4 harg4 arg6 harg6 k0_h1 XW XS Pw k (hP.next k) (hP.last k)).trans
      (wp_mono _ _ _ fun _ => gen_invS c arg1 XW XS Pw (k.val + 1)))

end Loop
end Cert.Kernel.Hand
end
-- ==== Proof.BitsBody.lean ====
module

public import proofs.«01_k».proof.Proof.BitsLoop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [BitOps F]

local notation "𝕄" => MT nD τ sig Unit (Elt F) ℕ (Pipeline.UD sig nD τ) ℕ

/-! ## One tile's scales, copied while the step before works -/

/-- Where tile `n`'s scales lie: all groups, one batch row, 256 positions. -/
abbrev tileOff (n : Fin 48) : Fin 3 → Nat := ![0, n.val / 3, 256 * (n.val % 3)]
theorem tileOff_inb (n : Fin 48) : ∀ a, tileOff n a + S70x1x256.size a ≤ S70x16x768.size a := by revert n; decide
def tileM (n : Fin 48) : Memref sig .tc .hbm S70x256 .f32 :=
  (hscM.slice (Rect.unit (s := S70x16x768) (tileOff n) S70x1x256.size (tileOff_inb n)) (fun _ => rfl)).squeeze S70x256 squeezes_S70x1x256_S70x256
private theorem tileM_congr {off : Fin 3 → Nat} {n : Fin 48} (e : off = tileOff n) (hh hs) :
    (hscM.slice (Rect.unit (s := S70x16x768) off S70x1x256.size hh) hs).squeeze S70x256 squeezes_S70x1x256_S70x256 = tileM n :=
  congrArg (fun M : Memref sig .tc .hbm S70x1x256 .f32 => M.squeeze S70x256 squeezes_S70x1x256_S70x256) (Memref.slice_unit_congr _ e _ _ _ _)

/-- The tile whose scales step `i` starts copying. -/
def nextTile (i : grid0.Coords) : Fin 48 := ⟨min ((i 0).val + 1) 47, by omega⟩

@[sl_canon] theorem tile0 (hh hs) :
    (hscM.slice (Rect.unit (s := S70x16x768) (k0_off1 0#32 0#32) S70x1x256.size hh) hs).squeeze S70x256 squeezes_S70x1x256_S70x256 = tileM 0 := tileM_congr (by decide) _ _
@[sl_canon] theorem tile0L (hh hs) :
    (hscM.slice (Rect.unit (s := S70x16x768) ![0, 0, 0] S70x1x256.size hh) hs).squeeze S70x256 squeezes_S70x1x256_S70x256 = tileM 0 := tileM_congr (by decide) _ _
@[sl_canon] theorem tile1L (hh hs) :
    (hscM.slice (Rect.unit (s := S70x16x768) ![0, 0, 256] S70x1x256.size hh) hs).squeeze S70x256 squeezes_S70x1x256_S70x256 = tileM 1 := tileM_congr (by decide) _ _
@[sl_canon] theorem tile1 (hh hs) :
    (hscM.slice (Rect.unit (s := S70x16x768) (k0_off1 1#32 1#32) S70x1x256.size hh) hs).squeeze S70x256 squeezes_S70x1x256_S70x256 = tileM 1 := tileM_congr (by decide) _ _
@[sl_canon] theorem tileW (hh hs) :
    (hscM.slice (Rect.unit (s := S70x16x768) k0_off56 S70x1x256.size hh) hs).squeeze S70x256 squeezes_S70x1x256_S70x256 = tileM 0 := tileM_congr (by decide) _ _
@[sl_canon] theorem tileI (i : grid0.Coords) (hh hs) :
    (hscM.slice (Rect.unit (s := S70x16x768) (k0_off57 i) S70x1x256.size hh) hs).squeeze S70x256 squeezes_S70x1x256_S70x256 = tileM (nextTile i) := tileM_congr (k0_off57_eq i) _ _

section Scales
variable (c : Dev nD) (XV : Buf (Elt F) (hscM.view.loc (c : Thread nD τ)))
abbrev homeV (s : Fin 2) : sProp 𝕄 := hscM.view.loc (c : Thread nD τ) ↦[Finset.univ]{qs s} XV
abbrev tileP (s : Fin 2) (n : Fin 48) : sProp 𝕄 := (tileM n).view.loc (c : Thread nD τ) ↦[(tileM n).view.set]{qs s} XV
def restV (s : Fin 2) (n : Fin 48) : sProp 𝕄 := hscM.view.loc (c : Thread nD τ) ↦[Finset.univ \ (tileM n).view.set]{qs s} XV
theorem tile_split (s : Fin 2) (n : Fin 48) : iprop(homeV c XV s) ⊣⊢ iprop(tileP c XV s n ∗ restV c XV s n) :=
  pointsTo_split_subset (Finset.subset_univ _)
abbrev hsP (f : Buf (Elt F) (hsM.view.loc (c : Thread nD τ))) : sProp 𝕄 := hsM.view.loc (c : Thread nD τ) ↦[hsM.view.set]{fullShare} f
/-- Tile `n`'s scales, as the copy reads them. -/
abbrev tileOf (n : Fin 48) : S70x256.Idx → Elt F .f32 := ReadAs.same.apply ((tileM n).view.read (Elt F) XV)
abbrev hsLanded (n : Fin 48) (f : Buf (Elt F) (hsM.view.loc (c : Thread nD τ))) : Buf (Elt F) (hsM.view.loc (c : Thread nD τ)) :=
  hsM.view.writes (Elt F) f [⟨Rect.whole S70x256, tileOf c XV n⟩]
abbrev hsFl (s : Fin 2) (n : Fin 48) : sProp 𝕄 :=
  iprop((∃ f, Transfers.Flight countersEmb (c : Thread nD τ) (SemLoc.dma cc0_scratch6.sem) () 2240
      iprop(hsP c (hsLanded c XV n f) ∗ tileP c XV s n)) ∗ restV c XV s n)
abbrev hcell : sProp 𝕄 := semVal ((c : Thread nD τ), SemLoc.dma cc0_scratch6.sem) 0
end Scales

section Body
variable (c : Dev nD) (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (XW : Buf (Elt F) (wM.view.loc (c : Thread nD τ))) (XS : Buf (Elt F) (arg1.view.loc (c : Thread nD τ)))
  (Pw : ℕ → Buf (Elt F) (w7M.view.loc (c : Thread nD τ)) → Prop)
  (XV : Buf (Elt F) (hscM.view.loc (c : Thread nD τ)))
  (X2 : Buf (Elt F) (arg2.view.loc (c : Thread nD τ))) (X4 : Buf (Elt F) (arg4.view.loc (c : Thread nD τ)))

abbrev bodyG : Prog (TpuEff nD τ sig (Elt F) Λ₀ .tc) PUnit :=
  cc0_down_norm_qkv_rope i arg1 harg1 arg2 harg2 hscM (Memref.isWhole_whole _) arg4 harg4 wM (Memref.isWhole_whole _) arg6 harg6 w7M (Memref.isWhole_whole _) hdM (Memref.isWhole_whole _) rkM (Memref.isWhole_whole _) stM (Memref.isWhole_whole _) hsM (Memref.isWhole_whole _) cc0_scratch5 cc0_scratch6

abbrev hdP (f : Buf (Elt F) (hdM.view.loc (c : Thread nD τ))) : sProp 𝕄 := hdM.view.loc (c : Thread nD τ) ↦[hdM.view.set]{fullShare} f
/-- The result rows kept in `f32`: written, not read. -/
abbrev rkP : sProp 𝕄 := iprop(∃ f, rkM.view.loc (c : Thread nD τ) ↦[rkM.view.set]{fullShare} f)
abbrev w7P (f : Buf (Elt F) (w7M.view.loc (c : Thread nD τ))) : sProp 𝕄 := w7M.view.loc (c : Thread nD τ) ↦[w7M.view.set]{fullShare} f
abbrev inP {sp : Space} {S : Shape} {e : EltTy} (M : Memref sig .tc sp S e) (f : Buf (Elt F) (M.view.loc (c : Thread nD τ))) : sProp 𝕄 := M.view.loc (c : Thread nD τ) ↦[M.view.set]{fullShare} f

set_option sl_exec.resultNames true in
set_option backward.proofsInPublic true in
/-- The first step: the weights, then the first tile; the second tile's scales under way at the end. -/
def run0 (k0_h1 : k0_cond1 i = 1#1) (h3 : ¬ k0_cond3 i = 1#1) (hP : Carried c i arg1 harg1 arg2 harg2 arg4 harg4 arg6 harg6 k0_h1 XW XS Pw) :
    { L8 : List (View.Piece (Elt F) S256x8960 .bf16) //
      iprop(inP c arg1 XS ∗ inP c arg2 X2 ∗ (∃ f7, w7P c f7) ∗ (∃ f8, hdP c f8) ∗ (∃ f, hsP c f) ∗ homeP c XW 0 ∗ homeP c XW 1
          ∗ hcell (F := F) c ∗ homeV c XV 0 ∗ homeV c XV 1 ∗ rkP (F := F) c ∗ (∃ W, owes (c : Thread nD τ) 0 W))
      ⊢ wp frame (wpE (defs₀ (F := F)) 𝒱₀ (c : Thread nD τ) none) Set.univ (bodyG i arg1 harg1 arg2 harg2 arg4 harg4 arg6 harg6)
        (fun _ => iprop(inP c arg1 XS ∗ inP c arg2 X2 ∗ (∃ f7, ⌜Pw 35 f7⌝ ∗ w7P c f7) ∗ (∃ f8, hdP c (hdM.view.writes (Elt F) f8 L8)) ∗ hsFl c XV 1 1
          ∗ homeP c XW 0 ∗ homeP c XW 1 ∗ homeV c XV 0 ∗ rkP (F := F) c ∗ (∃ W, owes (c : Thread nD τ) 0 W))) } := by
  refine ⟨?_, ?run⟩
  case run =>
    let L := loopInv c i arg1 harg1 arg2 harg2 arg4 harg4 arg6 harg6 k0_h1 XW XS Pw hP
    iintro ⟨HS, H2, ⟨%f7, H7⟩, ⟨%f8, H8⟩, ⟨%fs, Hs⟩, ⟨⟨%g0, HD0⟩, Hc0, HX0⟩, ⟨⟨%g1, HD1⟩, Hc1, HX1⟩, Hh, HV0, HV1, ⟨%fk, Hk⟩, ⟨%W, HW⟩⟩
    ihave HX0 := ((chunk_split c XW 0 0).1) $$ HX0
    icases HX0 with ⟨HX0, HX0r⟩
    ihave HV0 := ((tile_split c XV 0 0).1) $$ HV0
    icases HV0 with ⟨HV0, HV0r⟩
    ihave HV1 := ((tile_split c XV 1 1).1) $$ HV1
    icases HV1 with ⟨HV1, HV1r⟩
    unfold bodyG
    simp only [cc0_down_norm_qkv_rope_eq_skeleton]; unfold cc0_down_norm_qkv_rope_skel
    sl_exec
    sl_step
    sl_exec
    ihave Hc0 := (ringP_exit c XW) $$ Hc0
    icases Hc0 with ⟨HK1, HK0⟩
    ihave H7 := (w7At_exit c Pw _ 35) $$ H7
    sl_step
    isplitl [HS]; · iexact HS
    isplitl [H2]; · iexact H2
    isplitl [H7]; · iexists _; iexact H7
    isplitl [H8]; · iexists f8; iexact H8
    isplitl [Hh HV1r]
    · isplitl [Hh]; · iexists _; iexact Hh
      iexact HV1r
    isplitl [HK0]; · iexact HK0
    isplitl [HK1]; · iexact HK1
    isplitl [HV0 HV0r]
    · iapply (tile_split c XV 0 0).2
      isplitl [HV0]; · iexact HV0
      iexact HV0r
    isplitl [Hk]; · iexists _; iexact Hk
    iexists _; iexact HW

set_option sl_exec.resultNames true in
set_option backward.proofsInPublic true in
/-- A middle step: the product of the tile before, the next tile's rows, the scales after it under way at the end. -/
def runM (h1 : ¬ k0_cond1 i = 1#1) (h3 : k0_cond3 i = 1#1) (h4 : k0_cond4 i = 1#1) (s s' : Fin 2) (n : Fin 48)
    (f7 : Buf (Elt F) (w7M.view.loc (c : Thread nD τ))) (f8 : Buf (Elt F) (hdM.view.loc (c : Thread nD τ))) :
    { L : List (View.Piece (Elt F) S256x1536 .bf16) × List (View.Piece (Elt F) S256x8960 .bf16) // ∀ f6,
      iprop(inP c arg2 X2 ∗ inP c arg4 X4 ∗ inP c arg6 f6 ∗ w7P c f7 ∗ hdP c f8 ∗ hsFl c XV s n ∗ homeV c XV s' ∗ rkP (F := F) c ∗ (∃ W, owes (c : Thread nD τ) 0 W))
      ⊢ wp frame (wpE (defs₀ (F := F)) 𝒱₀ (c : Thread nD τ) none) Set.univ (bodyG i arg1 harg1 arg2 harg2 arg4 harg4 arg6 harg6)
        (fun _ => iprop(inP c arg2 X2 ∗ inP c arg4 X4 ∗ inP c arg6 (arg6.view.writes (Elt F) f6 L.1) ∗ w7P c f7 ∗ hdP c (hdM.view.writes (Elt F) f8 L.2)
          ∗ hsFl c XV s' (nextTile i) ∗ homeV c XV s ∗ rkP (F := F) c ∗ (∃ W, owes (c : Thread nD τ) 0 W))) } := by
  refine ⟨⟨?_, ?_⟩, fun f6 => ?run⟩
  case run =>
    iintro ⟨H2, H4, H6, H7, H8, ⟨⟨%fs, HF⟩, HR⟩, HV, ⟨%fk, Hk⟩, ⟨%W, HW⟩⟩
    ihave HV := ((tile_split c XV s' (nextTile i)).1) $$ HV
    icases HV with ⟨HV, HVr⟩
    unfold bodyG
    simp only [cc0_down_norm_qkv_rope_eq_skeleton]; unfold cc0_down_norm_qkv_rope_skel
    sl_exec
    sl_step
    sl_exec
    sl_step
    isplitl [H2]; · iexact H2
    isplitl [H4]; · iexact H4
    isplitl [H6]; · iexact H6
    isplitl [H7]; · iexact H7
    isplitl [H8]; · iexact H8
    isplitl [HF HVr]
    · isplitl [HF]; · iexists _; iexact HF
      iexact HVr
    isplitl [HF_src HR]
    · iapply (tile_split c XV s n).2
      isplitl [HF_src]; · iexact HF_src
      iexact HR
    isplitl [Hk]; · iexists _; iexact Hk
    iexists _; iexact HW

set_option sl_exec.resultNames true in
set_option backward.proofsInPublic true in
/-- The last working step: nothing more to copy. -/
def runL (h1 : ¬ k0_cond1 i = 1#1) (h3 : k0_cond3 i = 1#1) (h4 : ¬ k0_cond4 i = 1#1) (s : Fin 2) (n : Fin 48)
    (f7 : Buf (Elt F) (w7M.view.loc (c : Thread nD τ))) (f8 : Buf (Elt F) (hdM.view.loc (c : Thread nD τ))) :
    { L : List (View.Piece (Elt F) S256x1536 .bf16) × List (View.Piece (Elt F) S256x8960 .bf16) // ∀ f6,
      iprop(inP c arg2 X2 ∗ inP c arg4 X4 ∗ inP c arg6 f6 ∗ w7P c f7 ∗ hdP c f8 ∗ hsFl c XV s n ∗ rkP (F := F) c ∗ (∃ W, owes (c : Thread nD τ) 0 W))
      ⊢ wp frame (wpE (defs₀ (F := F)) 𝒱₀ (c : Thread nD τ) none) Set.univ (bodyG i arg1 harg1 arg2 harg2 arg4 harg4 arg6 harg6)
        (fun _ => iprop(inP c arg2 X2 ∗ inP c arg4 X4 ∗ inP c arg6 (arg6.view.writes (Elt F) f6 L.1) ∗ w7P c f7 ∗ hdP c (hdM.view.writes (Elt F) f8 L.2)
          ∗ (∃ f, hsP c f) ∗ hcell (F := F) c ∗ homeV c XV s ∗ rkP (F := F) c ∗ (∃ W, owes (c : Thread nD τ) 0 W))) } := by
  refine ⟨⟨?_, ?_⟩, fun f6 => ?run⟩
  case run =>
    iintro ⟨H2, H4, H6, H7, H8, ⟨⟨%fs, HF⟩, HR⟩, ⟨%fk, Hk⟩, ⟨%W, HW⟩⟩
    unfold bodyG
    simp only [cc0_down_norm_qkv_rope_eq_skeleton]; unfold cc0_down_norm_qkv_rope_skel
    sl_exec
    sl_step
    sl_exec
    sl_step
    isplitl [H2]; · iexact H2
    isplitl [H4]; · iexact H4
    isplitl [H6]; · iexact H6
    isplitl [H7]; · iexact H7
    isplitl [H8]; · iexact H8
    isplitl [HF_dst]; · iexists _; iexact HF_dst
    isplitl [HF]; · iexact HF
    isplitl [HF_src HR]
    · iapply (tile_split c XV s n).2
      isplitl [HF_src]; · iexact HF_src
      iexact HR
    isplitl [Hk]; · iexists _; iexact Hk
    iexists _; iexact HW

/-- The step after it does nothing. -/
theorem runE (h1 : ¬ k0_cond1 i = 1#1) (h3 : ¬ k0_cond3 i = 1#1) (Q : PUnit → sProp 𝕄) :
    Q ⟨⟩ ⊢ wp frame (wpE (defs₀ (F := F)) 𝒱₀ (c : Thread nD τ) none) Set.univ (bodyG i arg1 harg1 arg2 harg2 arg4 harg4 arg6 harg6) Q := by
  iintro H
  unfold bodyG
  simp only [cc0_down_norm_qkv_rope_eq_skeleton]; unfold cc0_down_norm_qkv_rope_skel
  sl_exec
  sl_step
  iexact H

end Body
end Cert.Kernel.Hand
end
-- ==== Proof.BitsFrame.lean ====
module

public import proofs.«01_k».proof.Proof.BitsBody
public import proofs.«01_k».proof.Proof.Gen.Kernel.Frame
public import Idealize.ShloMosaic.Lib.Pipeline.DatRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [BitOps F]

local notation "𝕄" => MT nD τ sig Unit (Elt F) ℕ (Pipeline.UD sig nD τ) ℕ

/-! ## The buffers between the region's entry and the body -/

/-- The scratch buffers' and the two copied arrays' own semaphores. -/
abbrev osem0 : Fin 3 → SemLoc sig := fun j => (![SemLoc.dma 7, SemLoc.dma 8, SemLoc.dma 9] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2] (by decide) (by decide)]; rfl

/-- The arrays that the body copies from itself. -/
def H0 : Finset (Ref sig .tc) := {main_arg2, main_v2}
theorem H0_sub : H0 ⊆ Pipeline.restRefs sig spec0 := by decide

theorem eqE {P Q : sProp 𝕄} (e : P = Q) : P ⊢ Q := e ▸ .rfl

section Buffers
variable (m : (ℓ : Loc nD τ sig) → Buf (Elt F) ℓ)

theorem hbmPts0_eq (c : Dev nD) :
    (bigSep H0 fun b => ((c : Thread nD τ).loc b) ↦{fullShare} V m c b : sProp 𝕄)
      = iprop((((c : Thread nD τ).loc main_arg2) ↦{fullShare} V m c main_arg2) ∗ (((c : Thread nD τ).loc main_v2) ↦{fullShare} V m c main_v2)) :=
  BI.bigSep_eq_bigSepL_of_eq [main_arg2, main_v2] (by decide) (by decide) _

/-- A whole buffer through its memref. -/
theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  simp only [Memref.view_whole, View.set_whole]

/-! The staging buffer's two slots. -/
abbrev S2 (s : Fin 2) : Finset S2x256x2048.Idx := (Rect.unit (s := S2x256x2048) (slotOff s) S1x256x1536.size (slotOff_inb s)).set
theorem rslot_set (s : Fin 2) : (rslot s).view.set = S2 s := (View.set_reshape _ _).trans (View.set_slice_whole _ _)
theorem mem_S2 (s : Fin 2) (y : S2x256x2048.Idx) : y ∈ S2 s ↔ (y 0).val = s.val ∧ (y 2).val < 1536 := by
  rw [Rect.mem_set_unit]
  have h1 : (y 1).val < 256 := (y 1).isLt
  constructor
  · intro H
    have a0 : s.val ≤ (y 0).val ∧ (y 0).val < s.val + 1 := H 0
    have a2 : 0 ≤ (y 2).val ∧ (y 2).val < 0 + 1536 := H 2
    omega
  · intro H i; fin_cases i
    · show s.val ≤ (y 0).val ∧ (y 0).val < s.val + 1; omega
    · show 0 ≤ (y 1).val ∧ (y 1).val < 0 + 256; omega
    · show 0 ≤ (y 2).val ∧ (y 2).val < 0 + 1536; omega
theorem S2_disjoint : Disjoint (S2 0) (S2 1) := by
  rw [Finset.disjoint_left]; intro y hy hy'; rw [mem_S2] at hy hy'; exact absurd (hy.1.symm.trans hy'.1) (by decide)
theorem slotP_eq (c : Dev nD) (s : Fin 2) (f) : slotP c s f = (((c : Thread nD τ).loc cc0_scratch3) ↦[S2 s]{fullShare} f : sProp 𝕄) :=
  congrArg (fun S => (_ ↦[S]{fullShare} f : sProp 𝕄)) (rslot_set s)
/-- The staging buffer's columns that no copy of this call writes. -/
abbrev padP (c : Dev nD) : sProp 𝕄 :=
  iprop(∃ f : Buf (Elt F) ((c : Thread nD τ).loc cc0_scratch3), ((c : Thread nD τ).loc cc0_scratch3) ↦[(Finset.univ \ S2 0) \ S2 1]{fullShare} f)
theorem S2_sub : S2 1 ⊆ Finset.univ \ S2 0 := fun y hy => by
  rw [Finset.mem_sdiff]; exact ⟨Finset.mem_univ _, fun h => (Finset.disjoint_left.1 S2_disjoint) h hy⟩
theorem buf_split (c : Dev nD) :
    iprop(∃ f : Buf (Elt F) ((c : Thread nD τ).loc cc0_scratch3), ((c : Thread nD τ).loc cc0_scratch3) ↦{fullShare} f)
      ⊢ (iprop((∃ f, slotP c 0 f) ∗ (∃ f, slotP c 1 f) ∗ padP c) : sProp 𝕄) := by
  iintro ⟨%f, H⟩
  ihave H := ((pointsTo_split_subset (Finset.subset_univ (S2 0))).1) $$ H
  icases H with ⟨H0, H⟩
  ihave H := ((pointsTo_split_subset S2_sub).1) $$ H
  icases H with ⟨H1, H⟩
  isplitl [H0]
  · iexists f; iapply (eqE (slotP_eq c 0 f).symm); iexact H0
  isplitl [H1]
  · iexists f; iapply (eqE (slotP_eq c 1 f).symm); iexact H1
  iexists f; iexact H
theorem buf_join (c : Dev nD) :
    iprop((∃ f, slotP c 0 f) ∗ (∃ f, slotP c 1 f) ∗ padP c)
      ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩, ⟨%fp, Hp⟩⟩
  ihave H0 := (eqE (slotP_eq c 0 f0)) $$ H0
  ihave H1 := (eqE (slotP_eq c 1 f1)) $$ H1
  ihave H := (pointsTo_join_subset (ℓ := (c : Thread nD τ).loc cc0_scratch3) (q := fullShare) (g := f1) (f := fp) S2_sub) $$ [H1 Hp]
  · isplitl [H1]; · iexact H1
    iexact Hp
  ihave H := (pointsTo_join_subset (ℓ := (c : Thread nD τ).loc cc0_scratch3) (q := fullShare) (g := f0) (Finset.subset_univ (S2 0))) $$ [H0 H]
  · isplitl [H0]; · iexact H0
    iexact H
  iexists _; iexact H

/-- An array in two halves, one for each slot's copies. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{qs 0} f) ∗ (((c : Thread nD τ).loc b) ↦{qs 1} f)) :=
  pointsTo_share (PosShare.mem_left_op_right fullShare)

/-- What no step touches. -/
abbrev idleP (c : Dev nD) : sProp 𝕄 := iprop((∃ r, prngReg c r) ∗ padP c)

/-- Everything at rest: the state before the first step and after the last. -/
abbrev restAll (c : Dev nD) : sProp 𝕄 :=
  iprop((∃ f7, w7P c f7) ∗ (∃ f8, hdP c f8) ∗ (∃ f, hsP c f) ∗ homeP c (V m c main_arg2) 0 ∗ homeP c (V m c main_arg2) 1
    ∗ hcell (F := F) c ∗ homeV c (V m c main_v2) 0 ∗ homeV c (V m c main_v2) 1)

theorem csm0 : (csm 0).sem = 7 := by decide
theorem csm1 : (csm 1).sem = 8 := by decide
theorem hsem : cc0_scratch6.sem = 9 := by decide

theorem PhiD0_eq (c : Dev nD) :
    (Pipeline.ΦD osem0 spec0 H0 (V m) c : sProp 𝕄)
      = iprop(iprop((∃ f, w7P c f) ∗ (∃ f, hdP c f) ∗ rkP c
                ∗ (∃ f : Buf (Elt F) ((c : Thread nD τ).loc cc0_scratch3), ((c : Thread nD τ).loc cc0_scratch3) ↦{fullShare} f) ∗ (∃ f, hsP c f))
          ∗ (∃ r, prngReg c r)
          ∗ iprop(cellP (F := F) c 0 ∗ cellP (F := F) c 1 ∗ hcell (F := F) c)
          ∗ iprop((((c : Thread nD τ).loc main_arg2) ↦{fullShare} V m c main_arg2) ∗ (((c : Thread nD τ).loc main_v2) ↦{fullShare} V m c main_v2))) := by
  rw [Pipeline.ΦD_eq, scopedRest0_eq, ownSems00_eq, hbmPts0_eq]
  simp only [w7P, hdP, hsP, rkP, w7M, hdM, hsM, rkM, whole_pts, cellP, hcell, csm0, csm1, hsem, View.set_whole]

theorem enter (c : Dev nD) : Pipeline.ΦD osem0 spec0 H0 (V m) c ⊢ iprop(idleP c ∗ rkP c ∗ restAll m c) := by
  rw [PhiD0_eq]
  iintro ⟨⟨H7, H8, Hk, Hst, Hs⟩, Hg, ⟨Hc0, Hc1, Hh⟩, HX, HV⟩
  ihave Hst := (buf_split c) $$ Hst
  icases Hst with ⟨HD0, HD1, Hp⟩
  isplitl [Hg Hp]
  · isplitl [Hg]; · iexact Hg
    iexact Hp
  isplitl [Hk]; · iexact Hk
  isplitl [H7]; · iexact H7
  isplitl [H8]; · iexact H8
  isplitl [Hs]; · iexact Hs
  ihave HX := ((halves c main_arg2 _).1) $$ HX
  icases HX with ⟨HX0, HX1⟩
  ihave HV := ((halves c main_v2 _).1) $$ HV
  icases HV with ⟨HV0, HV1⟩
  isplitl [HD0 Hc0 HX0]
  · isplitl [HD0]; · iexact HD0
    isplitl [Hc0]; · iexact Hc0
    iexact HX0
  isplitl [HD1 Hc1 HX1]
  · isplitl [HD1]; · iexact HD1
    isplitl [Hc1]; · iexact Hc1
    iexact HX1
  isplitl [Hh]; · iexact Hh
  isplitl [HV0]; · iexact HV0
  iexact HV1

theorem leave (c : Dev nD) : iprop(idleP c ∗ rkP c ∗ restAll m c) ⊢ Pipeline.ΦD osem0 spec0 H0 (V m) c := by
  rw [PhiD0_eq]
  iintro ⟨⟨Hg, Hp⟩, Hk, H7, H8, Hs, ⟨HD0, Hc0, HX0⟩, ⟨HD1, Hc1, HX1⟩, Hh, HV0, HV1⟩
  isplitl [H7 H8 Hs Hk HD0 HD1 Hp]
  · isplitl [H7]; · iexact H7
    isplitl [H8]; · iexact H8
    isplitl [Hk]; · iexact Hk
    isplitl [HD0 HD1 Hp]
    · iapply (buf_join c)
      isplitl [HD0]; · iexact HD0
      isplitl [HD1]; · iexact HD1
      iexact Hp
    iexact Hs
  isplitl [Hg]; · iexact Hg
  isplitl [Hc0 Hc1 Hh]
  · isplitl [Hc0]; · iexact Hc0
    isplitl [Hc1]; · iexact Hc1
    iexact Hh
  isplitl [HX0 HX1]
  · iapply (halves c main_arg2 _).2
    isplitl [HX0]; · iexact HX0
    iexact HX1
  iapply (halves c main_v2 _).2
  isplitl [HV0]; · iexact HV0
  iexact HV1

end Buffers

/-! ## What the steps keep true -/

theorem c1_iff : ∀ t : Fin cfg0.N, k0_cond1 (grid0.coords t) = 1#1 ↔ t.val = 0 := by decide +kernel
theorem c3_iff : ∀ t : Fin cfg0.N, k0_cond3 (grid0.coords t) = 1#1 ↔ 0 < t.val ∧ t.val ≤ 48 := by decide +kernel
theorem c4_iff : ∀ t : Fin cfg0.N, k0_cond4 (grid0.coords t) = 1#1 ↔ t.val < 48 := by decide +kernel
/-- Step `t`'s tile, the last one repeated. -/
def tn (t : ℕ) : Fin 48 := ⟨min t 47, by omega⟩
theorem nextTile_at : ∀ t : Fin cfg0.N, nextTile (grid0.coords t) = tn (t.val + 1) := by decide +kernel

/-- Properties of the weights' buffer, of the hidden rows' buffer before each step and of the block each step
    leaves, which the steps carry along. -/
structure Spec (m : (ℓ : Loc nD τ sig) → Buf (Elt F) ℓ) (c : Dev nD) where
  Pw : ℕ → Buf (Elt F) (w7M.view.loc (c : Thread nD τ)) → Prop
  Ph : ℕ → Buf (Elt F) (hdM.view.loc (c : Thread nD τ)) → Prop
  Pt : Fin cfg0.N → Vec F S256x1536 .bf16 → Prop
  carried : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (k0_h1 : k0_cond1 (grid0.coords t) = 1#1) (XS : Buf (Elt F) (arg1.view.loc (c : Thread nD τ))),
    arg1.view.read (Elt F) XS = iblk m c 0 t → Carried c (grid0.coords t) arg1 harg1 arg2 harg2 arg4 harg4 arg6 harg6 k0_h1 (V m c main_arg2) XS Pw
  h0 : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (k0_h1 : k0_cond1 (grid0.coords t) = 1#1) (h3 : ¬ k0_cond3 (grid0.coords t) = 1#1) (XS : Buf (Elt F) (arg1.view.loc (c : Thread nD τ))) (X2 : Buf (Elt F) (arg2.view.loc (c : Thread nD τ))) hP f8,
    arg2.view.read (Elt F) X2 = iblk m c 1 t →
    Ph 1 (hdM.view.writes (Elt F) f8 (run0 c (grid0.coords t) arg1 harg1 arg2 harg2 arg4 harg4 arg6 harg6 (V m c main_arg2) XS Pw (V m c main_v2) X2 k0_h1 h3 hP).1)
  hM : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (h1 : ¬ k0_cond1 (grid0.coords t) = 1#1) (h3 : k0_cond3 (grid0.coords t) = 1#1) (h4 : k0_cond4 (grid0.coords t) = 1#1) (s s' : Fin 2) (X2 : Buf (Elt F) (arg2.view.loc (c : Thread nD τ))) (X4 : Buf (Elt F) (arg4.view.loc (c : Thread nD τ))) f7 f8,
    arg2.view.read (Elt F) X2 = iblk m c 1 t → arg4.view.read (Elt F) X4 = iblk m c 2 t → Pw 35 f7 → Ph t.val f8 →
    (∀ f6, Pt t (arg6.view.read (Elt F) (arg6.view.writes (Elt F) f6 (runM c (grid0.coords t) arg1 harg1 arg2 harg2 arg4 harg4 arg6 harg6 (V m c main_v2) X2 X4 h1 h3 h4 s s' (tn t.val) f7 f8).1.1)))
    ∧ Ph (t.val + 1) (hdM.view.writes (Elt F) f8 (runM c (grid0.coords t) arg1 harg1 arg2 harg2 arg4 harg4 arg6 harg6 (V m c main_v2) X2 X4 h1 h3 h4 s s' (tn t.val) f7 f8).1.2)
  hL : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (h1 : ¬ k0_cond1 (grid0.coords t) = 1#1) (h3 : k0_cond3 (grid0.coords t) = 1#1) (h4 : ¬ k0_cond4 (grid0.coords t) = 1#1) (s : Fin 2) (X2 : Buf (Elt F) (arg2.view.loc (c : Thread nD τ))) (X4 : Buf (Elt F) (arg4.view.loc (c : Thread nD τ))) f7 f8,
    arg2.view.read (Elt F) X2 = iblk m c 1 t → arg4.view.read (Elt F) X4 = iblk m c 2 t → Pw 35 f7 → Ph t.val f8 →
    ∀ f6, Pt t (arg6.view.read (Elt F) (arg6.view.writes (Elt F) f6 (runL c (grid0.coords t) arg1 harg1 arg2 harg2 arg4 harg4 arg6 harg6 (V m c main_v2) X2 X4 h1 h3 h4 s (tn t.val) f7 f8).1.1))
  p0 : ∀ (t : Fin cfg0.N) X, t.val = 0 → Pt t X
  pE : ∀ (t : Fin cfg0.N) X, t.val = 49 → (∀ u : Fin cfg0.N, u.val = 48 → Pt u X) → Pt t X

/-- Nothing said of the values: enough for the frame. -/
def Spec.trivial (m : (ℓ : Loc nD τ sig) → Buf (Elt F) ℓ) (c : Dev nD) : Spec m c where
  Pw _ _ := True
  Ph _ _ := True
  Pt _ _ := True
  carried := by intros; exact ⟨fun _ => True.intro, fun _ _ _ _ => True.intro, fun _ _ _ _ => True.intro⟩
  h0 := by intros; exact True.intro
  hM := by intros; exact ⟨fun _ => True.intro, True.intro⟩
  hL := by intros; exact True.intro
  p0 := by intros; exact True.intro
  pE := by intros; exact True.intro

section Data
variable (m : (ℓ : Loc nD τ sig) → Buf (Elt F) ℓ) (ρ : Dev nD → PrngReg) (S : (c : Dev nD) → Spec m c)

/-- The state before step `t`. -/
def Phi (c : Dev nD) (t : ℕ) : sProp 𝕄 :=
  if t = 0 then restAll m c
  else if t ≤ 48 then
    iprop((∃ f7, ⌜(S c).Pw 35 f7⌝ ∗ w7P c f7) ∗ (∃ f8, ⌜(S c).Ph t f8⌝ ∗ hdP c f8) ∗ hsFl c (V m c main_v2) (Ring.sl 2 t) (tn t)
      ∗ homeP c (V m c main_arg2) 0 ∗ homeP c (V m c main_arg2) 1 ∗ homeV c (V m c main_v2) (Ring.sl 2 (t + 1)))
  else restAll m c

def dat (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := iprop(idleP c ∗ rkP c ∗ Phi m S c t.val)
  q _ := fullShare
  owed _ := 0

theorem A_eq (c : Dev nD) (w : Fin cfg0.W) : (dat m S c).A w = V m c (Pipeline.arrRef spec0 w) := by dsimp only [dat]
theorem before0 (c : Dev nD) (t : Fin cfg0.N) (d) : (dat m S c).before 0 t d = iblk m c 0 t :=
  ((dat m S c).before_in_eq_fetched 0 rfl (fun _ => rfl) (fun _ _ _ => rfl) (fun t => by show iblk m c 0 t = _; unfold Dat.blockOf iblk; rw [A_eq]; try rfl) t d).trans
    (by unfold Dat.fetched Dat.blockOf iblk; rw [A_eq]; try rfl)
theorem before1 (c : Dev nD) (t : Fin cfg0.N) (d) : (dat m S c).before 1 t d = iblk m c 1 t :=
  ((dat m S c).before_in_eq_fetched 1 rfl (fun _ => rfl) (fun _ _ _ => rfl) (fun t => by show iblk m c 1 t = _; unfold Dat.blockOf iblk; rw [A_eq]; try rfl) t d).trans
    (by unfold Dat.fetched Dat.blockOf iblk; rw [A_eq]; try rfl)
theorem before2 (c : Dev nD) (t : Fin cfg0.N) (d) : (dat m S c).before 2 t d = iblk m c 2 t :=
  ((dat m S c).before_in_eq_fetched 2 rfl (fun _ => rfl) (fun _ _ _ => rfl) (fun t => by show iblk m c 2 t = _; unfold Dat.blockOf iblk; rw [A_eq]; try rfl) t d).trans
    (by unfold Dat.fetched Dat.blockOf iblk; rw [A_eq]; try rfl)

/-- The window whose contents are said by a property: the result's. -/
abbrev fgt : Fin cfg0.W → Bool := ![false, false, false, true]
def Rl (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, t, X => (S c).Pt t X
abbrev rdat (c : Dev nD) : RDat τ (Elt F) Unit ℕ (Pipeline.UD sig nD τ) ℕ cfg0 c := (dat m S c).toRRel fgt (Rl m S c)

theorem noflush : ∀ t : Fin cfg0.N, t.val = 48 → (cfg0.win 3).flush t = false := by decide +kernel
theorem nofetch : ∀ t : Fin cfg0.N, (cfg0.win 3).fetch t = false := by decide +kernel

/-- At the last step the result's buffer still holds what the step before left. -/
theorem finds_last (c : Dev nD) (t : Fin cfg0.N) (ht : t.val = 49) (X) (h : (rdat m S c).Finds 3 t X) (u : Fin cfg0.N) (hu : u.val = 48) : (S c).Pt u X := by
  rw [(rdat m S c).finds_of_pos (nofetch t) (by omega)] at h
  have e : (⟨t.val - 1, Nat.lt_of_le_of_lt (Nat.sub_le _ _) t.isLt⟩ : Fin cfg0.N) = u := Fin.ext (by simp only [hu]; omega)
  rw [e, noflush u hu] at h
  rcases h with h | h
  · exact absurd h (by decide)
  · exact (dat m S c).toRRel_leaves (fgt := fgt) (Rl := Rl m S c) (w := 3) rfl h

abbrev st1 (t : Fin cfg0.N) : Memref sig .tc .smem S12x70 .f32 := win0_0.stage (cfg0.slots t 0)
abbrev st2 (t : Fin cfg0.N) : Memref sig .tc .vmem S256x8960 .fp8e4m3 := win0_1.stage (cfg0.slots t 1)
abbrev st4 (t : Fin cfg0.N) : Memref sig .tc .vmem S256x1536 .bf16 := win0_2.stage (cfg0.slots t 2)
abbrev st6 (t : Fin cfg0.N) : Memref sig .tc .vmem S256x1536 .bf16 := win0_3.stage (cfg0.slots t 3)

def bodyPre (c : Dev nD) (t : Fin cfg0.N) : sProp 𝕄 :=
  iprop((dat m S c).Φ t.castSucc ∗ (dat m S c).owesAt () t.castSucc
    ∗ (∃ d, owns (c : Thread nD τ) (st1 t) fullShare ((dat m S c).before 0 t d))
    ∗ (∃ d, owns (c : Thread nD τ) (st2 t) fullShare ((dat m S c).before 1 t d))
    ∗ (∃ d, owns (c : Thread nD τ) (st4 t) fullShare ((dat m S c).before 2 t d))
    ∗ (∃ Y, ⌜(rdat m S c).Finds 3 t Y⌝ ∗ owns (c : Thread nD τ) (st6 t) fullShare Y))
def bodyPost (c : Dev nD) (t : Fin cfg0.N) : sProp 𝕄 :=
  iprop((dat m S c).Φ t.succ ∗ (dat m S c).owesAt () t.succ
    ∗ owns (c : Thread nD τ) (st1 t) fullShare ((dat m S c).after 0 t)
    ∗ owns (c : Thread nD τ) (st2 t) fullShare ((dat m S c).after 1 t)
    ∗ owns (c : Thread nD τ) (st4 t) fullShare ((dat m S c).after 2 t)
    ∗ (∃ X, ⌜Rl m S c 3 t X⌝ ∗ owns (c : Thread nD τ) (st6 t) fullShare X))

theorem sl_even (t : ℕ) : Ring.sl 2 (t + 1 + 1) = Ring.sl 2 t := by
  apply Fin.ext; simp [Ring.sl, Fin.ofNat]; omega

set_option maxHeartbeats 2000000 in
theorem sound_body (c : Dev nD) (t : Fin cfg0.N) :
    bodyPre m S c t ⊢ wp frame (wpE (defs₀ (F := F)) 𝒱₀ c none) Set.univ (bodyAt0 t) (fun _ => bodyPost m S c t) := by
  have hN : t.val < 50 := Nat.lt_of_lt_of_eq t.isLt (by decide)
  unfold bodyPre bodyPost
  rw [show (dat m S c).Φ t.succ = iprop(idleP c ∗ rkP c ∗ Phi m S c (t.val + 1)) from rfl,
    show (dat m S c).Φ t.castSucc = iprop(idleP c ∗ rkP c ∗ Phi m S c t.val) from rfl,
    show (dat m S c).after 0 t = iblk m c 0 t from rfl, show (dat m S c).after 1 t = iblk m c 1 t from rfl, show (dat m S c).after 2 t = iblk m c 2 t from rfl]
  simp only [before0, before1, before2]
  unfold Dat.owesAt Pipeline.owesWithin owns
  rw [show (dat m S c).owed t.castSucc = 0 from rfl, show (dat m S c).owed t.succ = 0 from rfl]
  by_cases ht0 : t.val = 0
  · have h1 : k0_cond1 (grid0.coords t) = 1#1 := (c1_iff t).2 ht0
    have h3 : ¬ k0_cond3 (grid0.coords t) = 1#1 := fun h => by have := (c3_iff t).1 h; omega
    rw [show Phi m S c t.val = restAll m c by unfold Phi; rw [if_pos ht0]]
    rw [show Phi m S c (t.val + 1) = iprop((∃ f7, ⌜(S c).Pw 35 f7⌝ ∗ w7P c f7) ∗ (∃ f8, ⌜(S c).Ph 1 f8⌝ ∗ hdP c f8) ∗ hsFl c (V m c main_v2) 1 1
      ∗ homeP c (V m c main_arg2) 0 ∗ homeP c (V m c main_arg2) 1 ∗ homeV c (V m c main_v2) 0) by
        unfold Phi; rw [ht0, if_neg (by omega), if_pos (by omega)]; rfl]
    iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
    have hC := (S c).carried t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 X1 e1
    have hh := fun f8 => (S c).h0 t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3 X1 X2 hC f8 e2
    icases HP with ⟨H7, H8, Hs, HK0, HK1, Hh, HV0, HV1⟩
    iapply (wp_wand_r Idealize.ShloMosaic.frame (wpE (defs₀ (F := F)) 𝒱₀ (c : Thread nD τ) none) Set.univ)
    isplitl [H1 H2 H7 H8 Hs HK0 HK1 Hh HV0 HV1 Hk HW]
    · iapply (run0 c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) (V m c main_arg2) X1 (S c).Pw (V m c main_v2) X2 h1 h3 hC).2
      isplitl [H1]; · iexact H1
      isplitl [H2]; · iexact H2
      isplitl [H7]; · iexact H7
      isplitl [H8]; · iexact H8
      isplitl [Hs]; · iexact Hs
      isplitl [HK0]; · iexact HK0
      isplitl [HK1]; · iexact HK1
      isplitl [Hh]; · iexact Hh
      isplitl [HV0]; · iexact HV0
      isplitl [HV1]; · iexact HV1
      isplitl [Hk]; · iexact Hk
      iexists W; iexact HW
    iintro %_ ⟨H1, H2, H7, ⟨%f8, H8⟩, HF, HK0, HK1, HV0, Hk, ⟨%W', HW⟩⟩
    isplitl [Hg Hk H7 H8 HF HK0 HK1 HV0]
    · isplitl [Hg]; · iexact Hg
      isplitl [Hk]; · iexact Hk
      isplitl [H7]; · iexact H7
      isplitl [H8]
      · iexists _
        isplitr; · ipureintro; exact hh f8
        iexact H8
      isplitl [HF]; · iexact HF
      isplitl [HK0]; · iexact HK0
      isplitl [HK1]; · iexact HK1
      iexact HV0
    isplitl [HW]
    · iexists W'; isplitr; · ipureintro; exact fun _ _ => Or.inl True.intro
      iexact HW
    isplitl [H1]; · iexists X1; isplitr; · ipureintro; exact e1
                    iexact H1
    isplitl [H2]; · iexists X2; isplitr; · ipureintro; exact e2
                    iexact H2
    isplitl [H4]; · iexists X4; isplitr; · ipureintro; exact e4
                    iexact H4
    iexists Y; isplitr; · ipureintro; exact (S c).p0 t Y ht0
    iexists f6; isplitr; · ipureintro; exact e6
    iexact H6
  have h1 : ¬ k0_cond1 (grid0.coords t) = 1#1 := fun h => ht0 ((c1_iff t).1 h)
  by_cases ht : t.val ≤ 48
  · have h3 : k0_cond3 (grid0.coords t) = 1#1 := (c3_iff t).2 ⟨by omega, ht⟩
    rw [show Phi m S c t.val = iprop((∃ f7, ⌜(S c).Pw 35 f7⌝ ∗ w7P c f7) ∗ (∃ f8, ⌜(S c).Ph t.val f8⌝ ∗ hdP c f8) ∗ hsFl c (V m c main_v2) (Ring.sl 2 t.val) (tn t.val)
      ∗ homeP c (V m c main_arg2) 0 ∗ homeP c (V m c main_arg2) 1 ∗ homeV c (V m c main_v2) (Ring.sl 2 (t.val + 1))) by
        unfold Phi; rw [if_neg ht0, if_pos ht]]
    by_cases ht4 : t.val < 48
    · have h4 : k0_cond4 (grid0.coords t) = 1#1 := (c4_iff t).2 ht4
      rw [show Phi m S c (t.val + 1) = iprop((∃ f7, ⌜(S c).Pw 35 f7⌝ ∗ w7P c f7) ∗ (∃ f8, ⌜(S c).Ph (t.val + 1) f8⌝ ∗ hdP c f8) ∗ hsFl c (V m c main_v2) (Ring.sl 2 (t.val + 1)) (nextTile (grid0.coords t))
        ∗ homeP c (V m c main_arg2) 0 ∗ homeP c (V m c main_arg2) 1 ∗ homeV c (V m c main_v2) (Ring.sl 2 t.val)) by
          unfold Phi; rw [if_neg (by omega), if_pos (by omega), nextTile_at, sl_even]]
      iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
      icases HP with ⟨⟨%f7, %h7, H7⟩, ⟨%f8, %h8, H8⟩, HF, HK0, HK1, HV⟩
      have hh := (S c).hM t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3 h4 (Ring.sl 2 t.val) (Ring.sl 2 (t.val + 1)) X2 X4 f7 f8 e2 e4 h7 h8
      iapply (wp_wand_r Idealize.ShloMosaic.frame (wpE (defs₀ (F := F)) 𝒱₀ (c : Thread nD τ) none) Set.univ)
      isplitl [H2 H4 H6 H7 H8 HF HV Hk HW]
      · iapply (runM c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) (V m c main_v2) X2 X4 h1 h3 h4 (Ring.sl 2 t.val) (Ring.sl 2 (t.val + 1)) (tn t.val) f7 f8).2 f6
        isplitl [H2]; · iexact H2
        isplitl [H4]; · iexact H4
        isplitl [H6]; · iexact H6
        isplitl [H7]; · iexact H7
        isplitl [H8]; · iexact H8
        isplitl [HF]; · iexact HF
        isplitl [HV]; · iexact HV
        isplitl [Hk]; · iexact Hk
        iexists W; iexact HW
      iintro %_ ⟨H2, H4, H6, H7, H8, HF, HV, Hk, ⟨%W', HW⟩⟩
      isplitl [Hg Hk H7 H8 HF HK0 HK1 HV]
      · isplitl [Hg]; · iexact Hg
        isplitl [Hk]; · iexact Hk
        isplitl [H7]
        · iexists f7
          isplitr; · ipureintro; exact h7
          iexact H7
        isplitl [H8]
        · iexists _
          isplitr; · ipureintro; exact hh.2
          iexact H8
        isplitl [HF]; · iexact HF
        isplitl [HK0]; · iexact HK0
        isplitl [HK1]; · iexact HK1
        iexact HV
      isplitl [HW]
      · iexists W'; isplitr; · ipureintro; exact fun _ _ => Or.inl True.intro
        iexact HW
      isplitl [H1]; · iexists X1; isplitr; · ipureintro; exact e1
                      iexact H1
      isplitl [H2]; · iexists X2; isplitr; · ipureintro; exact e2
                      iexact H2
      isplitl [H4]; · iexists X4; isplitr; · ipureintro; exact e4
                      iexact H4
      iexists _; isplitr; · ipureintro; exact hh.1 f6
      iexists _; isplitr
      swap; · iexact H6
      ipureintro; rfl
    · have h4 : ¬ k0_cond4 (grid0.coords t) = 1#1 := fun h => ht4 ((c4_iff t).1 h)
      have ht48 : t.val = 48 := by omega
      rw [show Phi m S c (t.val + 1) = restAll m c by
          unfold Phi; rw [if_neg (by omega), if_neg (by omega)]]
      iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
      icases HP with ⟨⟨%f7, %h7, H7⟩, ⟨%f8, %h8, H8⟩, HF, HK0, HK1, HV⟩
      have hh := (S c).hL t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3 h4 (Ring.sl 2 t.val) X2 X4 f7 f8 e2 e4 h7 h8
      have e0 : Ring.sl 2 t.val = 0 := by rw [ht48]; decide
      have e1' : Ring.sl 2 (t.val + 1) = 1 := by rw [ht48]; decide
      iapply (wp_wand_r Idealize.ShloMosaic.frame (wpE (defs₀ (F := F)) 𝒱₀ (c : Thread nD τ) none) Set.univ)
      isplitl [H2 H4 H6 H7 H8 HF Hk HW]
      · iapply (runL c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) (V m c main_v2) X2 X4 h1 h3 h4 (Ring.sl 2 t.val) (tn t.val) f7 f8).2 f6
        isplitl [H2]; · iexact H2
        isplitl [H4]; · iexact H4
        isplitl [H6]; · iexact H6
        isplitl [H7]; · iexact H7
        isplitl [H8]; · iexact H8
        isplitl [HF]; · iexact HF
        isplitl [Hk]; · iexact Hk
        iexists W; iexact HW
      iintro %_ ⟨H2, H4, H6, H7, H8, Hs, Hh, HV', Hk, ⟨%W', HW⟩⟩
      isplitl [Hg Hk H7 H8 Hs Hh HK0 HK1 HV HV']
      · isplitl [Hg]; · iexact Hg
        isplitl [Hk]; · iexact Hk
        isplitl [H7]; · iexists f7; iexact H7
        isplitl [H8]; · iexists _; iexact H8
        isplitl [Hs]; · iexact Hs
        isplitl [HK0]; · iexact HK0
        isplitl [HK1]; · iexact HK1
        isplitl [Hh]; · iexact Hh
        isplitl [HV']; · iapply (eqE (congrArg (fun s => homeV c (V m c main_v2) s) e0)); iexact HV'
        iapply (eqE (congrArg (fun s => homeV c (V m c main_v2) s) e1')); iexact HV
      isplitl [HW]
      · iexists W'; isplitr; · ipureintro; exact fun _ _ => Or.inl True.intro
        iexact HW
      isplitl [H1]; · iexists X1; isplitr; · ipureintro; exact e1
                      iexact H1
      isplitl [H2]; · iexists X2; isplitr; · ipureintro; exact e2
                      iexact H2
      isplitl [H4]; · iexists X4; isplitr; · ipureintro; exact e4
                      iexact H4
      iexists _; isplitr; · ipureintro; exact hh f6
      iexists _; isplitr
      swap; · iexact H6
      ipureintro; rfl
  · have h3 : ¬ k0_cond3 (grid0.coords t) = 1#1 := fun h => by have := (c3_iff t).1 h; omega
    have ht49 : t.val = 49 := by omega
    rw [show Phi m S c t.val = restAll m c by unfold Phi; rw [if_neg ht0, if_neg ht],
      show Phi m S c (t.val + 1) = restAll m c by unfold Phi; rw [if_neg (by omega), if_neg (by omega)]]
    iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
    iapply (runE c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3)
    isplitl [Hg Hk HP]
    · isplitl [Hg]; · iexact Hg
      isplitl [Hk]; · iexact Hk
      iexact HP
    isplitl [HW]
    · iexists W; isplitr; · ipureintro; exact fun _ _ => Or.inl True.intro
      iexact HW
    isplitl [H1]; · iexists X1; isplitr; · ipureintro; exact e1
                    iexact H1
    isplitl [H2]; · iexists X2; isplitr; · ipureintro; exact e2
                    iexact H2
    isplitl [H4]; · iexists X4; isplitr; · ipureintro; exact e4
                    iexact H4
    iexists Y; isplitr; · ipureintro; exact (S c).pE t Y ht49 (finds_last m S c t ht49 Y hY)
    iexists f6; isplitr; · ipureintro; exact e6
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat m S c) (defs₀ (F := F)) 𝒱₀ () Set.univ fgt (Rl m S c) := fun t => by
  rw [bigSep_W0, bigSep_W0, defs₀_row]
  exact triple_restated (sound_body m S c t) rfl .rfl fun _ => .rfl

/-! ## The run and the frame -/

set_option maxHeartbeats 800000 in
theorem hmainD : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => RDat.FramePost cfg0 (rdat m S) (V m) r ∧ r.2.sem = fun _ => 0) :=
  Pipeline.RDat.θ_run_frame_dma (Q' := _) cfgs (0 : Fin 1) launch0 osem0 defs₀ 𝒱₀ (rdat m S) ownSemFacts0 H0 H0_sub m ρ main
    (hbody := fun c => (body_obligation m S c).toRRel) (hshare := fun c => (dat m S c).share_full fun _ => rfl)
    (howed := fun _ _ => rfl) (V := V m) (hmain := hmainD m) (hA := A_eq m S)
    (hin := fun c => enter m c) (hout := fun c => leave m c)

end Data

section Frame
variable (m : (ℓ : Loc nD τ sig) → Buf (Elt F) ℓ) (ρ : Dev nD → PrngReg)

set_option maxHeartbeats 2000000 in
/-- The arguments end as they began. -/
theorem args_of (S : (c : Dev nD) → Spec m c) (r : PUnit × MemSt nD τ sig (Elt F)) (h : RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The frame: arguments unchanged, every semaphore counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args_of m (Spec.trivial m) r h.1, h.2⟩) (run_main m ρ (Spec.trivial m))

end Frame
end Cert.Kernel.Hand
end
-- ==== Proof.Trip.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (Pipeline.UD sig nD τ) ℕ

abbrev 𝒱₀ : Variants := Variants.none

/-! ## The streaming ring: two slots of the staging buffer, one semaphore each -/

abbrev slotOff (s : Fin 2) : Fin 3 → Nat := ![s.val, 0, 0]
theorem slotOff_inb (s : Fin 2) : ∀ a, slotOff s a + S1x256x1536.size a ≤ S2x256x2048.size a := by
  revert s; decide
abbrev semOff (s : Fin 2) : Fin 1 → Nat := ![s.val]
theorem semOff_inb (s : Fin 2) : ∀ a, semOff s a + S1.size a ≤ S2.size a := by revert s; decide
/-- Rows `256 b … 256 b + 255` of the weights in HBM. -/
abbrev chOff (b : Fin 35) : Fin 2 → Nat := ![256 * b.val, 0]
theorem chOff_inb (b : Fin 35) : ∀ a, chOff b a + S256x1536.size a ≤ S8960x1536.size a := by revert b; decide

abbrev wM : Memref sig .tc .hbm S8960x1536 .fp8e4m3 := Memref.whole main_arg2
abbrev stM : Memref sig .tc .vmem S2x256x2048 .fp8e4m3 := Memref.whole cc0_scratch3
abbrev w7M : Memref sig .tc .vmem S4480x2x1536 .bf16 := Memref.whole cc0_scratch0
abbrev hdM : Memref sig .tc .vmem S256x8960 .bf16 := Memref.whole cc0_scratch1
abbrev rkM : Memref sig .tc .vmem S256x1536 .f32 := Memref.whole cc0_scratch2
abbrev hsM : Memref sig .tc .vmem S70x256 .f32 := Memref.whole cc0_scratch4
abbrev hscM : Memref sig .tc .hbm S70x16x768 .f32 := Memref.whole main_v2

def rslot (s : Fin 2) : Memref sig .tc .vmem S256x1536 .fp8e4m3 :=
  (stM.slice (Rect.unit (s := S2x256x2048) (slotOff s) S1x256x1536.size (slotOff_inb s)) (fun _ => rfl)).squeeze S256x1536 squeezes_S1x256x1536_S256x1536
def csm (s : Fin 2) : DmaSems sig S_ := (cc0_scratch5.slice (Rect.unit (s := S2) (semOff s) S1.size (semOff_inb s))).squeeze S_ squeezes_S1_S_
def chunk (b : Fin 35) : Memref sig .tc .hbm S256x1536 .fp8e4m3 :=
  wM.slice (Rect.unit (s := S8960x1536) (chOff b) S256x1536.size (chOff_inb b)) (fun _ => rfl)

instance (s : Fin 2) : ClosedOff (slotOff s) := ⟨slotOff s, rfl⟩
/-- A slot named by a trip's parity, at the parity itself. -/
theorem slotOff_sl (k : ℕ) : slotOff (Ring.sl 2 k) = ![k % 2, 0, 0] := by
  unfold slotOff; congr 1
instance (priority := high) (k : ℕ) : ClosedOff (slotOff (Ring.sl 2 k)) := ⟨![k % 2, 0, 0], slotOff_sl k⟩
instance (b : Fin 35) : ClosedOff (chOff b) := ⟨chOff b, rfl⟩

private theorem csm_congr {off : Fin 1 → Nat} {s : Fin 2} (e : off = semOff s) (hh) :
    (cc0_scratch5.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (stM.slice (Rect.unit (s := S2x256x2048) off S1x256x1536.size hh) hs).squeeze S256x1536 squeezes_S1x256x1536_S256x1536 = rslot s :=
  congrArg (fun M : Memref sig .tc .vmem S1x256x1536 .fp8e4m3 => M.squeeze S256x1536 squeezes_S1x256x1536_S256x1536) (Memref.slice_unit_congr _ e _ _ _ _)
private theorem chunk_congr {off : Fin 2 → Nat} {b : Fin 35} (e : off = chOff b) (hh hs) :
    wM.slice (Rect.unit (s := S8960x1536) off S256x1536.size hh) hs = chunk b :=
  Memref.slice_unit_congr _ e _ _ _ (fun _ => rfl)

abbrev K := Fin k0_t1_loop.trips
theorem trips_eq : k0_t1_loop.trips = 35 := by decide

theorem cond2_iff : ∀ k : K, k0_cond2 k = 1#1 ↔ k.val + 1 < 35 := by decide +kernel

theorem semI_off (k : K) : k0_off2 k = semOff (Ring.sl 2 (k.val + 1)) := by
  rw [k0_off2_eq]; unfold semOff; congr 1; simp [Ring.sl, Fin.ofNat]; omega
theorem slotI_off (k : K) : k0_off3 k = slotOff (Ring.sl 2 (k.val + 1)) := by
  rw [k0_off3_eq]; unfold slotOff; congr 1; simp [Ring.sl, Fin.ofNat]; omega
theorem semW_off (k : K) : k0_off5 k = semOff (Ring.sl 2 k.val) := by
  rw [k0_off5_eq]; unfold semOff; congr 1
theorem slotW_off (k : K) : k0_off6 k = slotOff (Ring.sl 2 k.val) := by
  rw [k0_off6_eq]; unfold slotOff; congr 1
theorem chI_off (k : K) (h : k.val + 1 < 35) : k0_off4 k = chOff (Ring.bk 35 (k.val + 1)) := by
  rw [k0_off4_eq]; unfold chOff; rw [Ring.bk_val h]; congr 1
theorem chW_off (k : K) (h : k.val < 35) : k0_off7 k = chOff (Ring.bk 35 k.val) := by
  rw [k0_off7_eq]; unfold chOff; rw [Ring.bk_val h]

@[sl_canon] theorem semL0 (hh) : (cc0_scratch5.slice (Rect.unit (s := S2) ![0] S1.size hh)).squeeze S_ squeezes_S1_S_ = csm 0 := csm_congr (by decide) _
@[sl_canon] theorem slotL0 (hh hs) : (stM.slice (Rect.unit (s := S2x256x2048) ![0, 0, 0] S1x256x1536.size hh) hs).squeeze S256x1536 squeezes_S1x256x1536_S256x1536 = rslot 0 := rslot_congr (by decide) _ _
@[sl_canon] theorem chL0 (hh hs) : wM.slice (Rect.unit (s := S8960x1536) ![0, 0] S256x1536.size hh) hs = chunk 0 := chunk_congr (by decide) _ _
@[sl_canon] theorem semI (k : K) (hh) :
    (cc0_scratch5.slice (Rect.unit (s := S2) (k0_off2 k) S1.size hh)).squeeze S_ squeezes_S1_S_ = csm (Ring.sl 2 (k.val + 1)) := csm_congr (semI_off k) _
@[sl_canon] theorem slotI (k : K) (hh hs) :
    (stM.slice (Rect.unit (s := S2x256x2048) (k0_off3 k) S1x256x1536.size hh) hs).squeeze S256x1536 squeezes_S1x256x1536_S256x1536 = rslot (Ring.sl 2 (k.val + 1)) := rslot_congr (slotI_off k) _ _
@[sl_canon] theorem semW (k : K) (hh) :
    (cc0_scratch5.slice (Rect.unit (s := S2) (k0_off5 k) S1.size hh)).squeeze S_ squeezes_S1_S_ = csm (Ring.sl 2 k.val) := csm_congr (semW_off k) _
@[sl_canon] theorem slotW (k : K) (hh hs) :
    (stM.slice (Rect.unit (s := S2x256x2048) (k0_off6 k) S1x256x1536.size hh) hs).squeeze S256x1536 squeezes_S1x256x1536_S256x1536 = rslot (Ring.sl 2 k.val) := rslot_congr (slotW_off k) _ _
@[sl_canon] theorem chI (k : K) (h : k.val + 1 < 35) (hh hs) :
    wM.slice (Rect.unit (s := S8960x1536) (k0_off4 k) S256x1536.size hh) hs = chunk (Ring.bk 35 (k.val + 1)) := chunk_congr (chI_off k h) _ _
@[sl_canon] theorem chW (k : K) (h : k.val < 35) (hh hs) :
    wM.slice (Rect.unit (s := S8960x1536) (k0_off7 k) S256x1536.size hh) hs = chunk (Ring.bk 35 k.val) := chunk_congr (chW_off k h) _ _

section Pieces
variable (c : Dev nD) (XW : Buf (Elt F) (wM.view.loc (c : Thread nD τ)))

/-- The share of the weights' array that slot `s`'s copies read through. -/
def qs (s : Fin 2) : PosShare TreeShare := if s = 0 then fullShare.left else fullShare.right

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev landed (s : Fin 2) (b : Fin 35) (f : Buf (Elt F) ((rslot s).view.loc (c : Thread nD τ))) : Buf (Elt F) ((rslot s).view.loc (c : Thread nD τ)) :=
  (rslot s).view.writes (Elt F) f [⟨Rect.whole S256x1536, ReadAs.same.apply ((chunk b).view.read (Elt F) XW)⟩]
/-- The rest of slot `s`'s share of the weights while chunk `b` is read through it. -/
def restP (s : Fin 2) (b : Fin 35) : sProp 𝕄 :=
  wM.view.loc (c : Thread nD τ) ↦[Finset.univ \ (chunk b).view.set]{qs s} XW
/-- Chunk `b` of the weights at slot `s`'s share. -/
abbrev chunkP (s : Fin 2) (b : Fin 35) : sProp 𝕄 :=
  (chunk b).view.loc (c : Thread nD τ) ↦[(chunk b).view.set]{qs s} XW
theorem chunk_split (s : Fin 2) (b : Fin 35) :
    iprop(wM.view.loc (c : Thread nD τ) ↦[Finset.univ]{qs s} XW) ⊣⊢ iprop(chunkP c XW s b ∗ restP c XW s b) :=
  pointsTo_split_subset (Finset.subset_univ _)
attribute [irreducible] restP
/-- Slot `s` in flight with chunk `b`, the rest of its share of the weights beside it. -/
abbrev flightP (s : Fin 2) (b : Fin 35) (f : Buf (Elt F) ((rslot s).view.loc (c : Thread nD τ))) : sProp 𝕄 :=
  iprop(Transfers.Flight countersEmb (c : Thread nD τ) (SemLoc.dma (csm s).sem) () 12288
      iprop(slotP c s (landed c XW s b f) ∗ chunkP c XW s b)
    ∗ restP c XW s b)
end Pieces

section Trip
variable (c : Dev nD) (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (k0_h1 : k0_cond1 i = 1#1)
  (XW : Buf (Elt F) (wM.view.loc (c : Thread nD τ))) (XS : Buf (Elt F) (arg1.view.loc (c : Thread nD τ)))

/-- Slot `s` at rest: held whole, its semaphore at zero, its share of the weights whole. -/
abbrev homeP (s : Fin 2) : sProp 𝕄 :=
  iprop((∃ f, slotP c s f) ∗ cellP (F := F) c s ∗ (wM.view.loc (c : Thread nD τ) ↦[Finset.univ]{qs s} XW))

/-- What the loop's trips share. -/
abbrev baseP (f7 : Buf (Elt F) (w7M.view.loc (c : Thread nD τ))) : sProp 𝕄 :=
  iprop((arg1.view.loc (c : Thread nD τ) ↦[arg1.view.set]{fullShare} XS) ∗ (w7M.view.loc (c : Thread nD τ) ↦[w7M.view.set]{fullShare} f7) ∗ (∃ W, owes (c : Thread nD τ) 0 W))

abbrev tripG (k : K) : Prog (TpuEff nD τ sig (Elt F) Λ₀ .tc) Unit :=
  k0_t1_body (F := F) i arg1 harg1 arg2 harg2 hscM (Memref.isWhole_whole _) arg4 harg4 wM (Memref.isWhole_whole _) arg6 harg6 w7M (Memref.isWhole_whole _) hdM (Memref.isWhole_whole _) rkM (Memref.isWhole_whole _) stM (Memref.isWhole_whole _) hsM (Memref.isWhole_whole _) cc0_scratch5 cc0_scratch6 k0_h1 k ()

set_option sl_exec.resultNames true in
set_option backward.proofsInPublic true in
def tripRun (k : K) (h2 : k.val + 1 < 35) (f7 : Buf (Elt F) (w7M.view.loc (c : Thread nD τ))) :
    { w : List (View.Piece (Elt F) S4480x2x1536 .bf16) //
      iprop(baseP c arg1 XS f7 ∗ (∃ f, flightP c XW (Ring.sl 2 k.val) (Ring.bk 35 k.val) f) ∗ homeP c XW (Ring.sl 2 (k.val + 1)))
      ⊢ wp frame (wpE (defs₀ (F := F)) 𝒱₀ (c : Thread nD τ) none) Set.univ (tripG i arg1 harg1 arg2 harg2 arg4 harg4 arg6 harg6 k0_h1 k)
        (fun _ => iprop(baseP c arg1 XS (w7M.view.writes (Elt F) f7 w) ∗ (∃ f, flightP c XW (Ring.sl 2 (k.val + 1)) (Ring.bk 35 (k.val + 1)) f) ∗ homeP c XW (Ring.sl 2 k.val))) } := by
  refine ⟨?_, ?run⟩
  case run =>
    have h1 : k.val < 35 := by omega
    have hc2 : k0_cond2 k = 1#1 := (cond2_iff k).2 h2
    iintro ⟨⟨HS, H7, ⟨%W, HW⟩⟩, ⟨%f0, HF, HR⟩, ⟨%f1, HD⟩, Hc, HX⟩
    unfold tripG
    sl_unfold [k0_t1_body]
    ihave HX := ((chunk_split c XW (Ring.sl 2 (k.val + 1)) (Ring.bk 35 (k.val + 1))).1) $$ HX
    icases HX with ⟨HX, HX2⟩
    sl_exec
    sl_step
    isplitl [HS H7 HW]
    · isplitl [HS]; · iexact HS
      isplitl [H7]; · iexact H7
      iexists _; iexact HW
    isplitl [Hc HX2]
    · iexists f1
      isplitl [Hc]; · iexact Hc
      iexact HX2
    isplitl [HF_dst]; · iexists _; iexact HF_dst
    isplitl [HF]; · iexact HF
    iapply (chunk_split c XW (Ring.sl 2 k.val) (Ring.bk 35 k.val)).2
    isplitl [HF_src]; · iexact HF_src
    iexact HR

set_option sl_exec.resultNames true in
set_option backward.proofsInPublic true in
/-- The last trip: nothing more to start. -/
def lastRun (k : K) (h2 : ¬ k.val + 1 < 35) (f7 : Buf (Elt F) (w7M.view.loc (c : Thread nD τ))) :
    { w : List (View.Piece (Elt F) S4480x2x1536 .bf16) //
      iprop(baseP c arg1 XS f7 ∗ (∃ f, flightP c XW (Ring.sl 2 k.val) (Ring.bk 35 k.val) f))
      ⊢ wp frame (wpE (defs₀ (F := F)) 𝒱₀ (c : Thread nD τ) none) Set.univ (tripG i arg1 harg1 arg2 harg2 arg4 harg4 arg6 harg6 k0_h1 k)
        (fun _ => iprop(baseP c arg1 XS (w7M.view.writes (Elt F) f7 w) ∗ homeP c XW (Ring.sl 2 k.val))) } := by
  refine ⟨?_, ?run⟩
  case run =>
    have h1 : k.val < 35 := Nat.lt_of_lt_of_eq k.isLt trips_eq
    have hc2 : ¬ k0_cond2 k = 1#1 := fun h => h2 ((cond2_iff k).1 h)
    iintro ⟨⟨HS, H7, ⟨%W, HW⟩⟩, ⟨%f0, HF, HR⟩⟩
    unfold tripG
    sl_unfold [k0_t1_body]
    sl_exec
    sl_step
    isplitl [HS H7 HW]
    · isplitl [HS]; · iexact HS
      isplitl [H7]; · iexact H7
      iexists _; iexact HW
    isplitl [HF_dst]; · iexists _; iexact HF_dst
    isplitl [HF]; · iexact HF
    iapply (chunk_split c XW (Ring.sl 2 k.val) (Ring.bk 35 k.val)).2
    isplitl [HF_src]; · iexact HF_src
    iexact HR

end Trip
end Cert.KernelIdeal.Hand
end
-- ==== Proof.Loop.lean ====
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (Pipeline.UD sig nD τ) ℕ

/-! ## The loop's invariant -/
section Loop
variable (c : Dev nD) (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (k0_h1 : k0_cond1 i = 1#1)
  (XW : Buf (Elt F) (wM.view.loc (c : Thread nD τ))) (XS : Buf (Elt F) (arg1.view.loc (c : Thread nD τ)))
  (Pw : ℕ → Buf (Elt F) (w7M.view.loc (c : Thread nD τ)) → Prop)

/-- The ring before trip `k`: chunk `k` under way in its slot, the other slot at rest; after the last trip both at rest. -/
def ringP (k : ℕ) : sProp 𝕄 :=
  if k < 35 then iprop((∃ f, flightP c XW (Ring.sl 2 k) (Ring.bk 35 k) f) ∗ homeP c XW (Ring.sl 2 (k + 1)))
  else iprop(homeP c XW (Ring.sl 2 k) ∗ homeP c XW (Ring.sl 2 (k + 1)))

/-- Before trip `k`: the weights' buffer as the trips before it left it, and the ring. -/
def genInv (k : ℕ) : sProp 𝕄 :=
  iprop((∃ f7, ⌜Pw k f7⌝ ∗ baseP c arg1 XS f7) ∗ ringP c XW k)

/-- The same at the loop's entry, spelt as the copies before it leave things. -/
abbrev inv0 : sProp 𝕄 :=
  iprop((arg1.view.loc (c : Thread nD τ) ↦[arg1.view.set]{fullShare} XS) ∗ (∃ f7, w7M.view.loc (c : Thread nD τ) ↦[w7M.view.set]{fullShare} f7) ∗ (∃ W, owes (c : Thread nD τ) 0 W)
    ∗ (∃ f, Transfers.Flight countersEmb (c : Thread nD τ) (SemLoc.dma (csm 0).sem) () 12288 iprop(slotP c 0 (landed c XW 0 0 f) ∗ chunkP c XW 0 0))
    ∗ restP c XW 0 0 ∗ (∃ f, slotP c 1 f) ∗ cellP (F := F) c 1 ∗ (wM.view.loc (c : Thread nD τ) ↦[Finset.univ]{qs 1} XW))

/-- The weights' buffer with what the trips so far left in it. -/
def w7At (k : ℕ) (f7 : Buf (Elt F) (w7M.view.loc (c : Thread nD τ))) : sProp 𝕄 :=
  iprop(⌜Pw k f7⌝ ∗ (w7M.view.loc (c : Thread nD τ) ↦[w7M.view.set]{fullShare} f7))

/-- Before a later trip: the same number of conjuncts as at the entry, the ring being one of them. -/
abbrev invS (k : ℕ) : sProp 𝕄 :=
  iprop((arg1.view.loc (c : Thread nD τ) ↦[arg1.view.set]{fullShare} XS) ∗ (∃ f7, w7At c Pw k f7) ∗ (∃ W, owes (c : Thread nD τ) 0 W)
    ∗ (∃ f : Buf (Elt F) (w7M.view.loc (c : Thread nD τ)), ringP c XW k) ∗ emp ∗ (∃ f : Buf (Elt F) (w7M.view.loc (c : Thread nD τ)), emp) ∗ emp ∗ emp)

theorem invS_gen (k : ℕ) : invS c arg1 XW XS Pw k ⊢ genInv c arg1 XW XS Pw k := by
  unfold invS genInv w7At
  iintro ⟨HS, ⟨%f7, %hp, H7⟩, HW, ⟨%f, HR⟩, -⟩
  isplitl [HS H7 HW]
  · iexists f7
    isplitr; · ipureintro; exact hp
    isplitl [HS]; · iexact HS
    isplitl [H7]; · iexact H7
    iexact HW
  iexact HR
theorem gen_invS (k : ℕ) : genInv c arg1 XW XS Pw k ⊢ invS c arg1 XW XS Pw k := by
  unfold invS genInv w7At
  iintro ⟨⟨%f7, %hp, HS, H7, HW⟩, HR⟩
  isplitl [HS]; · iexact HS
  isplitl [H7]
  · iexists f7
    isplitr; · ipureintro; exact hp
    iexact H7
  isplitl [HW]; · iexact HW
  isplitl [HR]
  · iexists f7
    iexact HR
  isplitr; · iempintro
  isplitr
  · iexists f7
    iempintro
  isplitr <;> iempintro
attribute [irreducible] w7At

@[reducible] def invAt : ℕ → sProp 𝕄
  | 0 => inv0 c arg1 XW XS
  | k + 1 => invS c arg1 XW XS Pw (k + 1)

theorem inv0_gen (h0 : ∀ f, Pw 0 f) : inv0 c arg1 XW XS ⊢ genInv c arg1 XW XS Pw 0 := by
  unfold genInv ringP
  rw [if_pos (by decide)]
  iintro ⟨HS, ⟨%f7, H7⟩, HW, ⟨%f, HF⟩, HR, HD, Hc, HX⟩
  isplitl [HS H7 HW]
  · iexists f7
    isplitr; · ipureintro; exact h0 f7
    isplitl [HS]; · iexact HS
    isplitl [H7]; · iexact H7
    iexact HW
  isplitl [HF HR]
  · iexists f
    isplitl [HF]; · iexact HF
    iexact HR
  isplitl [HD]; · iexact HD
  isplitl [Hc]; · iexact Hc
  iexact HX

theorem invAt_gen (h0 : ∀ f, Pw 0 f) (k : ℕ) : invAt c arg1 XW XS Pw k ⊢ genInv c arg1 XW XS Pw k := by
  cases k with
  | zero => exact inv0_gen c arg1 XW XS Pw h0
  | succ k => exact invS_gen c arg1 XW XS Pw (k + 1)

theorem genStep (k : K)
    (hs : ∀ (h2 : k.val + 1 < 35) f7, Pw k.val f7 → Pw (k.val + 1) (w7M.view.writes (Elt F) f7 (tripRun c i arg1 harg1 arg2 harg2 arg4 harg4 arg6 harg6 k0_h1 XW XS k h2 f7).1))
    (hl : ∀ (h2 : ¬ k.val + 1 < 35) f7, Pw k.val f7 → Pw (k.val + 1) (w7M.view.writes (Elt F) f7 (lastRun c i arg1 harg1 arg2 harg2 arg4 harg4 arg6 harg6 k0_h1 XW XS k h2 f7).1)) :
    genInv c arg1 XW XS Pw k.val ⊢ wp frame (wpE (defs₀ (F := F)) 𝒱₀ (c : Thread nD τ) none) Set.univ (tripG i arg1 harg1 arg2 harg2 arg4 harg4 arg6 harg6 k0_h1 k)
        (fun _ => genInv c arg1 XW XS Pw (k.val + 1)) := by
  have h1 : k.val < 35 := Nat.lt_of_lt_of_eq k.isLt trips_eq
  have e2 : Ring.sl 2 (k.val + 1 + 1) = Ring.sl 2 k.val := by
    apply Fin.ext; simp [Ring.sl, Fin.ofNat]; omega
  unfold genInv ringP
  rw [if_pos h1]
  by_cases h2 : k.val + 1 < 35
  · rw [if_pos h2, e2]
    iintro ⟨⟨%f7, %hp, HB⟩, HF, HH⟩
    iapply (wp_wand_r Idealize.ShloMosaic.frame (wpE (defs₀ (F := F)) 𝒱₀ (c : Thread nD τ) none) Set.univ)
    isplitl [HB HF HH]
    · iapply (tripRun c i arg1 harg1 arg2 harg2 arg4 harg4 arg6 harg6 k0_h1 XW XS k h2 f7).2
      isplitl [HB]; · iexact HB
      isplitl [HF]; · iexact HF
      iexact HH
    · iintro %_ ⟨HB, HF, HH⟩
      isplitl [HB]
      · iexists _
        isplitr; · ipureintro; exact hs h2 f7 hp
        iexact HB
      isplitl [HF]; · iexact HF
      iexact HH
  · rw [if_neg h2, e2]
    iintro ⟨⟨%f7, %hp, HB⟩, HF, HH⟩
    iapply (wp_wand_r Idealize.ShloMosaic.frame (wpE (defs₀ (F := F)) 𝒱₀ (c : Thread nD τ) none) Set.univ)
    isplitl [HB HF]
    · iapply (lastRun c i arg1 harg1 arg2 harg2 arg4 harg4 arg6 harg6 k0_h1 XW XS k h2 f7).2
      isplitl [HB]; · iexact HB
      iexact HF
    · iintro %_ ⟨HB, HK⟩
      isplitl [HB]
      · iexists _
        isplitr; · ipureintro; exact hl h2 f7 hp
        iexact HB
      isplitl [HH]; · iexact HH
      iexact HK

theorem ringP_exit : ringP c XW 35 ⊢ iprop(homeP c XW 1 ∗ homeP c XW 0) := by
  unfold ringP
  rw [if_neg (by decide)]
  exact .rfl
theorem w7At_exit (f7 : Buf (Elt F) (w7M.view.loc (c : Thread nD τ))) (k : ℕ) :
    w7At c Pw k f7 ⊢ iprop(⌜Pw k f7⌝ ∗ (w7M.view.loc (c : Thread nD τ) ↦[w7M.view.set]{fullShare} f7)) := by
  unfold w7At
  exact .rfl
attribute [irreducible] ringP

/-- What a property of the weights' buffer must satisfy to be carried through the loop. -/
structure Carried : Prop where
  start : ∀ f, Pw 0 f
  next : ∀ (k : K) (h2 : k.val + 1 < 35) f7, Pw k.val f7 → Pw (k.val + 1) (w7M.view.writes (Elt F) f7 (tripRun c i arg1 harg1 arg2 harg2 arg4 harg4 arg6 harg6 k0_h1 XW XS k h2 f7).1)
  last : ∀ (k : K) (h2 : ¬ k.val + 1 < 35) f7, Pw k.val f7 → Pw (k.val + 1) (w7M.view.writes (Elt F) f7 (lastRun c i arg1 harg1 arg2 harg2 arg4 harg4 arg6 harg6 k0_h1 XW XS k h2 f7).1)

set_option warn.classDefReducibility false in
def loopInv (hP : Carried c i arg1 harg1 arg2 harg2 arg4 harg4 arg6 harg6 k0_h1 XW XS Pw) :
    Gen.LoopInvTy_k0_t1 (F := F) Unit ℕ (Pipeline.UD sig nD τ) ℕ 𝒱₀ c none Set.univ i arg1 harg1 arg2 harg2 hscM (Memref.isWhole_whole _) arg4 harg4 wM (Memref.isWhole_whole _) arg6 harg6 w7M (Memref.isWhole_whole _) hdM (Memref.isWhole_whole _) rkM (Memref.isWhole_whole _) stM (Memref.isWhole_whole _) hsM (Memref.isWhole_whole _) cc0_scratch5 cc0_scratch6 k0_h1 where
  inv k _ := invAt c arg1 XW XS Pw k
  step k _ := (invAt_gen c arg1 XW XS Pw hP.start k.val).trans
    ((genStep c i arg1 harg1 arg2 harg2 arg4 harg4 arg6 harg6 k0_h1 XW XS Pw k (hP.next k) (hP.last k)).trans
      (wp_mono _ _ _ fun _ => gen_invS c arg1 XW XS Pw (k.val + 1)))

end Loop
end Cert.KernelIdeal.Hand
end
-- ==== Proof.Body.lean ====
module

public import proofs.«01_k».proof.Proof.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (Pipeline.UD sig nD τ) ℕ

/-! ## One tile's scales, copied while the step before works -/

/-- Where tile `n`'s scales lie: all groups, one batch row, 256 positions. -/
abbrev tileOff (n : Fin 48) : Fin 3 → Nat := ![0, n.val / 3, 256 * (n.val % 3)]
theorem tileOff_inb (n : Fin 48) : ∀ a, tileOff n a + S70x1x256.size a ≤ S70x16x768.size a := by revert n; decide
def tileM (n : Fin 48) : Memref sig .tc .hbm S70x256 .f32 :=
  (hscM.slice (Rect.unit (s := S70x16x768) (tileOff n) S70x1x256.size (tileOff_inb n)) (fun _ => rfl)).squeeze S70x256 squeezes_S70x1x256_S70x256
private theorem tileM_congr {off : Fin 3 → Nat} {n : Fin 48} (e : off = tileOff n) (hh hs) :
    (hscM.slice (Rect.unit (s := S70x16x768) off S70x1x256.size hh) hs).squeeze S70x256 squeezes_S70x1x256_S70x256 = tileM n :=
  congrArg (fun M : Memref sig .tc .hbm S70x1x256 .f32 => M.squeeze S70x256 squeezes_S70x1x256_S70x256) (Memref.slice_unit_congr _ e _ _ _ _)

/-- The tile whose scales step `i` starts copying. -/
def nextTile (i : grid0.Coords) : Fin 48 := ⟨min ((i 0).val + 1) 47, by omega⟩

@[sl_canon] theorem tile0 (hh hs) :
    (hscM.slice (Rect.unit (s := S70x16x768) (k0_off1 0#32 0#32) S70x1x256.size hh) hs).squeeze S70x256 squeezes_S70x1x256_S70x256 = tileM 0 := tileM_congr (by decide) _ _
@[sl_canon] theorem tile0L (hh hs) :
    (hscM.slice (Rect.unit (s := S70x16x768) ![0, 0, 0] S70x1x256.size hh) hs).squeeze S70x256 squeezes_S70x1x256_S70x256 = tileM 0 := tileM_congr (by decide) _ _
@[sl_canon] theorem tile1L (hh hs) :
    (hscM.slice (Rect.unit (s := S70x16x768) ![0, 0, 256] S70x1x256.size hh) hs).squeeze S70x256 squeezes_S70x1x256_S70x256 = tileM 1 := tileM_congr (by decide) _ _
@[sl_canon] theorem tile1 (hh hs) :
    (hscM.slice (Rect.unit (s := S70x16x768) (k0_off1 1#32 1#32) S70x1x256.size hh) hs).squeeze S70x256 squeezes_S70x1x256_S70x256 = tileM 1 := tileM_congr (by decide) _ _
@[sl_canon] theorem tileW (hh hs) :
    (hscM.slice (Rect.unit (s := S70x16x768) k0_off56 S70x1x256.size hh) hs).squeeze S70x256 squeezes_S70x1x256_S70x256 = tileM 0 := tileM_congr (by decide) _ _
@[sl_canon] theorem tileI (i : grid0.Coords) (hh hs) :
    (hscM.slice (Rect.unit (s := S70x16x768) (k0_off57 i) S70x1x256.size hh) hs).squeeze S70x256 squeezes_S70x1x256_S70x256 = tileM (nextTile i) := tileM_congr (k0_off57_eq i) _ _

section Scales
variable (c : Dev nD) (XV : Buf (Elt F) (hscM.view.loc (c : Thread nD τ)))
abbrev homeV (s : Fin 2) : sProp 𝕄 := hscM.view.loc (c : Thread nD τ) ↦[Finset.univ]{qs s} XV
abbrev tileP (s : Fin 2) (n : Fin 48) : sProp 𝕄 := (tileM n).view.loc (c : Thread nD τ) ↦[(tileM n).view.set]{qs s} XV
def restV (s : Fin 2) (n : Fin 48) : sProp 𝕄 := hscM.view.loc (c : Thread nD τ) ↦[Finset.univ \ (tileM n).view.set]{qs s} XV
theorem tile_split (s : Fin 2) (n : Fin 48) : iprop(homeV c XV s) ⊣⊢ iprop(tileP c XV s n ∗ restV c XV s n) :=
  pointsTo_split_subset (Finset.subset_univ _)
abbrev hsP (f : Buf (Elt F) (hsM.view.loc (c : Thread nD τ))) : sProp 𝕄 := hsM.view.loc (c : Thread nD τ) ↦[hsM.view.set]{fullShare} f
/-- Tile `n`'s scales, as the copy reads them. -/
abbrev tileOf (n : Fin 48) : S70x256.Idx → Elt F .f32 := ReadAs.same.apply ((tileM n).view.read (Elt F) XV)
abbrev hsLanded (n : Fin 48) (f : Buf (Elt F) (hsM.view.loc (c : Thread nD τ))) : Buf (Elt F) (hsM.view.loc (c : Thread nD τ)) :=
  hsM.view.writes (Elt F) f [⟨Rect.whole S70x256, tileOf c XV n⟩]
abbrev hsFl (s : Fin 2) (n : Fin 48) : sProp 𝕄 :=
  iprop((∃ f, Transfers.Flight countersEmb (c : Thread nD τ) (SemLoc.dma cc0_scratch6.sem) () 2240
      iprop(hsP c (hsLanded c XV n f) ∗ tileP c XV s n)) ∗ restV c XV s n)
abbrev hcell : sProp 𝕄 := semVal ((c : Thread nD τ), SemLoc.dma cc0_scratch6.sem) 0
end Scales

section Body
variable (c : Dev nD) (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (XW : Buf (Elt F) (wM.view.loc (c : Thread nD τ))) (XS : Buf (Elt F) (arg1.view.loc (c : Thread nD τ)))
  (Pw : ℕ → Buf (Elt F) (w7M.view.loc (c : Thread nD τ)) → Prop)
  (XV : Buf (Elt F) (hscM.view.loc (c : Thread nD τ)))
  (X2 : Buf (Elt F) (arg2.view.loc (c : Thread nD τ))) (X4 : Buf (Elt F) (arg4.view.loc (c : Thread nD τ)))

abbrev bodyG : Prog (TpuEff nD τ sig (Elt F) Λ₀ .tc) PUnit :=
  cc0_down_norm_qkv_rope i arg1 harg1 arg2 harg2 hscM (Memref.isWhole_whole _) arg4 harg4 wM (Memref.isWhole_whole _) arg6 harg6 w7M (Memref.isWhole_whole _) hdM (Memref.isWhole_whole _) rkM (Memref.isWhole_whole _) stM (Memref.isWhole_whole _) hsM (Memref.isWhole_whole _) cc0_scratch5 cc0_scratch6

abbrev hdP (f : Buf (Elt F) (hdM.view.loc (c : Thread nD τ))) : sProp 𝕄 := hdM.view.loc (c : Thread nD τ) ↦[hdM.view.set]{fullShare} f
/-- The result rows kept in `f32`: written, not read. -/
abbrev rkP : sProp 𝕄 := iprop(∃ f, rkM.view.loc (c : Thread nD τ) ↦[rkM.view.set]{fullShare} f)
abbrev w7P (f : Buf (Elt F) (w7M.view.loc (c : Thread nD τ))) : sProp 𝕄 := w7M.view.loc (c : Thread nD τ) ↦[w7M.view.set]{fullShare} f
abbrev inP {sp : Space} {S : Shape} {e : EltTy} (M : Memref sig .tc sp S e) (f : Buf (Elt F) (M.view.loc (c : Thread nD τ))) : sProp 𝕄 := M.view.loc (c : Thread nD τ) ↦[M.view.set]{fullShare} f

set_option sl_exec.resultNames true in
set_option backward.proofsInPublic true in
/-- The first step: the weights, then the first tile; the second tile's scales under way at the end. -/
def run0 (k0_h1 : k0_cond1 i = 1#1) (h3 : ¬ k0_cond3 i = 1#1) (hP : Carried c i arg1 harg1 arg2 harg2 arg4 harg4 arg6 harg6 k0_h1 XW XS Pw) :
    { L8 : List (View.Piece (Elt F) S256x8960 .bf16) //
      iprop(inP c arg1 XS ∗ inP c arg2 X2 ∗ (∃ f7, w7P c f7) ∗ (∃ f8, hdP c f8) ∗ (∃ f, hsP c f) ∗ homeP c XW 0 ∗ homeP c XW 1
          ∗ hcell (F := F) c ∗ homeV c XV 0 ∗ homeV c XV 1 ∗ rkP (F := F) c ∗ (∃ W, owes (c : Thread nD τ) 0 W))
      ⊢ wp frame (wpE (defs₀ (F := F)) 𝒱₀ (c : Thread nD τ) none) Set.univ (bodyG i arg1 harg1 arg2 harg2 arg4 harg4 arg6 harg6)
        (fun _ => iprop(inP c arg1 XS ∗ inP c arg2 X2 ∗ (∃ f7, ⌜Pw 35 f7⌝ ∗ w7P c f7) ∗ (∃ f8, hdP c (hdM.view.writes (Elt F) f8 L8)) ∗ hsFl c XV 1 1
          ∗ homeP c XW 0 ∗ homeP c XW 1 ∗ homeV c XV 0 ∗ rkP (F := F) c ∗ (∃ W, owes (c : Thread nD τ) 0 W))) } := by
  refine ⟨?_, ?run⟩
  case run =>
    let L := loopInv c i arg1 harg1 arg2 harg2 arg4 harg4 arg6 harg6 k0_h1 XW XS Pw hP
    iintro ⟨HS, H2, ⟨%f7, H7⟩, ⟨%f8, H8⟩, ⟨%fs, Hs⟩, ⟨⟨%g0, HD0⟩, Hc0, HX0⟩, ⟨⟨%g1, HD1⟩, Hc1, HX1⟩, Hh, HV0, HV1, ⟨%fk, Hk⟩, ⟨%W, HW⟩⟩
    ihave HX0 := ((chunk_split c XW 0 0).1) $$ HX0
    icases HX0 with ⟨HX0, HX0r⟩
    ihave HV0 := ((tile_split c XV 0 0).1) $$ HV0
    icases HV0 with ⟨HV0, HV0r⟩
    ihave HV1 := ((tile_split c XV 1 1).1) $$ HV1
    icases HV1 with ⟨HV1, HV1r⟩
    unfold bodyG
    simp only [cc0_down_norm_qkv_rope_eq_skeleton]; unfold cc0_down_norm_qkv_rope_skel
    sl_exec
    sl_step
    sl_exec
    ihave Hc0 := (ringP_exit c XW) $$ Hc0
    icases Hc0 with ⟨HK1, HK0⟩
    ihave H7 := (w7At_exit c Pw _ 35) $$ H7
    sl_step
    isplitl [HS]; · iexact HS
    isplitl [H2]; · iexact H2
    isplitl [H7]; · iexists _; iexact H7
    isplitl [H8]; · iexists f8; iexact H8
    isplitl [Hh HV1r]
    · isplitl [Hh]; · iexists _; iexact Hh
      iexact HV1r
    isplitl [HK0]; · iexact HK0
    isplitl [HK1]; · iexact HK1
    isplitl [HV0 HV0r]
    · iapply (tile_split c XV 0 0).2
      isplitl [HV0]; · iexact HV0
      iexact HV0r
    isplitl [Hk]; · iexists _; iexact Hk
    iexists _; iexact HW

set_option sl_exec.resultNames true in
set_option backward.proofsInPublic true in
/-- A middle step: the product of the tile before, the next tile's rows, the scales after it under way at the end. -/
def runM (h1 : ¬ k0_cond1 i = 1#1) (h3 : k0_cond3 i = 1#1) (h4 : k0_cond4 i = 1#1) (s s' : Fin 2) (n : Fin 48)
    (f7 : Buf (Elt F) (w7M.view.loc (c : Thread nD τ))) (f8 : Buf (Elt F) (hdM.view.loc (c : Thread nD τ))) :
    { L : List (View.Piece (Elt F) S256x1536 .bf16) × List (View.Piece (Elt F) S256x8960 .bf16) // ∀ f6,
      iprop(inP c arg2 X2 ∗ inP c arg4 X4 ∗ inP c arg6 f6 ∗ w7P c f7 ∗ hdP c f8 ∗ hsFl c XV s n ∗ homeV c XV s' ∗ rkP (F := F) c ∗ (∃ W, owes (c : Thread nD τ) 0 W))
      ⊢ wp frame (wpE (defs₀ (F := F)) 𝒱₀ (c : Thread nD τ) none) Set.univ (bodyG i arg1 harg1 arg2 harg2 arg4 harg4 arg6 harg6)
        (fun _ => iprop(inP c arg2 X2 ∗ inP c arg4 X4 ∗ inP c arg6 (arg6.view.writes (Elt F) f6 L.1) ∗ w7P c f7 ∗ hdP c (hdM.view.writes (Elt F) f8 L.2)
          ∗ hsFl c XV s' (nextTile i) ∗ homeV c XV s ∗ rkP (F := F) c ∗ (∃ W, owes (c : Thread nD τ) 0 W))) } := by
  refine ⟨⟨?_, ?_⟩, fun f6 => ?run⟩
  case run =>
    iintro ⟨H2, H4, H6, H7, H8, ⟨⟨%fs, HF⟩, HR⟩, HV, ⟨%fk, Hk⟩, ⟨%W, HW⟩⟩
    ihave HV := ((tile_split c XV s' (nextTile i)).1) $$ HV
    icases HV with ⟨HV, HVr⟩
    unfold bodyG
    simp only [cc0_down_norm_qkv_rope_eq_skeleton]; unfold cc0_down_norm_qkv_rope_skel
    sl_exec
    sl_step
    sl_exec
    sl_step
    isplitl [H2]; · iexact H2
    isplitl [H4]; · iexact H4
    isplitl [H6]; · iexact H6
    isplitl [H7]; · iexact H7
    isplitl [H8]; · iexact H8
    isplitl [HF HVr]
    · isplitl [HF]; · iexists _; iexact HF
      iexact HVr
    isplitl [HF_src HR]
    · iapply (tile_split c XV s n).2
      isplitl [HF_src]; · iexact HF_src
      iexact HR
    isplitl [Hk]; · iexists _; iexact Hk
    iexists _; iexact HW

set_option sl_exec.resultNames true in
set_option backward.proofsInPublic true in
/-- The last working step: nothing more to copy. -/
def runL (h1 : ¬ k0_cond1 i = 1#1) (h3 : k0_cond3 i = 1#1) (h4 : ¬ k0_cond4 i = 1#1) (s : Fin 2) (n : Fin 48)
    (f7 : Buf (Elt F) (w7M.view.loc (c : Thread nD τ))) (f8 : Buf (Elt F) (hdM.view.loc (c : Thread nD τ))) :
    { L : List (View.Piece (Elt F) S256x1536 .bf16) × List (View.Piece (Elt F) S256x8960 .bf16) // ∀ f6,
      iprop(inP c arg2 X2 ∗ inP c arg4 X4 ∗ inP c arg6 f6 ∗ w7P c f7 ∗ hdP c f8 ∗ hsFl c XV s n ∗ rkP (F := F) c ∗ (∃ W, owes (c : Thread nD τ) 0 W))
      ⊢ wp frame (wpE (defs₀ (F := F)) 𝒱₀ (c : Thread nD τ) none) Set.univ (bodyG i arg1 harg1 arg2 harg2 arg4 harg4 arg6 harg6)
        (fun _ => iprop(inP c arg2 X2 ∗ inP c arg4 X4 ∗ inP c arg6 (arg6.view.writes (Elt F) f6 L.1) ∗ w7P c f7 ∗ hdP c (hdM.view.writes (Elt F) f8 L.2)
          ∗ (∃ f, hsP c f) ∗ hcell (F := F) c ∗ homeV c XV s ∗ rkP (F := F) c ∗ (∃ W, owes (c : Thread nD τ) 0 W))) } := by
  refine ⟨⟨?_, ?_⟩, fun f6 => ?run⟩
  case run =>
    iintro ⟨H2, H4, H6, H7, H8, ⟨⟨%fs, HF⟩, HR⟩, ⟨%fk, Hk⟩, ⟨%W, HW⟩⟩
    unfold bodyG
    simp only [cc0_down_norm_qkv_rope_eq_skeleton]; unfold cc0_down_norm_qkv_rope_skel
    sl_exec
    sl_step
    sl_exec
    sl_step
    isplitl [H2]; · iexact H2
    isplitl [H4]; · iexact H4
    isplitl [H6]; · iexact H6
    isplitl [H7]; · iexact H7
    isplitl [H8]; · iexact H8
    isplitl [HF_dst]; · iexists _; iexact HF_dst
    isplitl [HF]; · iexact HF
    isplitl [HF_src HR]
    · iapply (tile_split c XV s n).2
      isplitl [HF_src]; · iexact HF_src
      iexact HR
    isplitl [Hk]; · iexists _; iexact Hk
    iexists _; iexact HW

/-- The step after it does nothing. -/
theorem runE (h1 : ¬ k0_cond1 i = 1#1) (h3 : ¬ k0_cond3 i = 1#1) (Q : PUnit → sProp 𝕄) :
    Q ⟨⟩ ⊢ wp frame (wpE (defs₀ (F := F)) 𝒱₀ (c : Thread nD τ) none) Set.univ (bodyG i arg1 harg1 arg2 harg2 arg4 harg4 arg6 harg6) Q := by
  iintro H
  unfold bodyG
  simp only [cc0_down_norm_qkv_rope_eq_skeleton]; unfold cc0_down_norm_qkv_rope_skel
  sl_exec
  sl_step
  iexact H

end Body
end Cert.KernelIdeal.Hand
end
-- ==== Proof.Frame.lean ====
module

public import proofs.«01_k».proof.Proof.Body
public import proofs.«01_k».proof.Proof.Gen.KernelIdeal.Frame
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (Pipeline.UD sig nD τ) ℕ

/-! ## The buffers between the region's entry and the body -/

/-- The scratch buffers' and the two copied arrays' own semaphores. -/
abbrev osem0 : Fin 3 → SemLoc sig := fun j => (![SemLoc.dma 7, SemLoc.dma 8, SemLoc.dma 9] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2] (by decide) (by decide)]; rfl

/-- The arrays that the body copies from itself. -/
def H0 : Finset (Ref sig .tc) := {main_arg2, main_v2}
theorem H0_sub : H0 ⊆ Pipeline.restRefs sig spec0 := by decide

theorem eqE {P Q : sProp 𝕄} (e : P = Q) : P ⊢ Q := e ▸ .rfl

section Buffers
variable (m : (ℓ : Loc nD τ sig) → Buf (Elt F) ℓ)

theorem hbmPts0_eq (c : Dev nD) :
    (bigSep H0 fun b => ((c : Thread nD τ).loc b) ↦{fullShare} V m c b : sProp 𝕄)
      = iprop((((c : Thread nD τ).loc main_arg2) ↦{fullShare} V m c main_arg2) ∗ (((c : Thread nD τ).loc main_v2) ↦{fullShare} V m c main_v2)) :=
  BI.bigSep_eq_bigSepL_of_eq [main_arg2, main_v2] (by decide) (by decide) _

/-- A whole buffer through its memref. -/
theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  simp only [Memref.view_whole, View.set_whole]

/-! The staging buffer's two slots. -/
abbrev S2 (s : Fin 2) : Finset S2x256x2048.Idx := (Rect.unit (s := S2x256x2048) (slotOff s) S1x256x1536.size (slotOff_inb s)).set
theorem rslot_set (s : Fin 2) : (rslot s).view.set = S2 s := (View.set_reshape _ _).trans (View.set_slice_whole _ _)
theorem mem_S2 (s : Fin 2) (y : S2x256x2048.Idx) : y ∈ S2 s ↔ (y 0).val = s.val ∧ (y 2).val < 1536 := by
  rw [Rect.mem_set_unit]
  have h1 : (y 1).val < 256 := (y 1).isLt
  constructor
  · intro H
    have a0 : s.val ≤ (y 0).val ∧ (y 0).val < s.val + 1 := H 0
    have a2 : 0 ≤ (y 2).val ∧ (y 2).val < 0 + 1536 := H 2
    omega
  · intro H i; fin_cases i
    · show s.val ≤ (y 0).val ∧ (y 0).val < s.val + 1; omega
    · show 0 ≤ (y 1).val ∧ (y 1).val < 0 + 256; omega
    · show 0 ≤ (y 2).val ∧ (y 2).val < 0 + 1536; omega
theorem S2_disjoint : Disjoint (S2 0) (S2 1) := by
  rw [Finset.disjoint_left]; intro y hy hy'; rw [mem_S2] at hy hy'; exact absurd (hy.1.symm.trans hy'.1) (by decide)
theorem slotP_eq (c : Dev nD) (s : Fin 2) (f) : slotP c s f = (((c : Thread nD τ).loc cc0_scratch3) ↦[S2 s]{fullShare} f : sProp 𝕄) :=
  congrArg (fun S => (_ ↦[S]{fullShare} f : sProp 𝕄)) (rslot_set s)
/-- The staging buffer's columns that no copy of this call writes. -/
abbrev padP (c : Dev nD) : sProp 𝕄 :=
  iprop(∃ f : Buf (Elt F) ((c : Thread nD τ).loc cc0_scratch3), ((c : Thread nD τ).loc cc0_scratch3) ↦[(Finset.univ \ S2 0) \ S2 1]{fullShare} f)
theorem S2_sub : S2 1 ⊆ Finset.univ \ S2 0 := fun y hy => by
  rw [Finset.mem_sdiff]; exact ⟨Finset.mem_univ _, fun h => (Finset.disjoint_left.1 S2_disjoint) h hy⟩
theorem buf_split (c : Dev nD) :
    iprop(∃ f : Buf (Elt F) ((c : Thread nD τ).loc cc0_scratch3), ((c : Thread nD τ).loc cc0_scratch3) ↦{fullShare} f)
      ⊢ (iprop((∃ f, slotP c 0 f) ∗ (∃ f, slotP c 1 f) ∗ padP c) : sProp 𝕄) := by
  iintro ⟨%f, H⟩
  ihave H := ((pointsTo_split_subset (Finset.subset_univ (S2 0))).1) $$ H
  icases H with ⟨H0, H⟩
  ihave H := ((pointsTo_split_subset S2_sub).1) $$ H
  icases H with ⟨H1, H⟩
  isplitl [H0]
  · iexists f; iapply (eqE (slotP_eq c 0 f).symm); iexact H0
  isplitl [H1]
  · iexists f; iapply (eqE (slotP_eq c 1 f).symm); iexact H1
  iexists f; iexact H
theorem buf_join (c : Dev nD) :
    iprop((∃ f, slotP c 0 f) ∗ (∃ f, slotP c 1 f) ∗ padP c)
      ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩, ⟨%fp, Hp⟩⟩
  ihave H0 := (eqE (slotP_eq c 0 f0)) $$ H0
  ihave H1 := (eqE (slotP_eq c 1 f1)) $$ H1
  ihave H := (pointsTo_join_subset (ℓ := (c : Thread nD τ).loc cc0_scratch3) (q := fullShare) (g := f1) (f := fp) S2_sub) $$ [H1 Hp]
  · isplitl [H1]; · iexact H1
    iexact Hp
  ihave H := (pointsTo_join_subset (ℓ := (c : Thread nD τ).loc cc0_scratch3) (q := fullShare) (g := f0) (Finset.subset_univ (S2 0))) $$ [H0 H]
  · isplitl [H0]; · iexact H0
    iexact H
  iexists _; iexact H

/-- An array in two halves, one for each slot's copies. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{qs 0} f) ∗ (((c : Thread nD τ).loc b) ↦{qs 1} f)) :=
  pointsTo_share (PosShare.mem_left_op_right fullShare)

/-- What no step touches. -/
abbrev idleP (c : Dev nD) : sProp 𝕄 := iprop((∃ r, prngReg c r) ∗ padP c)

/-- Everything at rest: the state before the first step and after the last. -/
abbrev restAll (c : Dev nD) : sProp 𝕄 :=
  iprop((∃ f7, w7P c f7) ∗ (∃ f8, hdP c f8) ∗ (∃ f, hsP c f) ∗ homeP c (V m c main_arg2) 0 ∗ homeP c (V m c main_arg2) 1
    ∗ hcell (F := F) c ∗ homeV c (V m c main_v2) 0 ∗ homeV c (V m c main_v2) 1)

theorem csm0 : (csm 0).sem = 7 := by decide
theorem csm1 : (csm 1).sem = 8 := by decide
theorem hsem : cc0_scratch6.sem = 9 := by decide

theorem PhiD0_eq (c : Dev nD) :
    (Pipeline.ΦD osem0 spec0 H0 (V m) c : sProp 𝕄)
      = iprop(iprop((∃ f, w7P c f) ∗ (∃ f, hdP c f) ∗ rkP c
                ∗ (∃ f : Buf (Elt F) ((c : Thread nD τ).loc cc0_scratch3), ((c : Thread nD τ).loc cc0_scratch3) ↦{fullShare} f) ∗ (∃ f, hsP c f))
          ∗ (∃ r, prngReg c r)
          ∗ iprop(cellP (F := F) c 0 ∗ cellP (F := F) c 1 ∗ hcell (F := F) c)
          ∗ iprop((((c : Thread nD τ).loc main_arg2) ↦{fullShare} V m c main_arg2) ∗ (((c : Thread nD τ).loc main_v2) ↦{fullShare} V m c main_v2))) := by
  rw [Pipeline.ΦD_eq, scopedRest0_eq, ownSems00_eq, hbmPts0_eq]
  simp only [w7P, hdP, hsP, rkP, w7M, hdM, hsM, rkM, whole_pts, cellP, hcell, csm0, csm1, hsem, View.set_whole]

theorem enter (c : Dev nD) : Pipeline.ΦD osem0 spec0 H0 (V m) c ⊢ iprop(idleP c ∗ rkP c ∗ restAll m c) := by
  rw [PhiD0_eq]
  iintro ⟨⟨H7, H8, Hk, Hst, Hs⟩, Hg, ⟨Hc0, Hc1, Hh⟩, HX, HV⟩
  ihave Hst := (buf_split c) $$ Hst
  icases Hst with ⟨HD0, HD1, Hp⟩
  isplitl [Hg Hp]
  · isplitl [Hg]; · iexact Hg
    iexact Hp
  isplitl [Hk]; · iexact Hk
  isplitl [H7]; · iexact H7
  isplitl [H8]; · iexact H8
  isplitl [Hs]; · iexact Hs
  ihave HX := ((halves c main_arg2 _).1) $$ HX
  icases HX with ⟨HX0, HX1⟩
  ihave HV := ((halves c main_v2 _).1) $$ HV
  icases HV with ⟨HV0, HV1⟩
  isplitl [HD0 Hc0 HX0]
  · isplitl [HD0]; · iexact HD0
    isplitl [Hc0]; · iexact Hc0
    iexact HX0
  isplitl [HD1 Hc1 HX1]
  · isplitl [HD1]; · iexact HD1
    isplitl [Hc1]; · iexact Hc1
    iexact HX1
  isplitl [Hh]; · iexact Hh
  isplitl [HV0]; · iexact HV0
  iexact HV1

theorem leave (c : Dev nD) : iprop(idleP c ∗ rkP c ∗ restAll m c) ⊢ Pipeline.ΦD osem0 spec0 H0 (V m) c := by
  rw [PhiD0_eq]
  iintro ⟨⟨Hg, Hp⟩, Hk, H7, H8, Hs, ⟨HD0, Hc0, HX0⟩, ⟨HD1, Hc1, HX1⟩, Hh, HV0, HV1⟩
  isplitl [H7 H8 Hs Hk HD0 HD1 Hp]
  · isplitl [H7]; · iexact H7
    isplitl [H8]; · iexact H8
    isplitl [Hk]; · iexact Hk
    isplitl [HD0 HD1 Hp]
    · iapply (buf_join c)
      isplitl [HD0]; · iexact HD0
      isplitl [HD1]; · iexact HD1
      iexact Hp
    iexact Hs
  isplitl [Hg]; · iexact Hg
  isplitl [Hc0 Hc1 Hh]
  · isplitl [Hc0]; · iexact Hc0
    isplitl [Hc1]; · iexact Hc1
    iexact Hh
  isplitl [HX0 HX1]
  · iapply (halves c main_arg2 _).2
    isplitl [HX0]; · iexact HX0
    iexact HX1
  iapply (halves c main_v2 _).2
  isplitl [HV0]; · iexact HV0
  iexact HV1

end Buffers

/-! ## What the steps keep true -/

theorem c1_iff : ∀ t : Fin cfg0.N, k0_cond1 (grid0.coords t) = 1#1 ↔ t.val = 0 := by decide +kernel
theorem c3_iff : ∀ t : Fin cfg0.N, k0_cond3 (grid0.coords t) = 1#1 ↔ 0 < t.val ∧ t.val ≤ 48 := by decide +kernel
theorem c4_iff : ∀ t : Fin cfg0.N, k0_cond4 (grid0.coords t) = 1#1 ↔ t.val < 48 := by decide +kernel
/-- Step `t`'s tile, the last one repeated. -/
def tn (t : ℕ) : Fin 48 := ⟨min t 47, by omega⟩
theorem nextTile_at : ∀ t : Fin cfg0.N, nextTile (grid0.coords t) = tn (t.val + 1) := by decide +kernel

/-- Properties of the weights' buffer, of the hidden rows' buffer before each step and of the block each step
    leaves, which the steps carry along. -/
structure Spec (m : (ℓ : Loc nD τ sig) → Buf (Elt F) ℓ) (c : Dev nD) where
  Pw : ℕ → Buf (Elt F) (w7M.view.loc (c : Thread nD τ)) → Prop
  Ph : ℕ → Buf (Elt F) (hdM.view.loc (c : Thread nD τ)) → Prop
  Pt : Fin cfg0.N → Vec F S256x1536 .bf16 → Prop
  carried : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (k0_h1 : k0_cond1 (grid0.coords t) = 1#1) (XS : Buf (Elt F) (arg1.view.loc (c : Thread nD τ))),
    arg1.view.read (Elt F) XS = iblk m c 0 t → Carried c (grid0.coords t) arg1 harg1 arg2 harg2 arg4 harg4 arg6 harg6 k0_h1 (V m c main_arg2) XS Pw
  h0 : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (k0_h1 : k0_cond1 (grid0.coords t) = 1#1) (h3 : ¬ k0_cond3 (grid0.coords t) = 1#1) (XS : Buf (Elt F) (arg1.view.loc (c : Thread nD τ))) (X2 : Buf (Elt F) (arg2.view.loc (c : Thread nD τ))) hP f8,
    arg2.view.read (Elt F) X2 = iblk m c 1 t →
    Ph 1 (hdM.view.writes (Elt F) f8 (run0 c (grid0.coords t) arg1 harg1 arg2 harg2 arg4 harg4 arg6 harg6 (V m c main_arg2) XS Pw (V m c main_v2) X2 k0_h1 h3 hP).1)
  hM : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (h1 : ¬ k0_cond1 (grid0.coords t) = 1#1) (h3 : k0_cond3 (grid0.coords t) = 1#1) (h4 : k0_cond4 (grid0.coords t) = 1#1) (s s' : Fin 2) (X2 : Buf (Elt F) (arg2.view.loc (c : Thread nD τ))) (X4 : Buf (Elt F) (arg4.view.loc (c : Thread nD τ))) f7 f8,
    arg2.view.read (Elt F) X2 = iblk m c 1 t → arg4.view.read (Elt F) X4 = iblk m c 2 t → Pw 35 f7 → Ph t.val f8 →
    (∀ f6, Pt t (arg6.view.read (Elt F) (arg6.view.writes (Elt F) f6 (runM c (grid0.coords t) arg1 harg1 arg2 harg2 arg4 harg4 arg6 harg6 (V m c main_v2) X2 X4 h1 h3 h4 s s' (tn t.val) f7 f8).1.1)))
    ∧ Ph (t.val + 1) (hdM.view.writes (Elt F) f8 (runM c (grid0.coords t) arg1 harg1 arg2 harg2 arg4 harg4 arg6 harg6 (V m c main_v2) X2 X4 h1 h3 h4 s s' (tn t.val) f7 f8).1.2)
  hL : ∀ (t : Fin cfg0.N) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole) (h1 : ¬ k0_cond1 (grid0.coords t) = 1#1) (h3 : k0_cond3 (grid0.coords t) = 1#1) (h4 : ¬ k0_cond4 (grid0.coords t) = 1#1) (s : Fin 2) (X2 : Buf (Elt F) (arg2.view.loc (c : Thread nD τ))) (X4 : Buf (Elt F) (arg4.view.loc (c : Thread nD τ))) f7 f8,
    arg2.view.read (Elt F) X2 = iblk m c 1 t → arg4.view.read (Elt F) X4 = iblk m c 2 t → Pw 35 f7 → Ph t.val f8 →
    ∀ f6, Pt t (arg6.view.read (Elt F) (arg6.view.writes (Elt F) f6 (runL c (grid0.coords t) arg1 harg1 arg2 harg2 arg4 harg4 arg6 harg6 (V m c main_v2) X2 X4 h1 h3 h4 s (tn t.val) f7 f8).1.1))
  p0 : ∀ (t : Fin cfg0.N) X, t.val = 0 → Pt t X
  pE : ∀ (t : Fin cfg0.N) X, t.val = 49 → (∀ u : Fin cfg0.N, u.val = 48 → Pt u X) → Pt t X

/-- Nothing said of the values: enough for the frame. -/
def Spec.trivial (m : (ℓ : Loc nD τ sig) → Buf (Elt F) ℓ) (c : Dev nD) : Spec m c where
  Pw _ _ := True
  Ph _ _ := True
  Pt _ _ := True
  carried := by intros; exact ⟨fun _ => True.intro, fun _ _ _ _ => True.intro, fun _ _ _ _ => True.intro⟩
  h0 := by intros; exact True.intro
  hM := by intros; exact ⟨fun _ => True.intro, True.intro⟩
  hL := by intros; exact True.intro
  p0 := by intros; exact True.intro
  pE := by intros; exact True.intro

section Data
variable (m : (ℓ : Loc nD τ sig) → Buf (Elt F) ℓ) (ρ : Dev nD → PrngReg) (S : (c : Dev nD) → Spec m c)

/-- The state before step `t`. -/
def Phi (c : Dev nD) (t : ℕ) : sProp 𝕄 :=
  if t = 0 then restAll m c
  else if t ≤ 48 then
    iprop((∃ f7, ⌜(S c).Pw 35 f7⌝ ∗ w7P c f7) ∗ (∃ f8, ⌜(S c).Ph t f8⌝ ∗ hdP c f8) ∗ hsFl c (V m c main_v2) (Ring.sl 2 t) (tn t)
      ∗ homeP c (V m c main_arg2) 0 ∗ homeP c (V m c main_arg2) 1 ∗ homeV c (V m c main_v2) (Ring.sl 2 (t + 1)))
  else restAll m c

def dat (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := iprop(idleP c ∗ rkP c ∗ Phi m S c t.val)
  q _ := fullShare
  owed _ := 0

theorem A_eq (c : Dev nD) (w : Fin cfg0.W) : (dat m S c).A w = V m c (Pipeline.arrRef spec0 w) := by dsimp only [dat]
theorem before0 (c : Dev nD) (t : Fin cfg0.N) (d) : (dat m S c).before 0 t d = iblk m c 0 t :=
  ((dat m S c).before_in_eq_fetched 0 rfl (fun _ => rfl) (fun _ _ _ => rfl) (fun t => by show iblk m c 0 t = _; unfold Dat.blockOf iblk; rw [A_eq]; try rfl) t d).trans
    (by unfold Dat.fetched Dat.blockOf iblk; rw [A_eq]; try rfl)
theorem before1 (c : Dev nD) (t : Fin cfg0.N) (d) : (dat m S c).before 1 t d = iblk m c 1 t :=
  ((dat m S c).before_in_eq_fetched 1 rfl (fun _ => rfl) (fun _ _ _ => rfl) (fun t => by show iblk m c 1 t = _; unfold Dat.blockOf iblk; rw [A_eq]; try rfl) t d).trans
    (by unfold Dat.fetched Dat.blockOf iblk; rw [A_eq]; try rfl)
theorem before2 (c : Dev nD) (t : Fin cfg0.N) (d) : (dat m S c).before 2 t d = iblk m c 2 t :=
  ((dat m S c).before_in_eq_fetched 2 rfl (fun _ => rfl) (fun _ _ _ => rfl) (fun t => by show iblk m c 2 t = _; unfold Dat.blockOf iblk; rw [A_eq]; try rfl) t d).trans
    (by unfold Dat.fetched Dat.blockOf iblk; rw [A_eq]; try rfl)

/-- The window whose contents are said by a property: the result's. -/
abbrev fgt : Fin cfg0.W → Bool := ![false, false, false, true]
def Rl (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, t, X => (S c).Pt t X
abbrev rdat (c : Dev nD) : RDat τ (Elt F) Unit ℕ (Pipeline.UD sig nD τ) ℕ cfg0 c := (dat m S c).toRRel fgt (Rl m S c)

theorem noflush : ∀ t : Fin cfg0.N, t.val = 48 → (cfg0.win 3).flush t = false := by decide +kernel
theorem nofetch : ∀ t : Fin cfg0.N, (cfg0.win 3).fetch t = false := by decide +kernel

/-- At the last step the result's buffer still holds what the step before left. -/
theorem finds_last (c : Dev nD) (t : Fin cfg0.N) (ht : t.val = 49) (X) (h : (rdat m S c).Finds 3 t X) (u : Fin cfg0.N) (hu : u.val = 48) : (S c).Pt u X := by
  rw [(rdat m S c).finds_of_pos (nofetch t) (by omega)] at h
  have e : (⟨t.val - 1, Nat.lt_of_le_of_lt (Nat.sub_le _ _) t.isLt⟩ : Fin cfg0.N) = u := Fin.ext (by simp only [hu]; omega)
  rw [e, noflush u hu] at h
  rcases h with h | h
  · exact absurd h (by decide)
  · exact (dat m S c).toRRel_leaves (fgt := fgt) (Rl := Rl m S c) (w := 3) rfl h

abbrev st1 (t : Fin cfg0.N) : Memref sig .tc .smem S12x70 .f32 := win0_0.stage (cfg0.slots t 0)
abbrev st2 (t : Fin cfg0.N) : Memref sig .tc .vmem S256x8960 .fp8e4m3 := win0_1.stage (cfg0.slots t 1)
abbrev st4 (t : Fin cfg0.N) : Memref sig .tc .vmem S256x1536 .bf16 := win0_2.stage (cfg0.slots t 2)
abbrev st6 (t : Fin cfg0.N) : Memref sig .tc .vmem S256x1536 .bf16 := win0_3.stage (cfg0.slots t 3)

def bodyPre (c : Dev nD) (t : Fin cfg0.N) : sProp 𝕄 :=
  iprop((dat m S c).Φ t.castSucc ∗ (dat m S c).owesAt () t.castSucc
    ∗ (∃ d, owns (c : Thread nD τ) (st1 t) fullShare ((dat m S c).before 0 t d))
    ∗ (∃ d, owns (c : Thread nD τ) (st2 t) fullShare ((dat m S c).before 1 t d))
    ∗ (∃ d, owns (c : Thread nD τ) (st4 t) fullShare ((dat m S c).before 2 t d))
    ∗ (∃ Y, ⌜(rdat m S c).Finds 3 t Y⌝ ∗ owns (c : Thread nD τ) (st6 t) fullShare Y))
def bodyPost (c : Dev nD) (t : Fin cfg0.N) : sProp 𝕄 :=
  iprop((dat m S c).Φ t.succ ∗ (dat m S c).owesAt () t.succ
    ∗ owns (c : Thread nD τ) (st1 t) fullShare ((dat m S c).after 0 t)
    ∗ owns (c : Thread nD τ) (st2 t) fullShare ((dat m S c).after 1 t)
    ∗ owns (c : Thread nD τ) (st4 t) fullShare ((dat m S c).after 2 t)
    ∗ (∃ X, ⌜Rl m S c 3 t X⌝ ∗ owns (c : Thread nD τ) (st6 t) fullShare X))

theorem sl_even (t : ℕ) : Ring.sl 2 (t + 1 + 1) = Ring.sl 2 t := by
  apply Fin.ext; simp [Ring.sl, Fin.ofNat]; omega

set_option maxHeartbeats 2000000 in
theorem sound_body (c : Dev nD) (t : Fin cfg0.N) :
    bodyPre m S c t ⊢ wp frame (wpE (defs₀ (F := F)) 𝒱₀ c none) Set.univ (bodyAt0 t) (fun _ => bodyPost m S c t) := by
  have hN : t.val < 50 := Nat.lt_of_lt_of_eq t.isLt (by decide)
  unfold bodyPre bodyPost
  rw [show (dat m S c).Φ t.succ = iprop(idleP c ∗ rkP c ∗ Phi m S c (t.val + 1)) from rfl,
    show (dat m S c).Φ t.castSucc = iprop(idleP c ∗ rkP c ∗ Phi m S c t.val) from rfl,
    show (dat m S c).after 0 t = iblk m c 0 t from rfl, show (dat m S c).after 1 t = iblk m c 1 t from rfl, show (dat m S c).after 2 t = iblk m c 2 t from rfl]
  simp only [before0, before1, before2]
  unfold Dat.owesAt Pipeline.owesWithin owns
  rw [show (dat m S c).owed t.castSucc = 0 from rfl, show (dat m S c).owed t.succ = 0 from rfl]
  by_cases ht0 : t.val = 0
  · have h1 : k0_cond1 (grid0.coords t) = 1#1 := (c1_iff t).2 ht0
    have h3 : ¬ k0_cond3 (grid0.coords t) = 1#1 := fun h => by have := (c3_iff t).1 h; omega
    rw [show Phi m S c t.val = restAll m c by unfold Phi; rw [if_pos ht0]]
    rw [show Phi m S c (t.val + 1) = iprop((∃ f7, ⌜(S c).Pw 35 f7⌝ ∗ w7P c f7) ∗ (∃ f8, ⌜(S c).Ph 1 f8⌝ ∗ hdP c f8) ∗ hsFl c (V m c main_v2) 1 1
      ∗ homeP c (V m c main_arg2) 0 ∗ homeP c (V m c main_arg2) 1 ∗ homeV c (V m c main_v2) 0) by
        unfold Phi; rw [ht0, if_neg (by omega), if_pos (by omega)]; rfl]
    iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
    have hC := (S c).carried t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 X1 e1
    have hh := fun f8 => (S c).h0 t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3 X1 X2 hC f8 e2
    icases HP with ⟨H7, H8, Hs, HK0, HK1, Hh, HV0, HV1⟩
    iapply (wp_wand_r Idealize.ShloMosaic.frame (wpE (defs₀ (F := F)) 𝒱₀ (c : Thread nD τ) none) Set.univ)
    isplitl [H1 H2 H7 H8 Hs HK0 HK1 Hh HV0 HV1 Hk HW]
    · iapply (run0 c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) (V m c main_arg2) X1 (S c).Pw (V m c main_v2) X2 h1 h3 hC).2
      isplitl [H1]; · iexact H1
      isplitl [H2]; · iexact H2
      isplitl [H7]; · iexact H7
      isplitl [H8]; · iexact H8
      isplitl [Hs]; · iexact Hs
      isplitl [HK0]; · iexact HK0
      isplitl [HK1]; · iexact HK1
      isplitl [Hh]; · iexact Hh
      isplitl [HV0]; · iexact HV0
      isplitl [HV1]; · iexact HV1
      isplitl [Hk]; · iexact Hk
      iexists W; iexact HW
    iintro %_ ⟨H1, H2, H7, ⟨%f8, H8⟩, HF, HK0, HK1, HV0, Hk, ⟨%W', HW⟩⟩
    isplitl [Hg Hk H7 H8 HF HK0 HK1 HV0]
    · isplitl [Hg]; · iexact Hg
      isplitl [Hk]; · iexact Hk
      isplitl [H7]; · iexact H7
      isplitl [H8]
      · iexists _
        isplitr; · ipureintro; exact hh f8
        iexact H8
      isplitl [HF]; · iexact HF
      isplitl [HK0]; · iexact HK0
      isplitl [HK1]; · iexact HK1
      iexact HV0
    isplitl [HW]
    · iexists W'; isplitr; · ipureintro; exact fun _ _ => Or.inl True.intro
      iexact HW
    isplitl [H1]; · iexists X1; isplitr; · ipureintro; exact e1
                    iexact H1
    isplitl [H2]; · iexists X2; isplitr; · ipureintro; exact e2
                    iexact H2
    isplitl [H4]; · iexists X4; isplitr; · ipureintro; exact e4
                    iexact H4
    iexists Y; isplitr; · ipureintro; exact (S c).p0 t Y ht0
    iexists f6; isplitr; · ipureintro; exact e6
    iexact H6
  have h1 : ¬ k0_cond1 (grid0.coords t) = 1#1 := fun h => ht0 ((c1_iff t).1 h)
  by_cases ht : t.val ≤ 48
  · have h3 : k0_cond3 (grid0.coords t) = 1#1 := (c3_iff t).2 ⟨by omega, ht⟩
    rw [show Phi m S c t.val = iprop((∃ f7, ⌜(S c).Pw 35 f7⌝ ∗ w7P c f7) ∗ (∃ f8, ⌜(S c).Ph t.val f8⌝ ∗ hdP c f8) ∗ hsFl c (V m c main_v2) (Ring.sl 2 t.val) (tn t.val)
      ∗ homeP c (V m c main_arg2) 0 ∗ homeP c (V m c main_arg2) 1 ∗ homeV c (V m c main_v2) (Ring.sl 2 (t.val + 1))) by
        unfold Phi; rw [if_neg ht0, if_pos ht]]
    by_cases ht4 : t.val < 48
    · have h4 : k0_cond4 (grid0.coords t) = 1#1 := (c4_iff t).2 ht4
      rw [show Phi m S c (t.val + 1) = iprop((∃ f7, ⌜(S c).Pw 35 f7⌝ ∗ w7P c f7) ∗ (∃ f8, ⌜(S c).Ph (t.val + 1) f8⌝ ∗ hdP c f8) ∗ hsFl c (V m c main_v2) (Ring.sl 2 (t.val + 1)) (nextTile (grid0.coords t))
        ∗ homeP c (V m c main_arg2) 0 ∗ homeP c (V m c main_arg2) 1 ∗ homeV c (V m c main_v2) (Ring.sl 2 t.val)) by
          unfold Phi; rw [if_neg (by omega), if_pos (by omega), nextTile_at, sl_even]]
      iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
      icases HP with ⟨⟨%f7, %h7, H7⟩, ⟨%f8, %h8, H8⟩, HF, HK0, HK1, HV⟩
      have hh := (S c).hM t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3 h4 (Ring.sl 2 t.val) (Ring.sl 2 (t.val + 1)) X2 X4 f7 f8 e2 e4 h7 h8
      iapply (wp_wand_r Idealize.ShloMosaic.frame (wpE (defs₀ (F := F)) 𝒱₀ (c : Thread nD τ) none) Set.univ)
      isplitl [H2 H4 H6 H7 H8 HF HV Hk HW]
      · iapply (runM c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) (V m c main_v2) X2 X4 h1 h3 h4 (Ring.sl 2 t.val) (Ring.sl 2 (t.val + 1)) (tn t.val) f7 f8).2 f6
        isplitl [H2]; · iexact H2
        isplitl [H4]; · iexact H4
        isplitl [H6]; · iexact H6
        isplitl [H7]; · iexact H7
        isplitl [H8]; · iexact H8
        isplitl [HF]; · iexact HF
        isplitl [HV]; · iexact HV
        isplitl [Hk]; · iexact Hk
        iexists W; iexact HW
      iintro %_ ⟨H2, H4, H6, H7, H8, HF, HV, Hk, ⟨%W', HW⟩⟩
      isplitl [Hg Hk H7 H8 HF HK0 HK1 HV]
      · isplitl [Hg]; · iexact Hg
        isplitl [Hk]; · iexact Hk
        isplitl [H7]
        · iexists f7
          isplitr; · ipureintro; exact h7
          iexact H7
        isplitl [H8]
        · iexists _
          isplitr; · ipureintro; exact hh.2
          iexact H8
        isplitl [HF]; · iexact HF
        isplitl [HK0]; · iexact HK0
        isplitl [HK1]; · iexact HK1
        iexact HV
      isplitl [HW]
      · iexists W'; isplitr; · ipureintro; exact fun _ _ => Or.inl True.intro
        iexact HW
      isplitl [H1]; · iexists X1; isplitr; · ipureintro; exact e1
                      iexact H1
      isplitl [H2]; · iexists X2; isplitr; · ipureintro; exact e2
                      iexact H2
      isplitl [H4]; · iexists X4; isplitr; · ipureintro; exact e4
                      iexact H4
      iexists _; isplitr; · ipureintro; exact hh.1 f6
      iexists _; isplitr
      swap; · iexact H6
      ipureintro; rfl
    · have h4 : ¬ k0_cond4 (grid0.coords t) = 1#1 := fun h => ht4 ((c4_iff t).1 h)
      have ht48 : t.val = 48 := by omega
      rw [show Phi m S c (t.val + 1) = restAll m c by
          unfold Phi; rw [if_neg (by omega), if_neg (by omega)]]
      iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
      icases HP with ⟨⟨%f7, %h7, H7⟩, ⟨%f8, %h8, H8⟩, HF, HK0, HK1, HV⟩
      have hh := (S c).hL t (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3 h4 (Ring.sl 2 t.val) X2 X4 f7 f8 e2 e4 h7 h8
      have e0 : Ring.sl 2 t.val = 0 := by rw [ht48]; decide
      have e1' : Ring.sl 2 (t.val + 1) = 1 := by rw [ht48]; decide
      iapply (wp_wand_r Idealize.ShloMosaic.frame (wpE (defs₀ (F := F)) 𝒱₀ (c : Thread nD τ) none) Set.univ)
      isplitl [H2 H4 H6 H7 H8 HF Hk HW]
      · iapply (runL c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) (V m c main_v2) X2 X4 h1 h3 h4 (Ring.sl 2 t.val) (tn t.val) f7 f8).2 f6
        isplitl [H2]; · iexact H2
        isplitl [H4]; · iexact H4
        isplitl [H6]; · iexact H6
        isplitl [H7]; · iexact H7
        isplitl [H8]; · iexact H8
        isplitl [HF]; · iexact HF
        isplitl [Hk]; · iexact Hk
        iexists W; iexact HW
      iintro %_ ⟨H2, H4, H6, H7, H8, Hs, Hh, HV', Hk, ⟨%W', HW⟩⟩
      isplitl [Hg Hk H7 H8 Hs Hh HK0 HK1 HV HV']
      · isplitl [Hg]; · iexact Hg
        isplitl [Hk]; · iexact Hk
        isplitl [H7]; · iexists f7; iexact H7
        isplitl [H8]; · iexists _; iexact H8
        isplitl [Hs]; · iexact Hs
        isplitl [HK0]; · iexact HK0
        isplitl [HK1]; · iexact HK1
        isplitl [Hh]; · iexact Hh
        isplitl [HV']; · iapply (eqE (congrArg (fun s => homeV c (V m c main_v2) s) e0)); iexact HV'
        iapply (eqE (congrArg (fun s => homeV c (V m c main_v2) s) e1')); iexact HV
      isplitl [HW]
      · iexists W'; isplitr; · ipureintro; exact fun _ _ => Or.inl True.intro
        iexact HW
      isplitl [H1]; · iexists X1; isplitr; · ipureintro; exact e1
                      iexact H1
      isplitl [H2]; · iexists X2; isplitr; · ipureintro; exact e2
                      iexact H2
      isplitl [H4]; · iexists X4; isplitr; · ipureintro; exact e4
                      iexact H4
      iexists _; isplitr; · ipureintro; exact hh f6
      iexists _; isplitr
      swap; · iexact H6
      ipureintro; rfl
  · have h3 : ¬ k0_cond3 (grid0.coords t) = 1#1 := fun h => by have := (c3_iff t).1 h; omega
    have ht49 : t.val = 49 := by omega
    rw [show Phi m S c t.val = restAll m c by unfold Phi; rw [if_neg ht0, if_neg ht],
      show Phi m S c (t.val + 1) = restAll m c by unfold Phi; rw [if_neg (by omega), if_neg (by omega)]]
    iintro ⟨⟨Hg, Hk, HP⟩, ⟨%W, -, HW⟩, ⟨%d1, %X1, %e1, H1⟩, ⟨%d2, %X2, %e2, H2⟩, ⟨%d4, %X4, %e4, H4⟩, ⟨%Y, %hY, %f6, %e6, H6⟩⟩
    iapply (runE c (grid0.coords t) (st1 t) (hstage0_0 ((cfg0.slots t 0).cast nbuf0_0)) (st2 t) (hstage0_1 ((cfg0.slots t 1).cast nbuf0_1)) (st4 t) (hstage0_2 ((cfg0.slots t 2).cast nbuf0_2)) (st6 t) (hstage0_3 ((cfg0.slots t 3).cast nbuf0_3)) h1 h3)
    isplitl [Hg Hk HP]
    · isplitl [Hg]; · iexact Hg
      isplitl [Hk]; · iexact Hk
      iexact HP
    isplitl [HW]
    · iexists W; isplitr; · ipureintro; exact fun _ _ => Or.inl True.intro
      iexact HW
    isplitl [H1]; · iexists X1; isplitr; · ipureintro; exact e1
                    iexact H1
    isplitl [H2]; · iexists X2; isplitr; · ipureintro; exact e2
                    iexact H2
    isplitl [H4]; · iexists X4; isplitr; · ipureintro; exact e4
                    iexact H4
    iexists Y; isplitr; · ipureintro; exact (S c).pE t Y ht49 (finds_last m S c t ht49 Y hY)
    iexists f6; isplitr; · ipureintro; exact e6
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat m S c) (defs₀ (F := F)) 𝒱₀ () Set.univ fgt (Rl m S c) := fun t => by
  rw [bigSep_W0, bigSep_W0, defs₀_row]
  exact triple_restated (sound_body m S c t) rfl .rfl fun _ => .rfl

/-! ## The run and the frame -/

set_option maxHeartbeats 800000 in
theorem hmainD : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => RDat.FramePost cfg0 (rdat m S) (V m) r ∧ r.2.sem = fun _ => 0) :=
  Pipeline.RDat.θ_run_frame_dma (Q' := _) cfgs (0 : Fin 1) launch0 osem0 defs₀ 𝒱₀ (rdat m S) ownSemFacts0 H0 H0_sub m ρ main
    (hbody := fun c => (body_obligation m S c).toRRel) (hshare := fun c => (dat m S c).share_full fun _ => rfl)
    (howed := fun _ _ => rfl) (V := V m) (hmain := hmainD m) (hA := A_eq m S)
    (hin := fun c => enter m c) (hout := fun c => leave m c)

end Data

section Frame
variable (m : (ℓ : Loc nD τ sig) → Buf (Elt F) ℓ) (ρ : Dev nD → PrngReg)

set_option maxHeartbeats 2000000 in
/-- The arguments end as they began. -/
theorem args_of (S : (c : Dev nD) → Spec m c) (r : PUnit × MemSt nD τ sig (Elt F)) (h : RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The frame: arguments unchanged, every semaphore counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args_of m (Spec.trivial m) r h.1, h.2⟩) (run_main m ρ (Spec.trivial m))

end Frame
end Cert.KernelIdeal.Hand
end
-- ==== Proof.Preserves.lean ====
/- The words the kernel keeps two brain floats in, and the pairs the idealized program keeps in their place. -/
module

public import proofs.«01_k».proof.Defs
public import Idealize.ShloMosaic.Lib.Bf16PairInverse
public import Idealize.ShloMosaic.PureOps.IdealRules

@[expose] public section

namespace Cert.Proof

open Idealize.ShloMosaic

/-- Each rewrite the idealized program makes is an instance of its rule. -/
theorem preserves : preserves_Kernel_KernelIdeal :=
  ⟨IdealRules.bf16_pair.bufferStatement _ _, IdealRules.bf16_pair.statement _ _, IdealRules.bf16_pair.statement _ _,
    IdealRules.bf16_pair.statement _ _, IdealRules.bf16_pair.statement _ _, IdealRules.truncf_extf.statement _ _ _⟩

end Cert.Proof

end
-- ==== Proof.Payloads.lean ====
/- What the stores of the kernel's body hold, index by index, in exact arithmetic: a block of the weights times its
   scale, a block of the hidden rows times their scales, and the product with the residual added. -/
module

public import proofs.«01_k».proof.Proof.Frame
public import Idealize.ShloMosaic.PureOps.Ideal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- A block of the weights as the loop stores it: the codes times the scale, two rows to a pair. -/
abbrev wpay (s : EReal) (blk : Vec Ideal S1x128x128 .fp8e4m3) : Vec Ideal S64x2x128 .bf16 := k0_pay5 (F := Ideal) (k0_pay3 s) (k0_pay4 blk)

theorem wpay_apply (s : EReal) (blk : Vec Ideal S1x128x128 .fp8e4m3) (j : S64x2x128.Idx) :
    wpay s blk j = blk (ix3 0 ⟨2 * (j 0).val + (j 1).val, by have := (j 0).isLt; have := (j 1).isLt; simp at *; omega⟩ (j 2)) * s := by
  unfold wpay k0_pay5 k0_pay4 k0_pay3
  pointwise
  have h1 : (j 1).val = 0 ∨ (j 1).val = 1 := by have := (j 1).isLt; simp at this; omega
  rcases h1 with h | h
  · rw [if_pos (by omega)]; congr 3; ext; simp [h]
  · rw [if_neg (by omega)]; congr 3; ext; simp [h]

/-- Sixteen-bit scales of a tile, rows by groups. -/
theorem scales_apply (v : Vec Ideal S70x256 .f32) (a : Fin 256) (g : Fin 70) :
    k0_pay186 (F := Ideal) v (ix2 a ⟨g.val, by omega⟩) = v (ix2 g a) := by
  unfold k0_pay186
  pointwise

theorem tpay_apply (hd : Vec Ideal S256x8960 .bf16) (w : Vec Ideal S4480x2x512 .bf16) (r : Vec Ideal S256x512 .bf16) (j : S256x512.Idx) :
    k0_pay178 (F := Ideal) hd w r j = r j + ∑ k : Fin 8960, hd (ix2 (j 0) k) * w (ix3 ⟨k.val / 2, by omega⟩ ⟨k.val % 2, by omega⟩ (j 1)) := by
  unfold k0_pay178 k0_pay177
  pointwise
  refine congrArg _ (Finset.sum_congr rfl fun k _ => congrArg _ ?_)
  rcases Nat.mod_two_eq_zero_or_one k.val with h | h
  · rw [if_pos h]; congr 2; ext; simp [h]
  · rw [if_neg (by omega)]; congr 2; ext; simp [h]

end Cert.KernelIdeal.Hand
end
-- ==== Proof.Weights.lean ====
/- What the weights' buffer holds after each trip of the loop of step 0, in exact arithmetic: every element of the rows
   the trips so far converted is its code times the scale of its block of 128 rows and 128 columns. -/
module

public import proofs.«01_k».proof.Proof.Payloads
public import Idealize.ShloMosaic.Lib.Pipeline.Value
public import Idealize.ShloMosaic.Lib.Pipeline.ReadBack
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe

/-! ## Stores that are blocks of one function -/
section Kit
variable {sig : RefSig} {κ : Kind} {sp : Space} {s : Shape} {e : EltTy} {Val : EltTy → Type} [∀ e, Nonempty (Val e)]

/-- Stores that are blocks of `G` leave `G` wherever one of them reaches, and wherever the buffer held `G` before. -/
theorem read_writes_blocks (v : View sig κ sp s e) (f : v.ty.Contents Val) (L : List (View.Piece Val s e)) (G : s.Idx → Val e)
    (h : View.PiecesOf G L) (y : s.Idx) (hy : (∃ p ∈ L, y ∈ p.1.set) ∨ v.read Val f y = G y) :
    v.read Val (v.writes Val f L) y = G y := by
  by_cases hc : ∃ p ∈ L, y ∈ p.1.set
  · rw [View.read_writes_apply_eq_canon v f y L hc]
    simpa using View.canon_append_of_piecesOf G [] L h y hc
  · rw [View.read_writes_apply_of_forall_not_mem v f y L (fun p hp hm => hc ⟨p, hp, hm⟩)]
    exact hy.resolve_left hc

theorem cov_here {off size : Fin s.rank → ℕ} {inb : ∀ a, off a + size a ≤ s.size a} {w : (Rect.unit off size inb).shape.Idx → Val e}
    {L : List (View.Piece Val s e)} {y : s.Idx} (form : Fin s.rank → ℕ) (heq : off = form)
    (h : ∀ a, form a ≤ (y a).val ∧ (y a).val < form a + size a) :
    ∃ p ∈ (⟨Rect.unit off size inb, w⟩ : View.Piece Val s e) :: L, y ∈ p.1.set := by
  subst heq
  exact ⟨⟨Rect.unit off size inb, w⟩, List.mem_cons_self, (Rect.mem_set_unit (inb := inb)).2 h⟩

theorem cov_skip {q : View.Piece Val s e} {L : List (View.Piece Val s e)} {y : s.Idx}
    (h : ∃ p ∈ L, y ∈ p.1.set) : ∃ p ∈ q :: L, y ∈ p.1.set := by
  obtain ⟨p, hp, hy⟩ := h
  exact ⟨p, List.mem_cons_of_mem _ hp, hy⟩

end Kit

section Weights
variable (c : Dev nD) (XW : Buf (Elt Ideal) (wM.view.loc (c : Thread nD τ)))

/-- A block of 128 rows and columns read through the whole staging buffer is read through the ring slot it lies in. -/
theorem slot_read (k : ℕ) (g : stM.view.ty.Contents (Elt Ideal))
    (off : Fin 3 → ℕ) (inb : ∀ a, off a + S1x128x128.size a ≤ S2x256x2048.size a) (p q : ℕ) (e : off = ![k % 2, p, q]) (j : S1x128x128.Idx)
    (h1 : p + (j 1).val < 256) (h2 : q + (j 2).val < 1536) :
    View.readAt (Elt Ideal) stM.view (Rect.unit (s := S2x256x2048) off S1x128x128.size inb).toLoadRect g j
      = View.read (Elt Ideal) (rslot (Ring.sl 2 k)).view g (ix2 ⟨p + (j 1).val, h1⟩ ⟨q + (j 2).val, h2⟩) := by
  refine Eq.trans ?_ (ValueIdx.shapeCast_1ab_ab_apply
    (View.readAt (Elt Ideal) stM.view (Rect.unit (s := S2x256x2048) (slotOff (Ring.sl 2 k)) S1x256x1536.size (slotOff_inb _)).toLoadRect g)
    (by decide) ⟨p + (j 1).val, h1⟩ ⟨q + (j 2).val, h2⟩).symm
  rw [View.readAt_apply, View.readAt_apply]
  refine congrArg _ (funext fun a => Fin.ext ?_)
  have h0 : (j 0).val = 0 := Nat.lt_one_iff.mp (j 0).isLt
  have e0 : off 0 = k % 2 := congrFun e 0
  have e1 : off 1 = p := congrFun e 1
  have e2 : off 2 = q := congrFun e 2
  have s0 : slotOff (Ring.sl 2 k) 0 = k % 2 := rfl
  match a with
  | 0 => show off 0 + 1 * (j 0).val = slotOff (Ring.sl 2 k) 0 + 1 * 0; omega
  | 1 => show off 1 + 1 * (j 1).val = 0 + 1 * (p + (j 1).val); omega
  | 2 => show off 2 + 1 * (j 2).val = 0 + 1 * (q + (j 2).val); omega

/-- A ring slot after its copy landed, read through the whole staging buffer. -/
theorem stage_read (k : ℕ) (f : Buf (Elt Ideal) ((rslot (Ring.sl 2 k)).view.loc (c : Thread nD τ))) (x : Vec Ideal S256x1536 .fp8e4m3)
    (off : Fin 3 → ℕ) (inb : ∀ a, off a + S1x128x128.size a ≤ S2x256x2048.size a) (p q : ℕ) (e : off = ![k % 2, p, q]) (j : S1x128x128.Idx)
    (h1 : p + (j 1).val < 256) (h2 : q + (j 2).val < 1536) :
    View.readAt (Elt Ideal) stM.view (Rect.unit (s := S2x256x2048) off S1x128x128.size inb).toLoadRect
      ((rslot (Ring.sl 2 k)).view.writes (Elt Ideal) f [⟨Rect.whole S256x1536, x⟩]) j = x (ix2 ⟨p + (j 1).val, h1⟩ ⟨q + (j 2).val, h2⟩) :=
  (slot_read k _ off inb p q e j h1 h2).trans
    (congrFun (View.read_writes_whole (Val := Elt Ideal) (rslot (Ring.sl 2 k)).view f x) (ix2 ⟨p + (j 1).val, h1⟩ ⟨q + (j 2).val, h2⟩))

/-- A chunk of the weights in HBM, at an index. -/
theorem chunk_read (k : ℕ) (hk : k < 35) (a : Fin 256) (b : Fin 1536) :
    View.read (Elt Ideal) (chunk (Ring.bk 35 k)).view XW (ix2 a b) = View.read (Elt Ideal) wM.view XW (ix2 ⟨256 * k + a.val, by omega⟩ b) := by
  show View.read (Elt Ideal) wM.view XW _ = _
  refine congrArg _ (funext fun i => Fin.ext ?_)
  match i with
  | 0 => show 256 * (Ring.bk 35 k).val + 1 * a.val = 256 * k + a.val; rw [Ring.bk_val hk]; omega
  | 1 => show 0 + 1 * b.val = b.val; omega

/-- The weights in exact arithmetic: code times scale. The pair `(r, b)` is row `2 r + b`. -/
def wG (W : Vec Ideal S8960x1536 .fp8e4m3) (S : Vec Ideal S12x70 .f32) (y : S4480x2x1536.Idx) : EReal :=
  W (ix2 ⟨2 * (y 0).val + (y 1).val, by have := (y 0).isLt; have := (y 1).isLt; simp at *; omega⟩ (y 2))
    * S (ix2 ⟨(y 2).val / 128, by have := (y 2).isLt; simp at *; omega⟩
        ⟨(2 * (y 0).val + (y 1).val) / 128, by have := (y 0).isLt; have := (y 1).isLt; simp at *; omega⟩)

variable (i : grid0.Coords) (arg1 : Memref sig .tc .smem S12x70 .f32) (harg1 : arg1.IsWhole) (arg2 : Memref sig .tc .vmem S256x8960 .fp8e4m3) (harg2 : arg2.IsWhole) (arg4 : Memref sig .tc .vmem S256x1536 .bf16) (harg4 : arg4.IsWhole) (arg6 : Memref sig .tc .vmem S256x1536 .bf16) (harg6 : arg6.IsWhole)
  (k0_h1 : k0_cond1 i = 1#1) (XS : Buf (Elt Ideal) (arg1.view.loc (c : Thread nD τ)))

/-- One store of a trip: 128 rows (64 pairs) by 128 columns of the weights. -/
theorem wpiece (k : ℕ) (hk : k < 35) (r cc : ℕ) (hr : r < 2) (hc : cc < 12)
    {offS : Fin 2 → ℕ} {offB offW : Fin 3 → ℕ} {inbS : ∀ a, offS a + S1x1.size a ≤ S12x70.size a}
    {inbB : ∀ a, offB a + S1x128x128.size a ≤ S2x256x2048.size a} {inbW : ∀ a, offW a + S64x2x128.size a ≤ S4480x2x1536.size a}
    (eS : offS = ![cc, 2 * k + r]) (eB : offB = ![k % 2, 128 * r, 128 * cc]) (eW : offW = ![128 * k + 64 * r, 0, 128 * cc])
    {hS : ∀ a, 0 < S1x1.size a} (f : Buf (Elt Ideal) ((rslot (Ring.sl 2 k)).view.loc (c : Thread nD τ)))
    (x : S64x2x128.Idx) :
    wpay (View.readAt (Elt Ideal) arg1.view (Rect.unit (s := S12x70) offS S1x1.size inbS).toLoadRect XS (fun a => ⟨0, hS a⟩))
      (View.readAt (Elt Ideal) stM.view (Rect.unit (s := S2x256x2048) offB S1x128x128.size inbB).toLoadRect
        (landed c XW (Ring.sl 2 k) (Ring.bk 35 k) f)) x
      = wG (wM.view.read (Elt Ideal) XW) (arg1.view.read (Elt Ideal) XS) ((Rect.unit (s := S4480x2x1536) offW S64x2x128.size inbW).emb x) := by
  subst eS eB eW
  have x0 : (x 0).val < 64 := (x 0).isLt
  have x1 : (x 1).val < 2 := (x 1).isLt
  have x2 : (x 2).val < 128 := (x 2).isLt
  refine (wpay_apply _ _ x).trans (congrArg₂ (fun a b : EReal => a * b) ?_ ?_)
  · refine (stage_read c k f _ _ inbB (128 * r) (128 * cc) rfl _ (by show 128 * r + (2 * (x 0).val + (x 1).val) < 256; omega) (by show 128 * cc + (x 2).val < 1536; omega)).trans ?_
    refine (chunk_read c XW k hk _ _).trans ?_
    refine congrArg (View.read (Elt Ideal) wM.view XW) (funext fun a => Fin.ext ?_)
    match a with
    | 0 => exact (show 256 * k + (128 * r + (2 * (x 0).val + (x 1).val)) = 2 * (128 * k + 64 * r + 1 * (x 0).val) + (0 + 1 * (x 1).val) by omega)
    | 1 => exact (show 128 * cc + (x 2).val = 128 * cc + 1 * (x 2).val by omega)
  · refine congrArg (View.read (Elt Ideal) arg1.view XS) (funext fun a => Fin.ext ?_)
    match a with
    | 0 => exact (show cc + 1 * 0 = (128 * cc + 1 * (x 2).val) / 128 by omega)
    | 1 => exact (show 2 * k + r + 1 * 0 = (2 * (128 * k + 64 * r + 1 * (x 0).val) + (0 + 1 * (x 1).val)) / 128 by omega)

theorem wpiece_cons (k : ℕ) (hk : k < 35) (r cc : ℕ) (hr : r < 2) (hc : cc < 12)
    {offS : Fin 2 → ℕ} {offB offW : Fin 3 → ℕ} {inbS : ∀ a, offS a + S1x1.size a ≤ S12x70.size a}
    {inbB : ∀ a, offB a + S1x128x128.size a ≤ S2x256x2048.size a} {inbW : ∀ a, offW a + S64x2x128.size a ≤ S4480x2x1536.size a}
    (eS : offS = ![cc, 2 * k + r]) (eB : offB = ![k % 2, 128 * r, 128 * cc]) (eW : offW = ![128 * k + 64 * r, 0, 128 * cc])
    {hS : ∀ a, 0 < S1x1.size a} (f : Buf (Elt Ideal) ((rslot (Ring.sl 2 k)).view.loc (c : Thread nD τ)))
    {L : List (View.Piece (Elt Ideal) S4480x2x1536 .bf16)}
    (hL : View.PiecesOf (wG (wM.view.read (Elt Ideal) XW) (arg1.view.read (Elt Ideal) XS)) L) :
    View.PiecesOf (wG (wM.view.read (Elt Ideal) XW) (arg1.view.read (Elt Ideal) XS))
      (⟨Rect.unit (s := S4480x2x1536) offW S64x2x128.size inbW,
        wpay (View.readAt (Elt Ideal) arg1.view (Rect.unit (s := S12x70) offS S1x1.size inbS).toLoadRect XS (fun a => ⟨0, hS a⟩))
          (View.readAt (Elt Ideal) stM.view (Rect.unit (s := S2x256x2048) offB S1x128x128.size inbB).toLoadRect
            (landed c XW (Ring.sl 2 k) (Ring.bk 35 k) f))⟩ :: L) :=
  ⟨fun x => wpiece c XW arg1 XS k hk r cc hr hc (inbW := inbW) eS eB eW f x, hL⟩

/-- After `k` trips, the first `128 k` pairs of rows hold the weights. -/
def PwG (W : Vec Ideal S8960x1536 .fp8e4m3) (S : Vec Ideal S12x70 .f32) (k : ℕ) (f7 : Buf (Elt Ideal) (w7M.view.loc (c : Thread nD τ))) : Prop :=
  ∀ y : S4480x2x1536.Idx, (y 0).val < 128 * k → w7M.view.read (Elt Ideal) f7 y = wG W S y

theorem trip_pieces (k : K) (h2 : k.val + 1 < 35) (f7 : Buf (Elt Ideal) (w7M.view.loc (c : Thread nD τ))) :
    View.PiecesOf (wG (wM.view.read (Elt Ideal) XW) (arg1.view.read (Elt Ideal) XS))
      (tripRun c i arg1 harg1 arg2 harg2 arg4 harg4 arg6 harg6 k0_h1 XW XS k h2 f7).1 := by
  unfold tripRun
  dsimp only
  iterate 24 refine wpiece_cons c XW arg1 XS k.val (by omega) _ _ (by decide) (by decide) ClosedOff.eq ClosedOff.eq ClosedOff.eq _ ?_
  exact True.intro

theorem last_pieces (k : K) (h2 : ¬ k.val + 1 < 35) (f7 : Buf (Elt Ideal) (w7M.view.loc (c : Thread nD τ))) :
    View.PiecesOf (wG (wM.view.read (Elt Ideal) XW) (arg1.view.read (Elt Ideal) XS))
      (lastRun c i arg1 harg1 arg2 harg2 arg4 harg4 arg6 harg6 k0_h1 XW XS k h2 f7).1 := by
  have hk : k.val < 35 := Nat.lt_of_lt_of_eq k.isLt trips_eq
  unfold lastRun
  dsimp only
  iterate 24 refine wpiece_cons c XW arg1 XS k.val hk _ _ (by decide) (by decide) ClosedOff.eq ClosedOff.eq ClosedOff.eq _ ?_
  exact True.intro

/-- The store that reaches `y`, by its pair of rows and its block of columns. -/
theorem wcov {y : S4480x2x1536.Idx} {k r cc : ℕ} (h0 : (y 0).val / 64 = 2 * k + r) (h2 : (y 2).val / 128 = cc)
    {off : Fin 3 → ℕ} {inb : ∀ a, off a + S64x2x128.size a ≤ S4480x2x1536.size a} {w : Vec Ideal S64x2x128 .bf16}
    {L : List (View.Piece (Elt Ideal) S4480x2x1536 .bf16)} (e : off = ![128 * k + 64 * r, 0, 128 * cc]) :
    ∃ p ∈ (⟨Rect.unit (s := S4480x2x1536) off S64x2x128.size inb, w⟩ : View.Piece (Elt Ideal) S4480x2x1536 .bf16) :: L, y ∈ p.1.set := by
  have y1 : (y 1).val < 2 := (y 1).isLt
  refine cov_here _ e fun a => ?_
  match a with
  | 0 => exact (show 128 * k + 64 * r ≤ (y 0).val ∧ (y 0).val < 128 * k + 64 * r + 64 by omega)
  | 1 => exact (show 0 ≤ (y 1).val ∧ (y 1).val < 0 + 2 by omega)
  | 2 => exact (show 128 * cc ≤ (y 2).val ∧ (y 2).val < 128 * cc + 128 by omega)

theorem trip_cover (k : K) (h2 : k.val + 1 < 35) (f7 : Buf (Elt Ideal) (w7M.view.loc (c : Thread nD τ))) (y : S4480x2x1536.Idx)
    (hlo : 128 * k.val ≤ (y 0).val) (hhi : (y 0).val < 128 * (k.val + 1)) :
    ∃ p ∈ (tripRun c i arg1 harg1 arg2 harg2 arg4 harg4 arg6 harg6 k0_h1 XW XS k h2 f7).1, y ∈ p.1.set := by
  have hr : (y 0).val / 64 = 2 * k.val + 0 ∨ (y 0).val / 64 = 2 * k.val + 1 := by omega
  have hc : (y 2).val / 128 < 12 := by have : (y 2).val < 1536 := (y 2).isLt; omega
  generalize hcc : (y 2).val / 128 = cc at hc
  unfold tripRun
  dsimp only
  rcases hr with hr | hr <;> interval_cases cc <;> (repeat' first | exact wcov hr hcc ClosedOff.eq | refine cov_skip ?_)

theorem last_cover (k : K) (h2 : ¬ k.val + 1 < 35) (f7 : Buf (Elt Ideal) (w7M.view.loc (c : Thread nD τ))) (y : S4480x2x1536.Idx)
    (hlo : 128 * k.val ≤ (y 0).val) (hhi : (y 0).val < 128 * (k.val + 1)) :
    ∃ p ∈ (lastRun c i arg1 harg1 arg2 harg2 arg4 harg4 arg6 harg6 k0_h1 XW XS k h2 f7).1, y ∈ p.1.set := by
  have hr : (y 0).val / 64 = 2 * k.val + 0 ∨ (y 0).val / 64 = 2 * k.val + 1 := by omega
  have hc : (y 2).val / 128 < 12 := by have : (y 2).val < 1536 := (y 2).isLt; omega
  generalize hcc : (y 2).val / 128 = cc at hc
  unfold lastRun
  dsimp only
  rcases hr with hr | hr <;> interval_cases cc <;> (repeat' first | exact wcov hr hcc ClosedOff.eq | refine cov_skip ?_)

/-- The trips carry the weights along. -/
theorem carriedG : Carried c i arg1 harg1 arg2 harg2 arg4 harg4 arg6 harg6 k0_h1 XW XS
    (PwG c (wM.view.read (Elt Ideal) XW) (arg1.view.read (Elt Ideal) XS)) where
  start := fun f y hy => absurd hy (by omega)
  next := fun k h2 f7 h y hy => read_writes_blocks _ _ _ _ (trip_pieces c XW i arg1 harg1 arg2 harg2 arg4 harg4 arg6 harg6 k0_h1 XS k h2 f7) y (by
    by_cases hlo : (y 0).val < 128 * k.val
    · exact Or.inr (h y hlo)
    · exact Or.inl (trip_cover c XW i arg1 harg1 arg2 harg2 arg4 harg4 arg6 harg6 k0_h1 XS k h2 f7 y (by omega) hy))
  last := fun k h2 f7 h y hy => read_writes_blocks _ _ _ _ (last_pieces c XW i arg1 harg1 arg2 harg2 arg4 harg4 arg6 harg6 k0_h1 XS k h2 f7) y (by
    by_cases hlo : (y 0).val < 128 * k.val
    · exact Or.inr (h y hlo)
    · exact Or.inl (last_cover c XW i arg1 harg1 arg2 harg2 arg4 harg4 arg6 harg6 k0_h1 XS k h2 f7 y (by omega) hy))

end Weights
end Cert.KernelIdeal.Hand
end
-- ==== Proof.Hidden.lean ====
/- What the hidden rows' buffer holds after a step that dequantizes a tile, in exact arithmetic: every element is its code
   times the scale of its row and group of 128 columns. -/
module

public import proofs.«01_k».proof.Proof.Weights
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

/-- The hidden rows of a tile in exact arithmetic. -/
def hG (X : Vec Ideal S256x8960 .fp8e4m3) (T : Vec Ideal S70x256 .f32) (y : S256x8960.Idx) : EReal :=
  X y * T (ix2 ⟨(y 1).val / 128, by have := (y 1).isLt; simp at *; omega⟩ (y 0))

/-- A group of the hidden rows as the body stores it: the codes times the group's column of the scales. -/
def hpay (g : ℕ) (hs : S256x128.Slices ![0, g] S256x1) (v : Vec Ideal S256x128 .bf16) (x : Vec Ideal S256x128 .fp8e4m3) : Vec Ideal S256x128 .bf16 :=
  shapeCast S256x128 (mulf (F := Ideal) (φ := .bf16) (extf (φ := .fp8e4m3) .bf16 (shapeCast S256x128 x shapeCasts_S256x128_S256x128) bitsLt_fp8e4m3_bf16)
    (broadcastTo S256x128 (shapeCast S256x1 (extractStridedSlice S256x1 ![0, g] v hs) shapeCasts_S256x1_S256x1) broadcasts_S256x1_S256x128)) shapeCasts_S256x128_S256x128

theorem hpay_apply (g : ℕ) (hg : g < 128) (hs : S256x128.Slices ![0, g] S256x1) (v : Vec Ideal S256x128 .bf16) (x : Vec Ideal S256x128 .fp8e4m3) (j : S256x128.Idx) :
    hpay g hs v x j = x j * v (ix2 (j 0) ⟨g, hg⟩) := by
  unfold hpay
  pointwise

section Hidden
variable (c : Dev nD) (arg2 : Memref sig .tc .vmem S256x8960 .fp8e4m3) (X2 : Buf (Elt Ideal) (arg2.view.loc (c : Thread nD τ))) (T : Vec Ideal S70x256 .f32)

theorem hcons (g o : ℕ) (hg : g = o / 128) (ho : o % 128 = 0) (ho' : o < 8960) {offX offW : Fin 2 → ℕ} {inbX : ∀ a, offX a + S256x128.size a ≤ S256x8960.size a}
    {inbW : ∀ a, offW a + S256x128.size a ≤ S256x8960.size a} (eX : offX = ![0, o]) (eW : offW = ![0, o]) (hs : S256x128.Slices ![0, g] S256x1)
    {L : List (View.Piece (Elt Ideal) S256x8960 .bf16)}
    (hL : View.PiecesOf (hG (arg2.view.read (Elt Ideal) X2) T) L) :
    View.PiecesOf (hG (arg2.view.read (Elt Ideal) X2) T)
      (⟨Rect.unit (s := S256x8960) offW S256x128.size inbW,
        hpay g hs (k0_pay186 T) (View.readAt (Elt Ideal) arg2.view (Rect.unit (s := S256x8960) offX S256x128.size inbX).toLoadRect X2)⟩ :: L) := by
  subst eX eW hg
  refine ⟨fun x => ?_, hL⟩
  have x0 : (x 0).val < 256 := (x 0).isLt
  have x1 : (x 1).val < 128 := (x 1).isLt
  refine (hpay_apply _ (by omega) _ _ _ x).trans (congrArg₂ (fun a b : EReal => a * b) rfl ?_)
  refine (scales_apply T (x 0) ⟨o / 128, by omega⟩).trans (congrArg T (funext fun a => Fin.ext ?_))
  match a with
  | 0 => exact (show o / 128 = (o + 1 * (x 1).val) / 128 by omega)
  | 1 => exact (show (x 0).val = 0 + 1 * (x 0).val by omega)

theorem hcov {y : S256x8960.Idx} (o : ℕ) (h : (y 1).val / 128 = o / 128) (ho : o % 128 = 0)
    {off : Fin 2 → ℕ} {inb : ∀ a, off a + S256x128.size a ≤ S256x8960.size a} {w : Vec Ideal S256x128 .bf16}
    {L : List (View.Piece (Elt Ideal) S256x8960 .bf16)} (e : off = ![0, o]) :
    ∃ p ∈ (⟨Rect.unit (s := S256x8960) off S256x128.size inb, w⟩ : View.Piece (Elt Ideal) S256x8960 .bf16) :: L, y ∈ p.1.set := by
  have y0 : (y 0).val < 256 := (y 0).isLt
  refine cov_here _ e fun a => ?_
  match a with
  | 0 => exact (show 0 ≤ (y 0).val ∧ (y 0).val < 0 + 256 by omega)
  | 1 => exact (show o ≤ (y 1).val ∧ (y 1).val < o + 128 by omega)

variable (i : grid0.Coords) (arg1 : Memref sig .tc .smem S12x70 .f32) (harg1 : arg1.IsWhole) (harg2 : arg2.IsWhole) (arg4 : Memref sig .tc .vmem S256x1536 .bf16) (harg4 : arg4.IsWhole) (arg6 : Memref sig .tc .vmem S256x1536 .bf16) (harg6 : arg6.IsWhole)
  (XV : Buf (Elt Ideal) (hscM.view.loc (c : Thread nD τ))) (X4 : Buf (Elt Ideal) (arg4.view.loc (c : Thread nD τ)))

/-- The scales the step reads are the tile its copy brought. -/
abbrev covT (n : Fin 48) (inb : ∀ a, (![0, 0] : Fin 2 → ℕ) a + S70x256.size a ≤ S70x256.size a) : Vec Ideal S70x256 .f32 :=
  hsM.view.readCov (Val := Elt Ideal) [⟨Rect.whole S70x256, tileOf c XV n⟩] (Rect.unit (s := S70x256) ![0, 0] S70x256.size inb).toLoadRect
theorem covT_eq (n : Fin 48) (inb) : covT c XV n inb = tileOf c XV n := by
  refine (View.readAt_full (Val := Elt Ideal) hsM.view _ inb).trans ?_
  exact View.read_writes_whole (Val := Elt Ideal) hsM.view _ (tileOf c XV n)

theorem runM_pieces (h1 : ¬ k0_cond1 i = 1#1) (h3 : k0_cond3 i = 1#1) (h4 : k0_cond4 i = 1#1) (s s' : Fin 2) (n : Fin 48)
    (f7 : Buf (Elt Ideal) (w7M.view.loc (c : Thread nD τ))) (f8 : Buf (Elt Ideal) (hdM.view.loc (c : Thread nD τ))) :
    View.PiecesOf (hG (arg2.view.read (Elt Ideal) X2) (covT c XV n (by decide)))
      (runM c i arg1 harg1 arg2 harg2 arg4 harg4 arg6 harg6 XV X2 X4 h1 h3 h4 s s' n f7 f8).1.2 := by
  unfold runM
  dsimp only
  iterate 70 refine hcons c arg2 X2 _ _ _ (by decide) (by decide) (by decide) rfl rfl (by decide) ?_
  exact True.intro

theorem runM_cover (h1 : ¬ k0_cond1 i = 1#1) (h3 : k0_cond3 i = 1#1) (h4 : k0_cond4 i = 1#1) (s s' : Fin 2) (n : Fin 48)
    (f7 : Buf (Elt Ideal) (w7M.view.loc (c : Thread nD τ))) (f8 : Buf (Elt Ideal) (hdM.view.loc (c : Thread nD τ))) (y : S256x8960.Idx) :
    ∃ p ∈ (runM c i arg1 harg1 arg2 harg2 arg4 harg4 arg6 harg6 XV X2 X4 h1 h3 h4 s s' n f7 f8).1.2, y ∈ p.1.set := by
  have hc : (y 1).val / 128 < 70 := by have : (y 1).val < 8960 := (y 1).isLt; omega
  generalize hcc : (y 1).val / 128 = cc at hc
  unfold runM
  dsimp only
  interval_cases cc <;> (repeat' first | exact hcov _ hcc (by decide) rfl | refine cov_skip ?_)

variable (XW : Buf (Elt Ideal) (wM.view.loc (c : Thread nD τ))) (XS : Buf (Elt Ideal) (arg1.view.loc (c : Thread nD τ)))
  (Pw : ℕ → Buf (Elt Ideal) (w7M.view.loc (c : Thread nD τ)) → Prop)

theorem run0_pieces (k0_h1 : k0_cond1 i = 1#1) (h3 : ¬ k0_cond3 i = 1#1) (hP : Carried c i arg1 harg1 arg2 harg2 arg4 harg4 arg6 harg6 k0_h1 XW XS Pw) :
    View.PiecesOf (hG (arg2.view.read (Elt Ideal) X2) (covT c XV 0 (by decide)))
      (run0 c i arg1 harg1 arg2 harg2 arg4 harg4 arg6 harg6 XW XS Pw XV X2 k0_h1 h3 hP).1 := by
  unfold run0
  dsimp only
  iterate 70 refine hcons c arg2 X2 _ _ _ (by decide) (by decide) (by decide) rfl rfl (by decide) ?_
  exact True.intro

theorem run0_cover (k0_h1 : k0_cond1 i = 1#1) (h3 : ¬ k0_cond3 i = 1#1) (hP : Carried c i arg1 harg1 arg2 harg2 arg4 harg4 arg6 harg6 k0_h1 XW XS Pw) (y : S256x8960.Idx) :
    ∃ p ∈ (run0 c i arg1 harg1 arg2 harg2 arg4 harg4 arg6 harg6 XW XS Pw XV X2 k0_h1 h3 hP).1, y ∈ p.1.set := by
  have hc : (y 1).val / 128 < 70 := by have : (y 1).val < 8960 := (y 1).isLt; omega
  generalize hcc : (y 1).val / 128 = cc at hc
  unfold run0
  dsimp only
  interval_cases cc <;> (repeat' first | exact hcov _ hcc (by decide) rfl | refine cov_skip ?_)

end Hidden
end Cert.KernelIdeal.Hand
end
-- ==== Proof.Tile.lean ====
/- What the output block holds after a step that multiplies a tile, in exact arithmetic: the residual plus the sum over
   the hidden width of the hidden rows times the weights. -/
module

public import proofs.«01_k».proof.Proof.Hidden

@[expose] public section

set_option maxRecDepth 16384

noncomputable section

namespace Cert.KernelIdeal.Hand

open Cert.KernelIdeal Cert.KernelIdeal.Gen
open Idealize.ShloMosaic Idealize.ShloMosaic.TcCoe

/-- A tile of the result in exact arithmetic. -/
def tG (R : Vec Ideal S256x1536 .bf16) (H : Vec Ideal S256x8960 .bf16) (W : Vec Ideal S4480x2x1536 .bf16) (j : S256x1536.Idx) : EReal :=
  R j + ∑ k : Fin 8960, H (ix2 (j 0) k) * W (ix3 ⟨k.val / 2, by omega⟩ ⟨k.val % 2, by omega⟩ (j 1))

section Tile
variable (c : Dev nD) (arg4 : Memref sig .tc .vmem S256x1536 .bf16) (X4 : Buf (Elt Ideal) (arg4.view.loc (c : Thread nD τ)))
  (f7 : Buf (Elt Ideal) (w7M.view.loc (c : Thread nD τ))) (f8 : Buf (Elt Ideal) (hdM.view.loc (c : Thread nD τ)))

theorem tcons (o : ℕ) {offR offO offH : Fin 2 → ℕ} {offW : Fin 3 → ℕ} {inbR : ∀ a, offR a + S256x512.size a ≤ S256x1536.size a}
    {inbO : ∀ a, offO a + S256x512.size a ≤ S256x1536.size a} {inbW : ∀ a, offW a + S4480x2x512.size a ≤ S4480x2x1536.size a}
    {inbH : ∀ a, offH a + S256x8960.size a ≤ S256x8960.size a}
    (eR : offR = ![0, o]) (eO : offO = ![0, o]) (eW : offW = ![0, 0, o])
    {L : List (View.Piece (Elt Ideal) S256x1536 .bf16)}
    (hL : View.PiecesOf (tG (arg4.view.read (Elt Ideal) X4) (hdM.view.read (Elt Ideal) f8) (w7M.view.read (Elt Ideal) f7)) L) :
    View.PiecesOf (tG (arg4.view.read (Elt Ideal) X4) (hdM.view.read (Elt Ideal) f8) (w7M.view.read (Elt Ideal) f7))
      (⟨Rect.unit (s := S256x1536) offO S256x512.size inbO,
        k0_pay178 (F := Ideal) (View.readAt (Elt Ideal) hdM.view (Rect.unit (s := S256x8960) offH S256x8960.size inbH).toLoadRect f8)
          (View.readAt (Elt Ideal) w7M.view (Rect.unit (s := S4480x2x1536) offW S4480x2x512.size inbW).toLoadRect f7)
          (View.readAt (Elt Ideal) arg4.view (Rect.unit (s := S256x1536) offR S256x512.size inbR).toLoadRect X4)⟩ :: L) := by
  subst eR eO eW
  refine ⟨fun x => ?_, hL⟩
  rw [View.readAt_full (Val := Elt Ideal) hdM.view f8 inbH]
  refine (tpay_apply _ _ _ x).trans (congrArg₂ (fun a b : EReal => a + b) rfl (Finset.sum_congr rfl fun k _ => congrArg₂ (fun a b : EReal => a * b) ?_ ?_))
  · refine congrArg (View.read (Elt Ideal) hdM.view f8) (funext fun a => Fin.ext ?_)
    match a with
    | 0 => exact (show (x 0).val = 0 + 1 * (x 0).val by omega)
    | 1 => rfl
  · refine congrArg (View.read (Elt Ideal) w7M.view f7) (funext fun a => Fin.ext ?_)
    match a with
    | 0 => exact (show 0 + 1 * (k.val / 2) = k.val / 2 by omega)
    | 1 => exact (show 0 + 1 * (k.val % 2) = k.val % 2 by omega)
    | 2 => rfl

theorem tcov {y : S256x1536.Idx} (o : ℕ) (h : (y 1).val / 512 = o / 512) (ho : o % 512 = 0)
    {off : Fin 2 → ℕ} {inb : ∀ a, off a + S256x512.size a ≤ S256x1536.size a} {w : Vec Ideal S256x512 .bf16}
    {L : List (View.Piece (Elt Ideal) S256x1536 .bf16)} (e : off = ![0, o]) :
    ∃ p ∈ (⟨Rect.unit (s := S256x1536) off S256x512.size inb, w⟩ : View.Piece (Elt Ideal) S256x1536 .bf16) :: L, y ∈ p.1.set := by
  have y0 : (y 0).val < 256 := (y 0).isLt
  refine cov_here _ e fun a => ?_
  match a with
  | 0 => exact (show 0 ≤ (y 0).val ∧ (y 0).val < 0 + 256 by omega)
  | 1 => exact (show o ≤ (y 1).val ∧ (y 1).val < o + 512 by omega)

variable (arg2 : Memref sig .tc .vmem S256x8960 .fp8e4m3) (X2 : Buf (Elt Ideal) (arg2.view.loc (c : Thread nD τ)))
  (i : grid0.Coords) (arg1 : Memref sig .tc .smem S12x70 .f32) (harg1 : arg1.IsWhole) (harg2 : arg2.IsWhole) (harg4 : arg4.IsWhole) (arg6 : Memref sig .tc .vmem S256x1536 .bf16) (harg6 : arg6.IsWhole)
  (XV : Buf (Elt Ideal) (hscM.view.loc (c : Thread nD τ)))

theorem runM_tile (h1 : ¬ k0_cond1 i = 1#1) (h3 : k0_cond3 i = 1#1) (h4 : k0_cond4 i = 1#1) (s s' : Fin 2) (n : Fin 48)
    (f6 : arg6.view.ty.Contents (Elt Ideal)) :
    arg6.view.read (Elt Ideal) (arg6.view.writes (Elt Ideal) f6 (runM c i arg1 harg1 arg2 harg2 arg4 harg4 arg6 harg6 XV X2 X4 h1 h3 h4 s s' n f7 f8).1.1)
      = tG (arg4.view.read (Elt Ideal) X4) (hdM.view.read (Elt Ideal) f8) (w7M.view.read (Elt Ideal) f7) := by
  funext y
  have hc : (y 1).val / 512 < 3 := by have : (y 1).val < 1536 := (y 1).isLt; omega
  generalize hcc : (y 1).val / 512 = cc at hc
  refine read_writes_blocks _ _ _ _ ?_ y (Or.inl ?_)
  · unfold runM
    dsimp only
    iterate 3 refine tcons c arg4 X4 f7 f8 _ rfl rfl rfl ?_
    exact True.intro
  · unfold runM
    dsimp only
    interval_cases cc <;> (repeat' first | exact tcov _ hcc (by decide) rfl | refine cov_skip ?_)

theorem runL_tile (h1 : ¬ k0_cond1 i = 1#1) (h3 : k0_cond3 i = 1#1) (h4 : ¬ k0_cond4 i = 1#1) (s : Fin 2) (n : Fin 48)
    (f6 : arg6.view.ty.Contents (Elt Ideal)) :
    arg6.view.read (Elt Ideal) (arg6.view.writes (Elt Ideal) f6 (runL c i arg1 harg1 arg2 harg2 arg4 harg4 arg6 harg6 XV X2 X4 h1 h3 h4 s n f7 f8).1.1)
      = tG (arg4.view.read (Elt Ideal) X4) (hdM.view.read (Elt Ideal) f8) (w7M.view.read (Elt Ideal) f7) := by
  funext y
  have hc : (y 1).val / 512 < 3 := by have : (y 1).val < 1536 := (y 1).isLt; omega
  generalize hcc : (y 1).val / 512 = cc at hc
  refine read_writes_blocks _ _ _ _ ?_ y (Or.inl ?_)
  · unfold runL
    dsimp only
    iterate 3 refine tcons c arg4 X4 f7 f8 _ rfl rfl rfl ?_
    exact True.intro
  · unfold runL
    dsimp only
    interval_cases cc <;> (repeat' first | exact tcov _ hcc (by decide) rfl | refine cov_skip ?_)

end Tile
end Cert.KernelIdeal.Hand
end
-- ==== Proof.Values.lean ====
/- What each step of the grid leaves, in exact arithmetic, as one function of the arrays the region finds: row by row the
   residual plus the sum over the hidden width of code times scale times weight times scale. -/
module

public import proofs.«01_k».proof.Proof.Tile
public import Idealize.ShloMosaic.Lib.Pipeline.ValueKit
public import Idealize.ShloMosaic.Lib.Pipeline.ArrRel
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe

theorem index0 : ∀ t, win0_0.index t = ![0, 0] := by decide +kernel
theorem index1 : ∀ t, win0_1.index t = ![min t.val 47, 0] := by decide +kernel
theorem index2 : ∀ t, win0_2.index t = ![min (t.val - 1) 47, 0] := by decide +kernel
theorem index3 : ∀ t, win0_3.index t = ![min (t.val - 1) 47, 0] := by decide +kernel

section Blocks
variable (m : (ℓ : Loc nD τ sig) → Buf (Elt Ideal) ℓ) (c : Dev nD)

theorem blk0 (t : Fin cfg0.N) : iblk m c 0 t = V m c main_v0 := by
  funext y
  blk_ext [iblk, index0 t]

theorem blk1 (t : Fin cfg0.N) (a : Fin 256) (b : Fin 8960) :
    iblk m c 1 t (ix2 a b) = V m c main_v1 (ix2 ⟨256 * min t.val 47 + a.val, by omega⟩ b) := by
  blk_ext [iblk, index1 t]

theorem blk2 (t : Fin cfg0.N) (a : Fin 256) (b : Fin 1536) :
    iblk m c 2 t (ix2 a b) = V m c main_v3 (ix2 ⟨256 * min (t.val - 1) 47 + a.val, by omega⟩ b) := by
  blk_ext [iblk, index2 t]

theorem tile_read (XV : Buf (Elt Ideal) (hscM.view.loc (c : Thread nD τ))) (n : Fin 48) (g : Fin 70) (a : Fin 256) :
    tileOf c XV n (ix2 g a) = hscM.view.read (Elt Ideal) XV (ix3 g ⟨n.val / 3, by omega⟩ ⟨256 * (n.val % 3) + a.val, by omega⟩) := by
  refine (shapeCast_apply (View.readAt (Elt Ideal) hscM.view (Rect.unit (s := S70x16x768) (tileOff n) S70x1x256.size (tileOff_inb n)).toLoadRect XV)
    (show S70x1x256.ShapeCasts S70x256 by decide) (ix2 g a) (ix3 g 0 a) ?_).trans ?_
  · rw [Shape.rowMajor_val_three, Shape.rowMajor_val_two]
    exact (show (g.val * 1 + 0) * 256 + a.val = g.val * 256 + a.val by omega)
  · refine congrArg (View.read (Elt Ideal) hscM.view XV) (funext fun i => Fin.ext ?_)
    match i with
    | 0 => exact (show 0 + 1 * g.val = g.val by omega)
    | 1 => exact (show n.val / 3 + 1 * 0 = n.val / 3 by omega)
    | 2 => exact (show 256 * (n.val % 3) + 1 * a.val = 256 * (n.val % 3) + a.val by omega)

/-- The result in terms of the arrays the region finds: the residual `R`, the codes `X` and their scales `T` by groups of 128
    of the hidden width (one per row, in sixteen slabs of 768 rows), the weights `W` and their scales `S` by squares of 128. -/
def resG (R : Vec Ideal S12288x1536 .bf16) (X : Vec Ideal S12288x8960 .fp8e4m3) (T : Vec Ideal S70x16x768 .f32)
    (W : Vec Ideal S8960x1536 .fp8e4m3) (S : Vec Ideal S12x70 .f32) (y : S12288x1536.Idx) : EReal :=
  R y + ∑ k : Fin 8960, (X (ix2 (y 0) k)
      * T (ix3 ⟨k.val / 128, by omega⟩ ⟨(y 0).val / 768, by have : (y 0).val < 12288 := (y 0).isLt; omega⟩ ⟨(y 0).val % 768, by omega⟩))
    * wG W S (ix3 ⟨k.val / 2, by omega⟩ ⟨k.val % 2, by omega⟩ (y 1))

abbrev RG : S12288x1536.Idx → EReal :=
  resG (V m c main_v3) (V m c main_v1) (hscM.view.read (Elt Ideal) (V m c main_v2)) (wM.view.read (Elt Ideal) (V m c main_arg2)) (V m c main_v0)

/-- `RG` over the arguments: the layouts that the host gives them before the region. -/
theorem RG_eq : RG m c = resG (shapeCast S12288x1536 (m ((c.tc : Thread nD τ).loc main_arg4)) shapeCasts_S16x768x1536_S12288x1536)
    (shapeCast S12288x8960 (m ((c.tc : Thread nD τ).loc main_arg0)) shapeCasts_S16x768x8960_S12288x8960)
    (transpose S70x16x768 [2, 0, 1] (m ((c.tc : Thread nD τ).loc main_arg1)) transposes_S16x768x70_S70x16x768_2_0_1)
    (m ((c.tc : Thread nD τ).loc main_arg2)) (transpose S12x70 [1, 0] (m ((c.tc : Thread nD τ).loc main_arg3)) transposes_S70x12_S12x70_1_0) := by
  have e0 : V m c main_v0 = transpose S12x70 [1, 0] (m ((c.tc : Thread nD τ).loc main_arg3)) transposes_S70x12_S12x70_1_0 := by entry_read; rfl
  have e1 : V m c main_v1 = shapeCast S12288x8960 (m ((c.tc : Thread nD τ).loc main_arg0)) shapeCasts_S16x768x8960_S12288x8960 := by entry_read; rfl
  have e2 : V m c main_v2 = transpose S70x16x768 [2, 0, 1] (m ((c.tc : Thread nD τ).loc main_arg1)) transposes_S16x768x70_S70x16x768_2_0_1 := by entry_read; rfl
  have e3 : V m c main_v3 = shapeCast S12288x1536 (m ((c.tc : Thread nD τ).loc main_arg4)) shapeCasts_S16x768x1536_S12288x1536 := by entry_read; rfl
  have ew : V m c main_arg2 = m ((c.tc : Thread nD τ).loc main_arg2) := by entry_read; rfl
  unfold RG
  rw [e0, e1, e2, e3, ew]
  rfl

abbrev PhG (t : ℕ) (f8 : Buf (Elt Ideal) (hdM.view.loc (c : Thread nD τ))) : Prop :=
  ∀ u : Fin cfg0.N, u.val + 1 = t → hdM.view.read (Elt Ideal) f8 = hG (iblk m c 1 u) (tileOf c (V m c main_v2) (tn u.val))

abbrev PtG (t : Fin cfg0.N) (X : Vec Ideal S256x1536 .bf16) : Prop :=
  1 ≤ t.val → ∀ (a : Fin 256) (b : Fin 1536), X (ix2 a b) = RG m c (ix2 ⟨256 * min (t.val - 1) 47 + a.val, by omega⟩ b)

theorem tile_value (t : Fin cfg0.N) (h1 : 1 ≤ t.val) (h2 : t.val ≤ 48) (f7 : Buf (Elt Ideal) (w7M.view.loc (c : Thread nD τ)))
    (f8 : Buf (Elt Ideal) (hdM.view.loc (c : Thread nD τ)))
    (h7 : PwG c (wM.view.read (Elt Ideal) (V m c main_arg2)) (V m c main_v0) 35 f7) (h8 : PhG m c t.val f8) (a : Fin 256) (b : Fin 1536) :
    tG (iblk m c 2 t) (hdM.view.read (Elt Ideal) f8) (w7M.view.read (Elt Ideal) f7) (ix2 a b)
      = RG m c (ix2 ⟨256 * min (t.val - 1) 47 + a.val, by omega⟩ b) := by
  have hu : t.val - 1 < cfg0.N := by have := t.isLt; omega
  rw [h8 ⟨t.val - 1, hu⟩ (by show t.val - 1 + 1 = t.val; omega)]
  refine congrArg₂ (fun a b : EReal => a + b) (blk2 m c t a b) (Finset.sum_congr rfl fun k _ => ?_)
  refine congrArg₂ (fun a b : EReal => a * b) (congrArg₂ (fun a b : EReal => a * b) ?_ ?_) (h7 _ ?_)
  · exact blk1 m c ⟨t.val - 1, hu⟩ a k
  · refine (tile_read c _ _ ⟨k.val / 128, by omega⟩ a).trans (congrArg (hscM.view.read (Elt Ideal) (V m c main_v2)) (funext fun i => Fin.ext ?_))
    match i with
    | 0 => rfl
    | 1 => exact (show min (t.val - 1) 47 / 3 = (256 * min (t.val - 1) 47 + a.val) / 768 by omega)
    | 2 => exact (show 256 * (min (t.val - 1) 47 % 3) + a.val = (256 * min (t.val - 1) 47 + a.val) % 768 by omega)
  · exact (show k.val / 2 < 128 * 35 by omega)

theorem hidden_next (t : Fin cfg0.N) (n : Fin 48) (hn : n = tn t.val) {L} (arg2 : Memref sig .tc .vmem S256x8960 .fp8e4m3)
    (X2 : Buf (Elt Ideal) (arg2.view.loc (c : Thread nD τ))) (f8 : Buf (Elt Ideal) (hdM.view.loc (c : Thread nD τ)))
    (e2 : arg2.view.read (Elt Ideal) X2 = iblk m c 1 t)
    (hL : View.PiecesOf (hG (arg2.view.read (Elt Ideal) X2) (covT c (V m c main_v2) n (by decide))) L) (hc : ∀ y, ∃ p ∈ L, y ∈ p.1.set) :
    PhG m c (t.val + 1) (hdM.view.writes (Elt Ideal) f8 L) := by
  intro u hu
  obtain rfl : u = t := Fin.ext (by omega)
  subst hn
  rw [covT_eq, e2] at hL
  exact funext fun y => read_writes_blocks _ _ _ _ hL y (Or.inl (hc y))

def valueSpec : Spec m c where
  Pw := PwG c (wM.view.read (Elt Ideal) (V m c main_arg2)) (V m c main_v0)
  Ph := PhG m c
  Pt := PtG m c
  carried := by
    intro t arg1 harg1 arg2 harg2 arg4 harg4 arg6 harg6 k0_h1 XS e
    have h := carriedG c (V m c main_arg2) (grid0.coords t) arg1 harg1 arg2 harg2 arg4 harg4 arg6 harg6 k0_h1 XS
    rw [e, blk0] at h
    exact h
  h0 := by
    intro t arg1 harg1 arg2 harg2 arg4 harg4 arg6 harg6 k0_h1 h3 XS X2 hP f8 e
    have ht : t.val = 0 := (c1_iff t).1 k0_h1
    have h := hidden_next m c t 0 (by rw [ht]; rfl) arg2 X2 f8 e (run0_pieces (c := c) (X2 := X2) (XV := V m c main_v2) (k0_h1 := k0_h1) (h3 := h3) (hP := hP) ..)
      (fun y => run0_cover (c := c) (X2 := X2) (XV := V m c main_v2) (k0_h1 := k0_h1) (h3 := h3) (hP := hP) (y := y) ..)
    rw [ht] at h
    exact h
  hM := by
    intro t arg1 harg1 arg2 harg2 arg4 harg4 arg6 harg6 h1 h3 h4 s s' X2 X4 f7 f8 e2 e4 h7 h8
    obtain ⟨ht, ht'⟩ := (c3_iff t).1 h3
    refine ⟨fun f6 _ a b => ?_, ?_⟩
    · rw [← tile_value m c t ht ht' f7 f8 h7 h8 a b, ← e4]
      exact congrFun (runM_tile (c := c) (X4 := X4) (f7 := f7) (f8 := f8) (X2 := X2) (XV := V m c main_v2) (h1 := h1) (h3 := h3) (h4 := h4) (f6 := f6) ..) (ix2 a b)
    · exact hidden_next m c t (tn t.val) rfl arg2 X2 f8 e2 (runM_pieces (c := c) (X2 := X2) (XV := V m c main_v2) (h1 := h1) (h3 := h3) (h4 := h4) ..)
        (fun y => runM_cover (c := c) (X2 := X2) (XV := V m c main_v2) (h1 := h1) (h3 := h3) (h4 := h4) (y := y) ..)
  hL := by
    intro t arg1 harg1 arg2 harg2 arg4 harg4 arg6 harg6 h1 h3 h4 s X2 X4 f7 f8 e2 e4 h7 h8 f6 _ a b
    obtain ⟨ht, ht'⟩ := (c3_iff t).1 h3
    rw [← tile_value m c t ht ht' f7 f8 h7 h8 a b, ← e4]
    exact congrFun (runL_tile (c := c) (X4 := X4) (f7 := f7) (f8 := f8) (X2 := X2) (XV := V m c main_v2) (h1 := h1) (h3 := h3) (h4 := h4) (f6 := f6) ..) (ix2 a b)
  p0 := fun t X h h' => absurd h' (by omega)
  pE := fun t X h hX _ a b => by
    refine (hX ⟨48, by decide⟩ rfl (by decide) a b).trans (congrArg (RG m c) (funext fun i => Fin.ext ?_))
    match i with
    | 0 => exact (show 256 * min (48 - 1) 47 + a.val = 256 * min (t.val - 1) 47 + a.val by omega)
    | 1 => rfl

end Blocks

theorem flush3_pos : ∀ t, win0_3.flush t = true → 1 ≤ t.val := by decide +kernel

/-- Every run leaves the result array at `RG`. -/
theorem result_of (m : (ℓ : Loc nD τ sig) → Buf (Elt Ideal) ℓ) (r : PUnit × MemSt nD τ sig (Elt Ideal))
    (h : Pipeline.RDat.FramePost cfg0 (rdat m (valueSpec m)) (V m) r) (c : Dev nD) :
    r.2.mem ((c.tc : Thread nD τ).loc main_v4) = RG m c := by
  obtain ⟨after, hL, hA⟩ := Pipeline.RDat.FramePost.exists_exact h c
  refine (hA 3).trans (((rdat m (valueSpec m) c).withAfter after).arrAt_eq_of_covers 3 (RG m c) (by decide +kernel) fun t hf y => ?_)
  have hX : PtG m c t (after 3 t) := (dat m (valueSpec m) c).toRRel_leaves (fgt := fgt) (Rl := Rl m (valueSpec m) c) (w := 3) rfl (hL 3 t hf)
  have ht := flush3_pos t hf
  have e : (cfg0.win 3).xinj (cfg0.grid.coords t) y = ix2 (⟨(y 0).val, (y 0).isLt⟩ : Fin 256) (⟨(y 1).val, (y 1).isLt⟩ : Fin 1536) :=
    funext fun i => Fin.ext (match i with | 0 => rfl | 1 => rfl)
  refine ((congrArg (after 3 t) e).trans (hX ht _ _)).trans (congrArg (RG m c) (funext fun i => Fin.ext ?_))
  refine .trans ?_ (win0_3.rect_emb_val t y i rfl).symm
  have hi := index3 t
  match i with
  | 0 => exact (show 256 * min (t.val - 1) 47 + (y 0).val = win0_3.index t 0 * 256 + (y 0).val by rw [hi]; show _ = min (t.val - 1) 47 * 256 + _; omega)
  | 1 => exact (show (y 1).val = win0_3.index t 1 * 1536 + (y 1).val by rw [hi]; show _ = 0 * 1536 + _; omega)
end Cert.KernelIdeal.Hand
end
-- ==== Proof.RefValue.lean ====
/- What the reference leaves, in exact arithmetic: the plain down-projection over dequantized codes and weights, plus the residual. -/
module

public import proofs.«01_k».proof.Proof.Gen.ReferenceIdeal.Value
public import Idealize.ShloMosaic.PureOps.Ideal
public import Idealize.ShloMosaic.Lib.Pointwise
public import Idealize.ShloMosaic.Lib.Claim
public import Idealize.ShloMosaic.Lib.ValueLayout
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe

/-- The reference's payload at row `r` and column `n`. -/
theorem pay_apply (v0 : Vec Ideal S12288x8960 .fp8e4m3) (v4 : Vec Ideal S12288x70 .f32) (v10 : Vec Ideal S8960x1536 .fp8e4m3)
    (v13 : Vec Ideal S70x12 .f32) (v21 : Vec Ideal S12288x1536 .bf16) (r : Fin 12288) (n : Fin 1536) :
    k0_pay1 v0 v4 v10 v13 v21 (ix2 r n) = v21 (ix2 r n)
      + ∑ k : Fin 8960, (v0 (ix2 r k) * v4 (ix2 r ⟨k.val / 128, by omega⟩)) * (v10 (ix2 k n) * v13 (ix2 ⟨k.val / 128, by omega⟩ ⟨n.val / 128, by omega⟩)) := by
  unfold k0_pay1
  pointwise

theorem out_eq (x0 : Vec Ideal S12288x8960 .fp8e4m3) (x1 : Vec Ideal S12288x70 .f32) (x2 : Vec Ideal S8960x1536 .fp8e4m3)
    (x3 : Vec Ideal S70x12 .f32) (x4 : Vec Ideal S12288x1536 .bf16) : out0_5 x0 x1 x2 x3 x4 = k0_pay1 x0 x1 x2 x3 x4 := by
  frame_out

theorem index_zero : ∀ t, win0_0.index t = ![0, 0] ∧ win0_1.index t = ![0, 0] ∧ win0_2.index t = ![0, 0] ∧ win0_3.index t = ![0, 0]
    ∧ win0_4.index t = ![0, 0] ∧ win0_5.index t = ![0, 0] := by decide +kernel

section Blocks
variable (m : (ℓ : Loc nD τ sig) → Buf (Elt Ideal) ℓ) (c : Dev nD) (t : Fin cfg0.N)

theorem blk0 : iblk m c 0 t = V m c main_v0 := by funext y; blk_ext [iblk, index_zero t]
theorem blk1 : iblk m c 1 t = V m c main_v1 := by funext y; blk_ext [iblk, index_zero t]
theorem blk2 : iblk m c 2 t = V m c main_arg2 := by funext y; blk_ext [iblk, index_zero t]
theorem blk3 : iblk m c 3 t = V m c main_arg3 := by funext y; blk_ext [iblk, index_zero t]
theorem blk4 : iblk m c 4 t = V m c main_v2 := by funext y; blk_ext [iblk, index_zero t]

/-- The result array after the run. -/
theorem ref_out : (dats m 0 c).arrAt 5 cfg0.N = k0_pay1 (V m c main_v0) (V m c main_v1) (V m c main_arg2) (V m c main_arg3) (V m c main_v2) := by
  refine (dats m 0 c).arrAt_eq_of_covers 5 _ (by decide +kernel) fun t hf y => ?_
  rw [after0_5, out_eq, blk0, blk1, blk2, blk3, blk4]
  refine congrArg (k0_pay1 (V m c main_v0) (V m c main_v1) (V m c main_arg2) (V m c main_arg3) (V m c main_v2)) (funext fun i => Fin.ext ?_)
  refine .trans ?_ (win0_5.rect_emb_val t y i rfl).symm
  have hi := (index_zero t).2.2.2.2.2
  match i with
  | 0 => exact (show (y 0).val = win0_5.index t 0 * 12288 + (y 0).val by rw [hi]; show _ = 0 * 12288 + _; omega)
  | 1 => exact (show (y 1).val = win0_5.index t 1 * 1536 + (y 1).val by rw [hi]; show _ = 0 * 1536 + _; omega)

theorem entry0 : V m c main_v0 = shapeCast S12288x8960 (m ((c.tc : Thread nD τ).loc main_arg0)) shapeCasts_S16x768x8960_S12288x8960 := by entry_read; rfl
theorem entry1 : V m c main_v1 = shapeCast S12288x70 (m ((c.tc : Thread nD τ).loc main_arg1)) shapeCasts_S16x768x70_S12288x70 := by entry_read; rfl
theorem entry2 : V m c main_arg2 = m ((c.tc : Thread nD τ).loc main_arg2) := by entry_read; rfl
theorem entry3 : V m c main_arg3 = m ((c.tc : Thread nD τ).loc main_arg3) := by entry_read; rfl
theorem entry4 : V m c main_v2 = shapeCast S12288x1536 (m ((c.tc : Thread nD τ).loc main_arg4)) shapeCasts_S16x768x1536_S12288x1536 := by entry_read; rfl

end Blocks
end Cert.ReferenceIdeal.Hand
end
-- ==== Proof.Algebraic.lean ====
/- The kernel and the reference leave the same array: both are the residual plus the sum over the hidden width of code times
   scale times weight times scale, read off the same arguments through different host layouts. -/
module

public import proofs.«01_k».proof.Proof.Values
public import proofs.«01_k».proof.Proof.RefValue
public import proofs.«01_k».proof.Defs

@[expose] public section

set_option maxRecDepth 16384

noncomputable section

namespace Cert.Proof

open Idealize.ShloMosaic Idealize.ShloMosaic.TcCoe
open Cert.KernelIdeal.Hand (resG wG RG)

/-- Over any arguments: the codes `a0` and their scales `a1`, the weights `a2` and their scales `a3`, the residual `a4`. -/
theorem same_value (a0 : Vec Ideal KernelIdeal.S16x768x8960 .fp8e4m3) (a1 : Vec Ideal KernelIdeal.S16x768x70 .f32) (a2 : Vec Ideal KernelIdeal.S8960x1536 .fp8e4m3)
    (a3 : Vec Ideal KernelIdeal.S70x12 .f32) (a4 : Vec Ideal KernelIdeal.S16x768x1536 .bf16) (h0 h4 h1 h1' h3) :
    resG (shapeCast KernelIdeal.S12288x1536 a4 h4) (shapeCast KernelIdeal.S12288x8960 a0 h0) (transpose KernelIdeal.S70x16x768 [2, 0, 1] a1 h1) a2
        (transpose KernelIdeal.S12x70 [1, 0] a3 h3)
      = ReferenceIdeal.Gen.k0_pay1 (shapeCast KernelIdeal.S12288x8960 a0 h0) (shapeCast ReferenceIdeal.S12288x70 a1 h1') a2 a3 (shapeCast KernelIdeal.S12288x1536 a4 h4) := by
  funext y
  obtain ⟨r, n, rfl⟩ : ∃ (r : Fin 12288) (n : Fin 1536), y = ix2 r n := ⟨y 0, y 1, funext fun i => match i with | 0 => rfl | 1 => rfl⟩
  rw [ReferenceIdeal.Hand.pay_apply]
  refine congrArg₂ (fun a b : EReal => a + b) rfl (Finset.sum_congr rfl fun k _ => ?_)
  refine congrArg₂ (fun a b : EReal => a * b) (congrArg₂ (fun a b : EReal => a * b) rfl ?_) (congrArg₂ (fun a b : EReal => a * b) (congrArg a2 (funext fun i => Fin.ext ?_)) ?_)
  · show transpose KernelIdeal.S70x16x768 [2, 0, 1] a1 h1 (ix3 ⟨k.val / 128, _⟩ ⟨r.val / 768, _⟩ ⟨r.val % 768, _⟩) = shapeCast ReferenceIdeal.S12288x70 a1 h1' (ix2 r ⟨k.val / 128, _⟩)
    pointwise
  · match i with
    | 0 => exact (show 2 * (k.val / 2) + k.val % 2 = k.val by omega)
    | 1 => rfl
  · show transpose KernelIdeal.S12x70 [1, 0] a3 h3 (ix2 ⟨n.val / 128, _⟩ ⟨(2 * (k.val / 2) + k.val % 2) / 128, _⟩) = _
    pointwise
    exact congrArg a3 (funext fun i => Fin.ext (match i with | 0 => (show (2 * (k.val / 2) + k.val % 2) / 128 = k.val / 128 by omega) | 1 => rfl))

theorem same_array (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    (ReferenceIdeal.Gen.dats m' 0 c).arrAt 5 ReferenceIdeal.cfg0.N = RG m c := by
  rw [ReferenceIdeal.Hand.ref_out, ReferenceIdeal.Hand.entry0, ReferenceIdeal.Hand.entry1, ReferenceIdeal.Hand.entry2, ReferenceIdeal.Hand.entry3,
    ReferenceIdeal.Hand.entry4, KernelIdeal.Hand.RG_eq, h0, h1, h2, h3, h4]
  exact (same_value _ _ _ _ _ _ _ _ _ _).symm

theorem algebraic : algebraic_KernelIdeal_ReferenceIdeal (hKernelIdeal := KernelIdeal.Gen.facts) (hReferenceIdeal := ReferenceIdeal.Gen.facts) := by
  intro m g m' g' _ hm
  refine ⟨fun c => RG m c, ?_, ?_⟩
  · refine (θ_run _ _ _).mono (fun r h c => ?_) (KernelIdeal.Hand.run_main m g (KernelIdeal.Hand.valueSpec m))
    exact ⟨KernelIdeal.Hand.result_of m r h.1 c, KernelIdeal.Hand.args_of m (KernelIdeal.Hand.valueSpec m) r h.1 c⟩
  · refine (θ_run _ _ _).mono (fun r h c => ?_) (ReferenceIdeal.Value.run_blocks m' g')
    obtain ⟨h0, h1, h2, h3, h4, _⟩ := hm c
    exact ⟨(h c).1.trans (same_array m m' c h0 h1 h2 h3 h4), (h c).2⟩

end Cert.Proof
end
-- ==== Proof.lean ====
module

public import proofs.«01_k».proof.Defs
public import proofs.«01_k».proof.Proof.BitsFrame
public import proofs.«01_k».proof.Proof.Frame
public import proofs.«01_k».proof.Proof.Preserves
public import proofs.«01_k».proof.Proof.Algebraic
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, preserves, algebraic⟩

end Cert.Proof

end
